-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "qscale" .f32 0x3E16C740#32 (((3424635 / 33554432) * (Real.log 2)⁻¹ : ℝ) : EReal)
  ∧ IdealRules.named_const.Statement Cert.KernelIdeal.κ "neg" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x16x96 : Shape := ⟨3, ![16384, 16, 96]⟩
abbrev S16384x16x64 : Shape := ⟨3, ![16384, 16, 64]⟩
abbrev S16384x1024 : Shape := ⟨2, ![16384, 1024]⟩
abbrev S_ : Shape := ⟨0, ![]⟩

class Facts : Prop where
  bcast_S_S16384x16x96 : S_.BroadcastsInDim S16384x16x96 (![] : Fin 0 → Fin S16384x16x96.rank)
  bcast_S_S16384x16x64 : S_.BroadcastsInDim S16384x16x64 (![] : Fin 0 → Fin S16384x16x64.rank)
  bcast_S_S16384x1024 : S_.BroadcastsInDim S16384x1024 (![] : Fin 0 → Fin S16384x1024.rank)

variable [Facts]

def fn {F : FTy → Type} [FloatOps F] (main_arg0 : FVec F S16384x16x96 .f32) (main_arg1 : FVec F S16384x16x96 .f32) (main_arg2 : FVec F S16384x16x64 .f32) (main_arg3 : FVec F S16384x1024 .f32) : IVec S16384x16x96 1 × IVec S16384x16x96 1 × IVec S16384x16x64 1 × IVec S16384x1024 1 :=
  let main_v0 : FVec F S16384x16x96 .f32 := Host.absf main_arg0
  let main_cst : FVec F S_ .f32 := constant S_ .f32 0x7F800000#32
  let main_v1 : FVec F S16384x16x96 .f32 := broadcastInDim S16384x16x96 ![] bcast_S_S16384x16x96 main_cst
  let main_v2 : IVec S16384x16x96 1 := cmpf .olt main_v0 main_v1
  let main_v3 : FVec F S16384x16x96 .f32 := Host.absf main_arg1
  let main_cst_0 : FVec F S_ .f32 := constant S_ .f32 0x7F800000#32
  let main_v4 : FVec F S16384x16x96 .f32 := broadcastInDim S16384x16x96 ![] bcast_S_S16384x16x96 main_cst_0
  let main_v5 : IVec S16384x16x96 1 := cmpf .olt main_v3 main_v4
  let main_v6 : FVec F S16384x16x64 .f32 := Host.absf main_arg2
  let main_cst_1 : FVec F S_ .f32 := constant S_ .f32 0x7F800000#32
  let main_v7 : FVec F S16384x16x64 .f32 := broadcastInDim S16384x16x64 ![] bcast_S_S16384x16x64 main_cst_1
  let main_v8 : IVec S16384x16x64 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Kernel.lean ====
abbrev S16384x16x96 : Shape := ⟨3, ![16384, 16, 96]⟩
abbrev S16384x16x64 : Shape := ⟨3, ![16384, 16, 64]⟩
abbrev S16384x1024 : Shape := ⟨2, ![16384, 1024]⟩
abbrev S16x16384x96 : Shape := ⟨3, ![16, 16384, 96]⟩
abbrev S16x16384x64 : Shape := ⟨3, ![16, 16384, 64]⟩
abbrev S_ : Shape := ⟨0, ![]⟩
abbrev S16x16384x128 : Shape := ⟨3, ![16, 16384, 128]⟩
abbrev S16x16384x1 : Shape := ⟨3, ![16, 16384, 1]⟩
abbrev S16x16384x63 : Shape := ⟨3, ![16, 16384, 63]⟩
abbrev S16x16384x16384 : Shape := ⟨3, ![16, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16x16384 : Shape := ⟨2, ![16, 16384]⟩
abbrev S16x32x1x512 : Shape := ⟨4, ![16, 32, 1, 512]⟩
abbrev S2x16384x128 : Shape := ⟨3, ![2, 16384, 128]⟩
abbrev S2x512x128 : Shape := ⟨3, ![2, 512, 128]⟩
abbrev S16384x128 : Shape := ⟨2, ![16384, 128]⟩
abbrev S2x32x1x512 : Shape := ⟨4, ![2, 32, 1, 512]⟩
abbrev S2x512x64 : Shape := ⟨3, ![2, 512, 64]⟩
abbrev S1x512x128 : Shape := ⟨3, ![1, 512, 128]⟩
abbrev S512x128 : Shape := ⟨2, ![512, 128]⟩
abbrev S512x64 : Shape := ⟨2, ![512, 64]⟩
abbrev S512x512 : Shape := ⟨2, ![512, 512]⟩
abbrev S1x1x1x512 : Shape := ⟨4, ![1, 1, 1, 512]⟩
abbrev S1x512 : Shape := ⟨2, ![1, 512]⟩
abbrev S1x512x64 : Shape := ⟨3, ![1, 512, 64]⟩

abbrev nBuf : Space → Nat
  | .hbm => 63
  | .vmem => 15
  | .smem => 0
  | _ => 0

abbrev bufTy : (tb : Table) → Fin (tcTables nBuf tb) → BufTy
  | .hbm, ⟨0, _⟩ => ⟨S16384x16x96, .f32⟩
  | .hbm, ⟨1, _⟩ => ⟨S16384x16x96, .f32⟩
  | .hbm, ⟨2, _⟩ => ⟨S16384x16x64, .f32⟩
  | .hbm, ⟨3, _⟩ => ⟨S16384x1024, .f32⟩
  | .hbm, ⟨4, _⟩ => ⟨S16x16384x96, .f32⟩
  | .hbm, ⟨5, _⟩ => ⟨S16x16384x96, .f32⟩
  | .hbm, ⟨6, _⟩ => ⟨S16x16384x64, .f32⟩
  | .hbm, ⟨7, _⟩ => ⟨S_, .i32⟩
  | .hbm, ⟨8, _⟩ => ⟨S_, .f32⟩
  | .hbm, ⟨9, _⟩ => ⟨S16x16384x128, .f32⟩
  | .hbm, ⟨10, _⟩ => ⟨S_, .i32⟩
  | .hbm, ⟨11, _⟩ => ⟨S_, .f32⟩
  | .hbm, ⟨12, _⟩ => ⟨S16x16384x128, .f32⟩
  | .hbm, ⟨13, _⟩ => ⟨S16x16384x128, .bf16⟩
  | .hbm, ⟨14, _⟩ => ⟨S_, .f32⟩
  | .hbm, ⟨15, _⟩ => ⟨S16x16384x1, .f32⟩
  | .hbm, ⟨16, _⟩ => ⟨S_, .f32⟩
  | .hbm, ⟨17, _⟩ => ⟨S16x16384x63, .f32⟩
  | .hbm, ⟨18, _⟩ => ⟨S16x16384x64, .f32⟩
  | .hbm, ⟨19, _⟩ => ⟨S16x16384x128, .f32⟩
  | .hbm, ⟨20, _⟩ => ⟨S16x16384x128, .bf16⟩
  | .hbm, ⟨21, _⟩ => ⟨S16x16384x16384, .f32⟩
  | .hbm, ⟨22, _⟩ => ⟨S_, .f32⟩
  | .hbm, ⟨23, _⟩ => ⟨S16x16384x16384, .f32⟩
  | .hbm, ⟨24, _⟩ => ⟨S16x16384x16384, .f32⟩
  | .hbm, ⟨25, _⟩ => ⟨S16384, .i32⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S1x16384x16384, .i1⟩
  | .hbm, ⟨32, _⟩ => ⟨S_, .f32⟩
  | .hbm, ⟨33, _⟩ => ⟨S_, .f32⟩
  | .hbm, ⟨34, _⟩ => ⟨S16x16384x16384, .i1⟩
  | .hbm, ⟨35, _⟩ => ⟨S16x16384x16384, .f32⟩
  | .hbm, ⟨36, _⟩ => ⟨S16x16384x16384, .f32⟩
  | .hbm, ⟨37, _⟩ => ⟨S_, .f32⟩
  | .hbm, ⟨38, _⟩ => ⟨S16x16384, .f32⟩
  | .hbm, ⟨39, _⟩ => ⟨S16x16384x1, .f32⟩
  | .hbm, ⟨40, _⟩ => ⟨S16x16384x16384, .f32⟩
  | .hbm, ⟨41, _⟩ => ⟨S16x16384x16384, .f32⟩
  | .hbm, ⟨42, _⟩ => ⟨S16x16384x16384, .f32⟩
  | .hbm, ⟨43, _⟩ => ⟨S_, .f32⟩
  | .hbm, ⟨44, _⟩ => ⟨S16x16384, .f32⟩
  | .hbm, ⟨45, _⟩ => ⟨S16x16384x1, .f32⟩
  | .hbm, ⟨46, _⟩ => ⟨S16x16384x1, .f32⟩
  | .hbm, ⟨47, _⟩ => ⟨S16x16384x1, .f32⟩
  | .hbm, ⟨48, _⟩ => ⟨S16x16384x16384, .f32⟩
  | .hbm, ⟨49, _⟩ => ⟨S16x16384x16384, .f32⟩
  | .hbm, ⟨50, _⟩ => ⟨S16x16384x64, .f32⟩
  | .hbm, ⟨51, _⟩ => ⟨S16384x16x64, .f32⟩
  | .hbm, ⟨52, _⟩ => ⟨S16x16384x64, .f32⟩
  | .hbm, ⟨53, _⟩ => ⟨S16x16384x64, .f32⟩
  | .hbm, ⟨54, _⟩ => ⟨S_, .f32⟩
  | .hbm, ⟨55, _⟩ => ⟨S16x16384, .f32⟩
  | .hbm, ⟨56, _⟩ => ⟨S16x16384x1, .f32⟩
  | .hbm, ⟨57, _⟩ => ⟨S16384x1024, .bf16⟩
  | .hbm, ⟨58, _⟩ => ⟨S16x32x1x512, .f32⟩
  | .hbm, ⟨59, _⟩ => ⟨S16x32x1x512, .f32⟩
  | .hbm, ⟨60, _⟩ => ⟨S16x16384x128, .f32⟩
  | .hbm, ⟨61, _⟩ => ⟨S16x16384x128, .f32⟩
  | .hbm, ⟨62, _⟩ => ⟨S16x16384x64, .f32⟩
  | .local _ .vmem, ⟨0, _⟩ => ⟨S2x16384x128, .f32⟩
  | .local _ .vmem, ⟨1, _⟩ => ⟨S2x512x128, .bf16⟩
  | .local _ .vmem, ⟨2, _⟩ => ⟨S2x512x128, .bf16⟩
  | .local _ .vmem, ⟨3, _⟩ => ⟨S2x512x128, .bf16⟩
  | .local _ .vmem, ⟨4, _⟩ => ⟨S2x512x128, .bf16⟩
  | .local _ .vmem, ⟨5, _⟩ => ⟨S16384x128, .bf16⟩
  | .local _ .vmem, ⟨6, _⟩ => ⟨S2x32x1x512, .f32⟩
  | .local _ .vmem, ⟨7, _⟩ => ⟨S2x32x1x512, .f32⟩
  | .local _ .vmem, ⟨8, _⟩ => ⟨S2x512x128, .f32⟩
  | .local _ .vmem, ⟨9, _⟩ => ⟨S2x512x128, .f32⟩
  | .local _ .vmem, ⟨10, _⟩ => ⟨S2x512x64, .f32⟩
  | .local _ .vmem, ⟨11, _⟩ => ⟨S2x512x64, .f32⟩
  | .local _ .vmem, ⟨12, _⟩ => ⟨S2x16384x128, .f32⟩
  | .local _ .vmem, ⟨13, _⟩ => ⟨S2x512x128, .f32⟩
  | .local _ .vmem, ⟨14, _⟩ => ⟨S2x512x64, .f32⟩
  | _, _ => ⟨S16384x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 3 → Nat :=
  let c0_7 : Index := 0#32
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_8 : Index := 0#32
  ![0, v13.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v19 : Index := Scalar.indexCast v12
  let c0_10 : Index := 0#32
  ![v19.toNat, 0]
def k0_off3 (i : grid0.Coords) : Fin 4 → Nat :=
  let c0_17 : Index := 0#32
  let arg1 : BitVec 32 := BitVec.ofNat 32 (i 1).val
  let v32 : Index := Scalar.indexCast arg1
  let c0_18 : Index := 0#32
  let c0_19 : Index := 0#32
  ![0, v32.toNat, 0, 0]
def k0_off4 (i : grid0.Coords) : Fin 3 → Nat :=
  let c1 : Index := 1#32
  let arg1 : BitVec 32 := BitVec.ofNat 32 (i 1).val
  let c512_i32 : BitVec 32 := 512#32
  let v11 : BitVec 32 := Scalar.muli arg1 c512_i32
  let v12 : BitVec 32 := v11
  let v76 : Index := Scalar.indexCast v12
  let c0_50 : Index := 0#32
  ![1, v76.toNat, 0]
def k0_off5 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v82 : Index := Scalar.indexCast v12
  let c64 : Index := 64#32
  ![v82.toNat, 64]
def k0_off6 (i : grid0.Coords) : Fin 4 → Nat :=
  let c1_58 : Index := 1#32
  let arg1 : BitVec 32 := BitVec.ofNat 32 (i 1).val
  let v95 : Index := Scalar.indexCast arg1
  let c0_59 : Index := 0#32
  let c0_60 : Index := 0#32
  ![1, v95.toNat, 0, 0]
@[reducible] def k0_t1_loop (i : grid0.Coords) : Scf.Loop 32 :=
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_93 : BitVec 32 := 1#32
  ⟨v139, v144, c1_i32_93⟩
def k0_mult2 (i : grid0.Coords) (k0_t1 : Fin (k0_t1_loop i).trips) : BitVec 32 :=
  let arg1 : BitVec 32 := BitVec.ofNat 32 (i 1).val
  let c1_i32 : BitVec 32 := 1#32
  let v139 : BitVec 32 := Scalar.addi arg1 c1_i32
  let c1_i32_93 : BitVec 32 := 1#32
  let arg15 : BitVec 32 := Scf.iv v139 c1_i32_93 k0_t1
  let c512_i32_109 : BitVec 32 := 512#32
  let v154 : BitVec 32 := Scalar.muli arg15 c512_i32_109
  v154
def k0_off7 (i : grid0.Coords) (k0_t1 : Fin (k0_t1_loop i).trips) : Fin 3 → Nat :=
  let c0_110 : Index := 0#32
  let arg1 : BitVec 32 := BitVec.ofNat 32 (i 1).val
  let c1_i32 : BitVec 32 := 1#32
  let v139 : BitVec 32 := Scalar.addi arg1 c1_i32
  let c1_i32_93 : BitVec 32 := 1#32
  let arg15 : BitVec 32 := Scf.iv v139 c1_i32_93 k0_t1
  let c512_i32_109 : BitVec 32 := 512#32
  let v154 : BitVec 32 := Scalar.muli arg15 c512_i32_109
  let v155 : BitVec 32 := v154
  let v156 : Index := Scalar.indexCast v155
  let c0_111 : Index := 0#32
  ![0, v156.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v139 : BitVec 32 := Scalar.addi arg1 c1_i32
  let c1_i32_93 : BitVec 32 := 1#32
  let arg15 : BitVec 32 := Scf.iv v139 c1_i32_93 k0_t1
  let c512_i32_109 : BitVec 32 := 512#32
  let v154 : BitVec 32 := Scalar.muli arg15 c512_i32_109
  let v155 : BitVec 32 := v154
  let v162 : Index := Scalar.indexCast v155
  let c0_113 : Index := 0#32
  ![v162.toNat, 0]
def k0_off9 (i : grid0.Coords) (k0_t1 : Fin (k0_t1_loop i).trips) : Fin 4 → Nat :=
  let c0_118 : Index := 0#32
  let arg1 : BitVec 32 := BitVec.ofNat 32 (i 1).val
  let c1_i32 : BitVec 32 := 1#32
  let v139 : BitVec 32 := Scalar.addi arg1 c1_i32
  let c1_i32_93 : BitVec 32 := 1#32
  let arg15 : BitVec 32 := Scf.iv v139 c1_i32_93 k0_t1
  let v168 : Index := Scalar.indexCast arg15
  let c0_119 : Index := 0#32
  let c0_120 : Index := 0#32
  ![0, v168.toNat, 0, 0]
def k0_off10 (i : grid0.Coords) (k0_t1 : Fin (k0_t1_loop i).trips) : Fin 3 → Nat :=
  let c1_151 : Index := 1#32
  let arg1 : BitVec 32 := BitVec.ofNat 32 (i 1).val
  let c1_i32 : BitVec 32 := 1#32
  let v139 : BitVec 32 := Scalar.addi arg1 c1_i32
  let c1_i32_93 : BitVec 32 := 1#32
  let arg15 : BitVec 32 := Scf.iv v139 c1_i32_93 k0_t1
  let c512_i32_109 : BitVec 32 := 512#32
  let v154 : BitVec 32 := Scalar.muli arg15 c512_i32_109
  let v155 : BitVec 32 := v154
  let v212 : Index := Scalar.indexCast v155
  let c0_152 : Index := 0#32
  ![1, v212.toNat, 0]
def k0_off11 (i : grid0.Coords) (k0_t1 : Fin (k0_t1_loop i).trips) : Fin 2 → Nat :=
  let arg1 : BitVec 32 := BitVec.ofNat 32 (i 1).val
  let c1_i32 : BitVec 32 := 1#32
  let v139 : BitVec 32 := Scalar.addi arg1 c1_i32
  let c1_i32_93 : BitVec 32 := 1#32
  let arg15 : BitVec 32 := Scf.iv v139 c1_i32_93 k0_t1
  let c512_i32_109 : BitVec 32 := 512#32
  let v154 : BitVec 32 := Scalar.muli arg15 c512_i32_109
  let v155 : BitVec 32 := v154
  let v218 : Index := Scalar.indexCast v155
  let c64_154 : Index := 64#32
  ![v218.toNat, 64]
def k0_off12 (i : grid0.Coords) (k0_t1 : Fin (k0_t1_loop i).trips) : Fin 4 → Nat :=
  let c1_159 : Index := 1#32
  let arg1 : BitVec 32 := BitVec.ofNat 32 (i 1).val
  let c1_i32 : BitVec 32 := 1#32
  let v139 : BitVec 32 := Scalar.addi arg1 c1_i32
  let c1_i32_93 : BitVec 32 := 1#32
  let arg15 : BitVec 32 := Scf.iv v139 c1_i32_93 k0_t1
  let v224 : Index := Scalar.indexCast arg15
  let c0_160 : Index := 0#32
  let c0_161 : Index := 0#32
  ![1, v224.toNat, 0, 0]
@[reducible] def k0_t2_loop (i : grid0.Coords) : Scf.Loop 32 :=
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let v141 : BitVec 32 := Scalar.addi v139 v140
  let c1_i32_94 : BitVec 32 := 1#32
  ⟨v144, v141, c1_i32_94⟩
def k0_mult3 (i : grid0.Coords) (k0_t2 : Fin (k0_t2_loop i).trips) : BitVec 32 :=
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_94 : BitVec 32 := 1#32
  let arg15 : BitVec 32 := Scf.iv v144 c1_i32_94 k0_t2
  let c512_i32_109 : BitVec 32 := 512#32
  let v154 : BitVec 32 := Scalar.muli arg15 c512_i32_109
  v154
def k0_off13 (i : grid0.Coords) (k0_t2 : Fin (k0_t2_loop i).trips) : Fin 3 → Nat :=
  let c0_110 : Index := 0#32
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_94 : BitVec 32 := 1#32
  let arg15 : BitVec 32 := Scf.iv v144 c1_i32_94 k0_t2
  let c512_i32_109 : BitVec 32 := 512#32
  let v154 : BitVec 32 := Scalar.muli arg15 c512_i32_109
  let v155 : BitVec 32 := v154
  let v156 : Index := Scalar.indexCast v155
  let c0_111 : Index := 0#32
  ![0, v156.toNat, 0]
def k0_off14 (i : grid0.Coords) (k0_t2 : Fin (k0_t2_loop i).trips) : Fin 2 → Nat :=
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_94 : BitVec 32 := 1#32
  let arg15 : BitVec 32 := Scf.iv v144 c1_i32_94 k0_t2
  let c512_i32_109 : BitVec 32 := 512#32
  let v154 : BitVec 32 := Scalar.muli arg15 c512_i32_109
  let v155 : BitVec 32 := v154
  let v162 : Index := Scalar.indexCast v155
  let c0_113 : Index := 0#32
  ![v162.toNat, 0]
def k0_off15 (i : grid0.Coords) (k0_t2 : Fin (k0_t2_loop i).trips) : Fin 4 → Nat :=
  let c0_118 : Index := 0#32
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_94 : BitVec 32 := 1#32
  let arg15 : BitVec 32 := Scf.iv v144 c1_i32_94 k0_t2
  let v168 : Index := Scalar.indexCast arg15
  let c0_119 : Index := 0#32
  let c0_120 : Index := 0#32
  ![0, v168.toNat, 0, 0]
def k0_off16 (i : grid0.Coords) (k0_t2 : Fin (k0_t2_loop i).trips) : Fin 3 → Nat :=
  let c1_151 : Index := 1#32
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_94 : BitVec 32 := 1#32
  let arg15 : BitVec 32 := Scf.iv v144 c1_i32_94 k0_t2
  let c512_i32_109 : BitVec 32 := 512#32
  let v154 : BitVec 32 := Scalar.muli arg15 c512_i32_109
  let v155 : BitVec 32 := v154
  let v212 : Index := Scalar.indexCast v155
  let c0_152 : Index := 0#32
  ![1, v212.toNat, 0]
def k0_off17 (i : grid0.Coords) (k0_t2 : Fin (k0_t2_loop i).trips) : Fin 2 → Nat :=
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_94 : BitVec 32 := 1#32
  let arg15 : BitVec 32 := Scf.iv v144 c1_i32_94 k0_t2
  let c512_i32_109 : BitVec 32 := 512#32
  let v154 : BitVec 32 := Scalar.muli arg15 c512_i32_109
  let v155 : BitVec 32 := v154
  let v218 : Index := Scalar.indexCast v155
  let c64_154 : Index := 64#32
  ![v218.toNat, 64]
def k0_off18 (i : grid0.Coords) (k0_t2 : Fin (k0_t2_loop i).trips) : Fin 4 → Nat :=
  let c1_159 : Index := 1#32
  let arg1 : BitVec 32 := BitVec.ofNat 32 (i 1).val
  let c1_i32 : BitVec 32 := 1#32
  let v139 : BitVec 32 := Scalar.addi arg1 c1_i32
  let c32_i32 : BitVec 32 := 32#32
  let v140 : BitVec 32 := Scalar.subi c32_i32 v139
  let c1_i32_92 : BitVec 32 := 1#32
  let v142 : BitVec 32 := Scalar.divsi v140 c1_i32_92
  let v143 : BitVec 32 := Scalar.muli v142 c1_i32_92
  let v144 : BitVec 32 := Scalar.addi v139 v143
  let c1_i32_94 : BitVec 32 := 1#32
  let arg15 : BitVec 32 := Scf.iv v144 c1_i32_94 k0_t2
  let v224 : Index := Scalar.indexCast arg15
  let c0_160 : Index := 0#32
  let c0_161 : Index := 0#32
  ![1, v224.toNat, 0, 0]
def k0_cond2 (i : grid0.Coords) : BitVec 1 :=
  let arg1 : BitVec 32 := BitVec.ofNat 32 (i 1).val
  let c31_i32 : BitVec 32 := 31#32
  let v151 : BitVec 1 := Scalar.cmpi .eq arg1 c31_i32
  let v152 : BitVec 32 := Scalar.extui v151
  let c0_i32_108 : BitVec 32 := 0#32
  let v153 : BitVec 1 := Scalar.cmpi .ne v152 c0_i32_108
  v153

def k0_off19 (i : grid0.Coords) : Fin 3 → Nat :=
  let arg0 : BitVec 32 := BitVec.ofNat 32 (i 0).val
  let c2_i32 : BitVec 32 := 2#32
  let v160 : BitVec 32 := Scalar.muli arg0 c2_i32
  let c0_i32_116 : BitVec 32 := 0#32
  let c0_i32_117 : BitVec 32 := 0#32
  ![v160.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2x32x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2x32x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg" => some ⊥
  | "qscale" => some (((3424635 / 33554432) * (Real.log 2)⁻¹ : ℝ) : EReal)
  | _ => none
-- ==== ReferenceIdeal.lean ====
abbrev S16384x16x96 : Shape := ⟨3, ![16384, 16, 96]⟩
abbrev S16384x16x64 : Shape := ⟨3, ![16384, 16, 64]⟩
abbrev S16384x1024 : Shape := ⟨2, ![16384, 1024]⟩
abbrev S16384 : Shape := ⟨1, ![16384]⟩
abbrev S16x16384x16384 : Shape := ⟨3, ![16, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16x16384 : Shape := ⟨2, ![16, 16384]⟩
abbrev S16x16384x1 : Shape := ⟨3, ![16, 16384, 1]⟩
abbrev S16x64x16384 : Shape := ⟨3, ![16, 64, 16384]⟩
abbrev S16x16384x96 : Shape := ⟨3, ![16, 16384, 96]⟩
abbrev S16x16384x128 : Shape := ⟨3, ![16, 16384, 128]⟩
abbrev S16x16384x64 : Shape := ⟨3, ![16, 16384, 64]⟩

abbrev nBuf : Space → Nat
  | .hbm => 102
  | .vmem => 0
  | .smem => 0
  | _ => 0

abbrev bufTy : (tb : Table) → Fin (tcTables nBuf tb) → BufTy
  | .hbm, ⟨0, _⟩ => ⟨S16384x16x96, .f32⟩
  | .hbm, ⟨1, _⟩ => ⟨S16384x16x96, .f32⟩
  | .hbm, ⟨2, _⟩ => ⟨S16384x16x64, .f32⟩
  | .hbm, ⟨3, _⟩ => ⟨S16384x1024, .f32⟩
  | .hbm, ⟨4, _⟩ => ⟨S16384, .i32⟩
  | .hbm, ⟨5, _⟩ => ⟨S16x16384x16384, .f32⟩
  | .hbm, ⟨6, _⟩ => ⟨S_, .f32⟩
  | .hbm, ⟨7, _⟩ => ⟨S16x16384x16384, .f32⟩
  | .hbm, ⟨8, _⟩ => ⟨S16x16384x16384, .f32⟩
  | .hbm, ⟨9, _⟩ => ⟨S16384, .i32⟩
  | .hbm, ⟨10, _⟩ => ⟨S1x16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S1x16384x16384, .i1⟩
  | .hbm, ⟨16, _⟩ => ⟨S_, .f32⟩
  | .hbm, ⟨17, _⟩ => ⟨S_, .f32⟩
  | .hbm, ⟨18, _⟩ => ⟨S16x16384x16384, .i1⟩
  | .hbm, ⟨19, _⟩ => ⟨S16x16384x16384, .f32⟩
  | .hbm, ⟨20, _⟩ => ⟨S16x16384x16384, .f32⟩
  | .hbm, ⟨21, _⟩ => ⟨S_, .f32⟩
  | .hbm, ⟨22, _⟩ => ⟨S16x16384x16384, .f32⟩
  | .hbm, ⟨23, _⟩ => ⟨S_, .f32⟩
  | .hbm, ⟨24, _⟩ => ⟨S16x16384, .f32⟩
  | .hbm, ⟨25, _⟩ => ⟨S16x16384x1, .f32⟩
  | .hbm, ⟨26, _⟩ => ⟨S16x16384x16384, .f32⟩
  | .hbm, ⟨27, _⟩ => ⟨S16x16384x16384, .i1⟩
  | .hbm, ⟨28, _⟩ => ⟨S16x16384x16384, .f32⟩
  | .hbm, ⟨29, _⟩ => ⟨S_, .f32⟩
  | .hbm, ⟨30, _⟩ => ⟨S16x16384, .f32⟩
  | .hbm, ⟨31, _⟩ => ⟨S_, .f32⟩
  | .hbm, ⟨32, _⟩ => ⟨S16x16384, .f32⟩
  | .hbm, ⟨33, _⟩ => ⟨S16x16384, .f32⟩
  | .hbm, ⟨34, _⟩ => ⟨S_, .f32⟩
  | .hbm, ⟨35, _⟩ => ⟨S16x16384, .f32⟩
  | .hbm, ⟨36, _⟩ => ⟨S16x16384, .i1⟩
  | .hbm, ⟨37, _⟩ => ⟨S_, .f32⟩
  | .hbm, ⟨38, _⟩ => ⟨S16x16384, .f32⟩
  | .hbm, ⟨39, _⟩ => ⟨S16x16384, .i1⟩
  | .hbm, ⟨40, _⟩ => ⟨S_, .f32⟩
  | .hbm, ⟨41, _⟩ => ⟨S16x16384, .f32⟩
  | .hbm, ⟨42, _⟩ => ⟨S_, .f32⟩
  | .hbm, ⟨43, _⟩ => ⟨S16x16384, .f32⟩
  | .hbm, ⟨44, _⟩ => ⟨S_, .f32⟩
  | .hbm, ⟨45, _⟩ => ⟨S16x16384, .f32⟩
  | .hbm, ⟨46, _⟩ => ⟨S16x16384, .f32⟩
  | .hbm, ⟨47, _⟩ => ⟨S16x16384, .f32⟩
  | .hbm, ⟨48, _⟩ => ⟨S16x16384x1, .f32⟩
  | .hbm, ⟨49, _⟩ => ⟨S16x16384x16384, .f32⟩
  | .hbm, ⟨50, _⟩ => ⟨S16x16384x16384, .f32⟩
  | .hbm, ⟨51, _⟩ => ⟨S16x16384x16384, .f32⟩
  | .hbm, ⟨52, _⟩ => ⟨S_, .f32⟩
  | .hbm, ⟨53, _⟩ => ⟨S16x16384, .f32⟩
  | .hbm, ⟨54, _⟩ => ⟨S16x16384x1, .f32⟩
  | .hbm, ⟨55, _⟩ => ⟨S16x16384x16384, .f32⟩
  | .hbm, ⟨56, _⟩ => ⟨S16x16384x16384, .f32⟩
  | .hbm, ⟨57, _⟩ => ⟨S16x16384x1, .f32⟩
  | .hbm, ⟨58, _⟩ => ⟨S_, .f32⟩
  | .hbm, ⟨59, _⟩ => ⟨S16x16384x1, .f32⟩
  | .hbm, ⟨60, _⟩ => ⟨S16x16384x1, .f32⟩
  | .hbm, ⟨61, _⟩ => ⟨S16x64x16384, .f32⟩
  | .hbm, ⟨62, _⟩ => ⟨S16384x16x64, .f32⟩
  | .hbm, ⟨63, _⟩ => ⟨S16384x1024, .f32⟩
  | .hbm, ⟨64, _⟩ => ⟨S16384x16x64, .f32⟩
  | .hbm, ⟨65, _⟩ => ⟨S16x64x16384, .f32⟩
  | .hbm, ⟨66, _⟩ => ⟨S16x16384x16384, .f32⟩
  | .hbm, ⟨67, _⟩ => ⟨S16x64x16384, .f32⟩
  | .hbm, ⟨68, _⟩ => ⟨S16384x16x64, .f32⟩
  | .hbm, ⟨69, _⟩ => ⟨S16x16384x16384, .f32⟩
  | .hbm, ⟨70, _⟩ => ⟨S16x16384x16384, .f32⟩
  | .hbm, ⟨71, _⟩ => ⟨S16x16384x16384, .f32⟩
  | .hbm, ⟨72, _⟩ => ⟨S_, .f32⟩
  | .hbm, ⟨73, _⟩ => ⟨S16x16384, .f32⟩
  | .hbm, ⟨74, _⟩ => ⟨S16x16384x1, .f32⟩
  | .hbm, ⟨75, _⟩ => ⟨S16x16384x1, .f32⟩
  | .hbm, ⟨76, _⟩ => ⟨S16x16384x16384, .f32⟩
  | .hbm, ⟨77, _⟩ => ⟨S16x16384x16384, .f32⟩
  | .hbm, ⟨78, _⟩ => ⟨S_, .f32⟩
  | .hbm, ⟨79, _⟩ => ⟨S16x16384, .f32⟩
  | .hbm, ⟨80, _⟩ => ⟨S16x16384x16384, .f32⟩
  | .hbm, ⟨81, _⟩ => ⟨S16x16384x16384, .f32⟩
  | .hbm, ⟨82, _⟩ => ⟨S16x16384x16384, .f32⟩
  | .hbm, ⟨83, _⟩ => ⟨S_, .f32⟩
  | .hbm, ⟨84, _⟩ => ⟨S16x16384x16384, .f32⟩
  | .hbm, ⟨85, _⟩ => ⟨S16x16384x16384, .f32⟩
  | .hbm, ⟨86, _⟩ => ⟨S_, .f32⟩
  | .hbm, ⟨87, _⟩ => ⟨S16x16384x16384, .f32⟩
  | .hbm, ⟨88, _⟩ => ⟨S16x16384x16384, .f32⟩
  | .hbm, ⟨89, _⟩ => ⟨S16x16384x96, .f32⟩
  | .hbm, ⟨90, _⟩ => ⟨S16384x16x96, .f32⟩
  | .hbm, ⟨91, _⟩ => ⟨S16x16384x96, .f32⟩
  | .hbm, ⟨92, _⟩ => ⟨S16384x16x96, .f32⟩
  | .hbm, ⟨93, _⟩ => ⟨S16x16384x96, .f32⟩
  | .hbm, ⟨94, _⟩ => ⟨S_, .i32⟩
  | .hbm, ⟨95, _⟩ => ⟨S_, .f32⟩
  | .hbm, ⟨96, _⟩ => ⟨S16x16384x128, .f32⟩
  | .hbm, ⟨97, _⟩ => ⟨S16x16384x96, .f32⟩
  | .hbm, ⟨98, _⟩ => ⟨S_, .i32⟩
  | .hbm, ⟨99, _⟩ => ⟨S_, .f32⟩
  | .hbm, ⟨100, _⟩ => ⟨S16x16384x128, .f32⟩
  | .hbm, ⟨101, _⟩ => ⟨S16x16384x64, .f32⟩
  | _, _ => ⟨S16384x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c : Ref sig .tc := ⟨.hbm, 94, rfl⟩
abbrev main_call2_v0 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_call3_v0 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== Kernel2.lean ====
abbrev S1024x5632 : Shape := ⟨2, ![1024, 5632]⟩
abbrev S16384x5632 : Shape := ⟨2, ![16384, 5632]⟩
abbrev S16384x1024 : Shape := ⟨2, ![16384, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S16384x5632, .bf16⟩
  | .hbm, ⟨2, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1024x5632 : Shape := ⟨2, ![1024, 5632]⟩
abbrev S16384x5632 : Shape := ⟨2, ![16384, 5632]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S16384x5632, .bf16⟩
  | .hbm, ⟨2, _⟩ => ⟨S_, .f32⟩
  | .hbm, ⟨3, _⟩ => ⟨S16384x1024, .f32⟩
  | .hbm, ⟨4, _⟩ => ⟨S1024x5632, .f32⟩
  | .hbm, ⟨5, _⟩ => ⟨S16384x5632, .f32⟩
  | .hbm, ⟨6, _⟩ => ⟨S16384x5632, .f32⟩
  | .hbm, ⟨7, _⟩ => ⟨S16384x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2816x1024 : Shape := ⟨2, ![2816, 1024]⟩
abbrev S16384x1024 : Shape := ⟨2, ![16384, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S16384x1024, .f32⟩
  | .hbm, ⟨2, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2816x1024 : Shape := ⟨2, ![2816, 1024]⟩
abbrev S16384x1024 : Shape := ⟨2, ![16384, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S16384x1024, .f32⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x2816, .f32⟩
  | .hbm, ⟨7, _⟩ => ⟨S16384x2816, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16384x2816 : Shape := ⟨2, ![16384, 2816]⟩
abbrev S2816x1024 : Shape := ⟨2, ![2816, 1024]⟩
abbrev S16384x1024 : Shape := ⟨2, ![16384, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x1024 : Shape := ⟨2, ![16384, 1024]⟩
abbrev S1024x5632 : Shape := ⟨2, ![1024, 5632]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .bf16⟩
  | .hbm, ⟨8, _⟩ => ⟨S16384x2816, .bf16⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.Trip.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the run: the pipeline's beside the counters of the body's own copy. -/
local notation "𝕄" => MT nD τ sig Unit (Elt F) ℕ (Pipeline.UD sig nD τ) ℕ

/-! ## What one head of one step computes, of the blocks it reads -/

/-- The blocks one head of one step reads: the queries, the cotangent's columns, the keys, the values, and the rows'
    log-sums and deltas. -/
structure Blk (F : FTy → Type) where
  qb : Vec F S1x512x128 .f32
  db : Vec F S512x64 .bf16
  kb : Vec F S1x512x128 .bf16
  vb : Vec F S1x512x64 .bf16
  lb : Vec F S1x1x1x512 .f32
  tb : Vec F S1x1x1x512 .f32

/-- A block of keys without its leading unit axis. -/
abbrev flat (x : Vec F S1x512x128 .bf16) : FVec F S512x128 .bf16 := shapeCast S512x128 x shapeCasts_S1x512x128_S512x128

/-- The cotangent's columns (a cast to the same shape). -/
abbrev flatD (x : Vec F S512x64 .bf16) : FVec F S512x64 .bf16 := shapeCast S512x64 x shapeCasts_S512x64_S512x64

/-- The queries, scaled so that a power of two gives the exponential. -/
def scl (x : Vec F S1x512x128 .f32) : FVec F S512x128 .bf16 :=
  truncf .bf16 (mulf (shapeCast S512x128 x shapeCasts_S1x512x128_S512x128) (broadcast S512x128 (Named.named κ "qscale" 0x3E16C740#32))) bitsLt_bf16_f32

/-- The scores: keys by queries. -/
def Blk.s (b : Blk F) : FVec F S512x512 .f32 :=
  matmul dot_S512x128_S512x128_S512x512_1_1_0_0_n_n none (flat b.kb) (scl b.qb) (constant S512x512 .f32 0x00000000#32)

/-- The scores where the key is not after the query; the mask's value elsewhere. -/
def Blk.sm (b : Blk F) : FVec F S512x512 .f32 :=
  select (cmpi .sle (addi (iota .tc S512x512 32 [0] iota_S512x512_d0_w32) (broadcast S512x512 0#32))
    (iota .tc S512x512 32 [1] iota_S512x512_d1_w32)) b.s (broadcast S512x512 (Named.named κ "neg" 0xF149F2CA#32))

/-- A row of numbers, one per query, repeated for every key. -/
abbrev rowOf (l : Vec F S1x1x1x512 .f32) : FVec F S512x512 .f32 :=
  broadcastTo S512x512 (shapeCast S1x512 l shapeCasts_S1x1x1x512_S1x512) broadcasts_S1x512_S512x512

/-- The rows' log-sums to base two, repeated for every key. -/
def lse2 (l : Vec F S1x1x1x512 .f32) : FVec F S512x512 .f32 :=
  broadcastTo S512x512 (mulf (shapeCast S1x512 l shapeCasts_S1x1x1x512_S1x512) (broadcast S1x512 (Named.named κ "log2e" 0x3FB8AA3B#32))) broadcasts_S1x512_S512x512

/-- The probabilities, of the scores. -/
def Blk.p (b : Blk F) (s : FVec F S512x512 .f32) : FVec F S512x512 .f32 := exp2 (subf s (lse2 b.lb))

/-- The gradient of the scores. -/
def Blk.ds (b : Blk F) (s : FVec F S512x512 .f32) : FVec F S512x512 .bf16 :=
  truncf .bf16 (mulf (b.p s) (subf (matmul dot_S512x64_S512x64_S512x512_1_1_0_0_n_n none
    (shapeCast S512x64 b.vb shapeCasts_S1x512x64_S512x64) (flatD b.db) (constant S512x512 .f32 0x00000000#32)) (rowOf b.tb))) bitsLt_bf16_f32

/-- The values' gradient with this block's part added. -/
def Blk.addV (b : Blk F) (s : FVec F S512x512 .f32) (old : Vec F S1x512x64 .f32) : FVec F S1x512x64 .f32 :=
  shapeCast S1x512x64 (addf (shapeCast S512x64 old shapeCasts_S1x512x64_S512x64)
    (matmul dot_S512x512_S512x64_S512x64_1_0_0_1_n_n none (truncf .bf16 (b.p s) bitsLt_bf16_f32) (flatD b.db)
      (constant S512x64 .f32 0x00000000#32))) shapeCasts_S512x64_S1x512x64

/-- The keys' gradient with this block's part added. -/
def Blk.addK (b : Blk F) (s : FVec F S512x512 .f32) (old : Vec F S1x512x128 .f32) : FVec F S1x512x128 .f32 :=
  shapeCast S1x512x128 (addf (shapeCast S512x128 old shapeCasts_S1x512x128_S512x128)
    (matmul dot_S512x512_S512x128_S512x128_1_0_0_1_n_n none (b.ds s) (scl b.qb) (constant S512x128 .f32 0x00000000#32)))
    shapeCasts_S512x128_S1x512x128

/-- The queries' gradient with this block's part added. -/
def Blk.addQ (b : Blk F) (s : FVec F S512x512 .f32) (old : Vec F S1x512x128 .f32) : FVec F S1x512x128 .f32 :=
  shapeCast S1x512x128 (addf (shapeCast S512x128 old shapeCasts_S1x512x128_S512x128)
    (matmul dot_S512x512_S512x128_S512x128_0_0_1_1_n_n none (b.ds s) (flat b.kb) (constant S512x128 .f32 0x00000000#32)))
    shapeCasts_S512x128_S1x512x128

/-! ## The accumulators through one step -/

/-- The three accumulators in VMEM. -/
abbrev accQ : Memref sig .tc .vmem S2x16384x128 .f32 := Memref.whole cc0_scratch0
abbrev accK : Memref sig .tc .vmem S2x512x128 .f32 := Memref.whole cc0_scratch1
abbrev accV : Memref sig .tc .vmem S2x512x64 .f32 := Memref.whole cc0_scratch2

/-- What the three accumulators hold. -/
structure Acc (F : FTy → Type) where
  q : BufTy.Contents (Elt F) accQ.view.ty
  k : BufTy.Contents (Elt F) accK.view.ty
  v : BufTy.Contents (Elt F) accV.view.ty

/-- The queries' accumulator after one step of the two heads, whose rows are at `o0` and `o1`. -/
def stepQ (o0 o1 : Fin 3 → Nat) (h0 : ∀ a, o0 a + S1x512x128.size a ≤ S2x16384x128.size a)
    (h1 : ∀ a, o1 a + S1x512x128.size a ≤ S2x16384x128.size a) (b0 b1 : Blk F) (s0 s1 : FVec F S512x512 .f32)
    (f : BufTy.Contents (Elt F) accQ.view.ty) : BufTy.Contents (Elt F) accQ.view.ty :=
  accQ.view.writes (Elt F) f
    [⟨Rect.unit (s := S2x16384x128) o1 S1x512x128.size h1, b1.addQ s1 (View.readAt (Elt F) accQ.view (Rect.unit (s := S2x16384x128) o1 S1x512x128.size h1).toLoadRect f)⟩,
      ⟨Rect.unit (s := S2x16384x128) o0 S1x512x128.size h0, b0.addQ s0 (View.readAt (Elt F) accQ.view (Rect.unit (s := S2x16384x128) o0 S1x512x128.size h0).toLoadRect f)⟩]

/-- The keys' accumulator after one step of the two heads. -/
def stepK (b0 b1 : Blk F) (s0 s1 : FVec F S512x512 .f32) (f : BufTy.Contents (Elt F) accK.view.ty) : BufTy.Contents (Elt F) accK.view.ty :=
  accK.view.writes (Elt F) f
    [⟨Rect.unit (s := S2x512x128) ![1, 0, 0] S1x512x128.size inb_S2x512x128_S1x512x128_1_0_0, b1.addK s1 (View.readAt (Elt F) accK.view (Rect.unit (s := S2x512x128) ![1, 0, 0] S1x512x128.size inb_S2x512x128_S1x512x128_1_0_0).toLoadRect f)⟩,
      ⟨Rect.unit (s := S2x512x128) ![0, 0, 0] S1x512x128.size inb_S2x512x128_S1x512x128_0_0_0, b0.addK s0 (View.readAt (Elt F) accK.view (Rect.unit (s := S2x512x128) ![0, 0, 0] S1x512x128.size inb_S2x512x128_S1x512x128_0_0_0).toLoadRect f)⟩]

/-- The values' accumulator after one step of the two heads. -/
def stepV (b0 b1 : Blk F) (s0 s1 : FVec F S512x512 .f32) (f : BufTy.Contents (Elt F) accV.view.ty) : BufTy.Contents (Elt F) accV.view.ty :=
  accV.view.writes (Elt F) f
    [⟨Rect.unit (s := S2x512x64) ![1, 0, 0] S1x512x64.size inb_S2x512x64_S1x512x64_1_0_0, b1.addV s1 (View.readAt (Elt F) accV.view (Rect.unit (s := S2x512x64) ![1, 0, 0] S1x512x64.size inb_S2x512x64_S1x512x64_1_0_0).toLoadRect f)⟩,
      ⟨Rect.unit (s := S2x512x64) ![0, 0, 0] S1x512x64.size inb_S2x512x64_S1x512x64_0_0_0, b0.addV s0 (View.readAt (Elt F) accV.view (Rect.unit (s := S2x512x64) ![0, 0, 0] S1x512x64.size inb_S2x512x64_S1x512x64_0_0_0).toLoadRect f)⟩]

section
variable (c : Dev nD) (i : grid0.Coords)
  (arg2 : Memref sig .tc .vmem S2x16384x128 .f32) (harg2 : arg2.IsWhole)
  (arg3 : Memref sig .tc .vmem S2x512x128 .bf16) (harg3 : arg3.IsWhole)
  (arg4 : Memref sig .tc .vmem S2x512x128 .bf16) (harg4 : arg4.IsWhole)
  (arg5 : Memref sig .tc .vmem S16384x128 .bf16) (harg5 : arg5.IsWhole)
  (arg6 : Memref sig .tc .vmem S2x32x1x512 .f32) (harg6 : arg6.IsWhole)
  (arg7 : Memref sig .tc .vmem S2x32x1x512 .f32) (harg7 : arg7.IsWhole)
  (arg8 : Memref sig .tc .hbm S16x16384x128 .f32) (harg8 : arg8.IsWhole)
  (arg9 : Memref sig .tc .vmem S2x512x128 .f32) (harg9 : arg9.IsWhole)
  (arg10 : Memref sig .tc .vmem S2x512x64 .f32) (harg10 : arg10.IsWhole)
  (harg11 : accQ.IsWhole) (harg12 : accK.IsWhole) (harg13 : accV.IsWhole)
  (arg14 : DmaSems sig S_) (v129 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)

/-- What one trip holds: the six blocks read and the three accumulators. -/
abbrev held (a : Acc F) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (accQ.view.loc (c : Thread nD τ) ↦[accQ.view.set]{fullShare} a.q) ∗ (accK.view.loc (c : Thread nD τ) ↦[accK.view.set]{fullShare} a.k)
    ∗ (accV.view.loc (c : Thread nD τ) ↦[accV.view.set]{fullShare} a.v))

/-- The blocks of the first head, loaded at the offsets given. -/
def blkA (o2 : Fin 3 → Nat) (h2 : ∀ a, o2 a + S1x512x128.size a ≤ S2x16384x128.size a)
    (o5 : Fin 2 → Nat) (h5 : ∀ a, o5 a + S512x64.size a ≤ S16384x128.size a)
    (o6 : Fin 4 → Nat) (h6 : ∀ a, o6 a + S1x1x1x512.size a ≤ S2x32x1x512.size a)
    (oh : Fin 3 → Nat) (hk : ∀ a, oh a + S1x512x128.size a ≤ S2x512x128.size a) (hv : ∀ a, oh a + S1x512x64.size a ≤ S2x512x128.size a) : Blk F where
  qb := View.readAt (Elt F) arg2.view (Rect.unit (s := S2x16384x128) o2 S1x512x128.size h2).toLoadRect X2
  db := View.readAt (Elt F) arg5.view (Rect.unit (s := S16384x128) o5 S512x64.size h5).toLoadRect X5
  kb := View.readAt (Elt F) arg3.view (Rect.unit (s := S2x512x128) oh S1x512x128.size hk).toLoadRect X3
  vb := View.readAt (Elt F) arg4.view (Rect.unit (s := S2x512x128) oh S1x512x64.size hv).toLoadRect X4
  lb := View.readAt (Elt F) arg6.view (Rect.unit (s := S2x32x1x512) o6 S1x1x1x512.size h6).toLoadRect X6
  tb := View.readAt (Elt F) arg7.view (Rect.unit (s := S2x32x1x512) o6 S1x1x1x512.size h6).toLoadRect X7

/-- The blocks trip `k` reads for the first head. -/
abbrev blk0 (k : Fin (k0_t1_loop i).trips) : Blk F :=
  blkA arg2 arg3 arg4 arg5 arg6 arg7 X2 X3 X4 X5 X6 X7 (k0_off7 i k) (k0_off7_inb i k) (k0_off8 i k) (k0_off8_inb i k)
    (k0_off9 i k) (k0_off9_inb i k) ![0, 0, 0] inb_S2x512x128_S1x512x128_0_0_0 inb_S2x512x128_S1x512x64_0_0_0

/-- The blocks trip `k` reads for the second head. -/
abbrev blk1 (k : Fin (k0_t1_loop i).trips) : Blk F :=
  blkA arg2 arg3 arg4 arg5 arg6 arg7 X2 X3 X4 X5 X6 X7 (k0_off10 i k) (k0_off10_inb i k) (k0_off11 i k) (k0_off11_inb i k)
    (k0_off12 i k) (k0_off12_inb i k) ![1, 0, 0] inb_S2x512x128_S1x512x128_1_0_0 inb_S2x512x128_S1x512x64_1_0_0

/-- One trip's accumulators, of those it finds. -/
def tripAcc (k : Fin (k0_t1_loop i).trips) (a : Acc F) : Acc F :=
  let b0 := blk0 i arg2 arg3 arg4 arg5 arg6 arg7 X2 X3 X4 X5 X6 X7 k
  let b1 := blk1 i arg2 arg3 arg4 arg5 arg6 arg7 X2 X3 X4 X5 X6 X7 k
  ⟨stepQ (k0_off7 i k) (k0_off10 i k) (k0_off7_inb i k) (k0_off10_inb i k) b0 b1 b0.s b1.s a.q, stepK b0 b1 b0.s b1.s a.k, stepV b0 b1 b0.s b1.s a.v⟩

/-- ONE TRIP of the loop over the query blocks below the diagonal. -/
theorem trip1 (𝒱 : Variants) (bd : Option 𝒱.V) (E : Set ℕ) (k : Fin (k0_t1_loop i).trips)
    (a : Acc F) :
    held (F := F) c arg2 arg3 arg4 arg5 arg6 arg7 X2 X3 X4 X5 X6 X7 a
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 accQ harg11 accK harg12 accV harg13 arg14 v129 k PUnit.unit)
          (fun _ => held (F := F) c arg2 arg3 arg4 arg5 arg6 arg7 X2 X3 X4 X5 X6 X7 (tripAcc i arg2 arg3 arg4 arg5 arg6 arg7 X2 X3 X4 X5 X6 X7 k a)) := by
  unfold k0_t1_body
  iintro ⟨H2, H3, H4, H5, H6, H7, H11, H12, H13⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  iexact H13

end
end Cert.KernelIdeal.Hand
-- ==== Proof.Loop.lean ====
module

public import proofs.«01_k».proof.Proof.Trip

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the run: the pipeline's beside the counters of the body's own copy. -/
local notation "𝕄" => MT nD τ sig Unit (Elt F) ℕ (Pipeline.UD sig nD τ) ℕ

section
variable (c : Dev nD) (i : grid0.Coords)
  (arg2 : Memref sig .tc .vmem S2x16384x128 .f32) (harg2 : arg2.IsWhole)
  (arg3 : Memref sig .tc .vmem S2x512x128 .bf16) (harg3 : arg3.IsWhole)
  (arg4 : Memref sig .tc .vmem S2x512x128 .bf16) (harg4 : arg4.IsWhole)
  (arg5 : Memref sig .tc .vmem S16384x128 .bf16) (harg5 : arg5.IsWhole)
  (arg6 : Memref sig .tc .vmem S2x32x1x512 .f32) (harg6 : arg6.IsWhole)
  (arg7 : Memref sig .tc .vmem S2x32x1x512 .f32) (harg7 : arg7.IsWhole)
  (arg8 : Memref sig .tc .hbm S16x16384x128 .f32) (harg8 : arg8.IsWhole)
  (arg9 : Memref sig .tc .vmem S2x512x128 .f32) (harg9 : arg9.IsWhole)
  (arg10 : Memref sig .tc .vmem S2x512x64 .f32) (harg10 : arg10.IsWhole)
  (harg11 : accQ.IsWhole) (harg12 : accK.IsWhole) (harg13 : accV.IsWhole)
  (arg14 : DmaSems sig S_) (v129 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)

/-- The accumulators before trip `n`. -/
def accAt (a : Acc F) : ℕ → Acc F
  | 0 => a
  | n + 1 => if h : n < (k0_t1_loop i).trips then tripAcc i arg2 arg3 arg4 arg5 arg6 arg7 X2 X3 X4 X5 X6 X7 ⟨n, h⟩ (accAt a n) else accAt a n

/-- The accumulators after one more trip of the loop. -/
theorem accAt_succ (a : Acc F) (k : Fin (k0_t1_loop i).trips) :
    accAt i arg2 arg3 arg4 arg5 arg6 arg7 X2 X3 X4 X5 X6 X7 a (k.val + 1)
      = tripAcc i arg2 arg3 arg4 arg5 arg6 arg7 X2 X3 X4 X5 X6 X7 k (accAt i arg2 arg3 arg4 arg5 arg6 arg7 X2 X3 X4 X5 X6 X7 a k.val) := by
  rw [accAt]; exact dif_pos k.isLt

/-! The accumulators' contents before trip `n` by cases on `n`: before the first trip, those at the loop's entry. -/

/-- The queries' accumulator as the loop rule writes it. -/
theorem rec_q (a : Acc F) (n : ℕ) :
    Nat.rec (motive := fun _ => BufTy.Contents (Elt F) accQ.view.ty) a.q (fun n _ => (accAt i arg2 arg3 arg4 arg5 arg6 arg7 X2 X3 X4 X5 X6 X7 a (n + 1)).q) n
      = (accAt i arg2 arg3 arg4 arg5 arg6 arg7 X2 X3 X4 X5 X6 X7 a n).q := by cases n <;> rfl

/-- The keys' accumulator as the loop rule writes it. -/
theorem rec_k (a : Acc F) (n : ℕ) :
    Nat.rec (motive := fun _ => BufTy.Contents (Elt F) accK.view.ty) a.k (fun n _ => (accAt i arg2 arg3 arg4 arg5 arg6 arg7 X2 X3 X4 X5 X6 X7 a (n + 1)).k) n
      = (accAt i arg2 arg3 arg4 arg5 arg6 arg7 X2 X3 X4 X5 X6 X7 a n).k := by cases n <;> rfl

/-- The values' accumulator as the loop rule writes it. -/
theorem rec_v (a : Acc F) (n : ℕ) :
    Nat.rec (motive := fun _ => BufTy.Contents (Elt F) accV.view.ty) a.v (fun n _ => (accAt i arg2 arg3 arg4 arg5 arg6 arg7 X2 X3 X4 X5 X6 X7 a (n + 1)).v) n
      = (accAt i arg2 arg3 arg4 arg5 arg6 arg7 X2 X3 X4 X5 X6 X7 a n).v := by cases n <;> rfl

set_option warn.classDefReducibility false in
/-- THE LOOP by its invariant: before trip `n` the accumulators hold `accAt n`. -/
@[sl_loop] def loop1 (𝒱 : Variants) (bd : Option 𝒱.V) (E : Set ℕ) (g11 : BufTy.Contents (Elt F) accQ.view.ty)
    (g12 : BufTy.Contents (Elt F) accK.view.ty) (g13 : BufTy.Contents (Elt F) accV.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 accQ harg11 accK harg12 accV harg13 arg14 v129 where
  inv n _ := iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f, (accQ.view.loc (c : Thread nD τ) ↦[accQ.view.set]{fullShare} f) ∗ ⌜f = Nat.rec (motive := fun _ => BufTy.Contents (Elt F) accQ.view.ty) g11 (fun n _ => (accAt i arg2 arg3 arg4 arg5 arg6 arg7 X2 X3 X4 X5 X6 X7 ⟨g11, g12, g13⟩ (n + 1)).q) n⌝)
    ∗ (∃ f, (accK.view.loc (c : Thread nD τ) ↦[accK.view.set]{fullShare} f) ∗ ⌜f = Nat.rec (motive := fun _ => BufTy.Contents (Elt F) accK.view.ty) g12 (fun n _ => (accAt i arg2 arg3 arg4 arg5 arg6 arg7 X2 X3 X4 X5 X6 X7 ⟨g11, g12, g13⟩ (n + 1)).k) n⌝)
    ∗ (∃ f, (accV.view.loc (c : Thread nD τ) ↦[accV.view.set]{fullShare} f) ∗ ⌜f = Nat.rec (motive := fun _ => BufTy.Contents (Elt F) accV.view.ty) g13 (fun n _ => (accAt i arg2 arg3 arg4 arg5 arg6 arg7 X2 X3 X4 X5 X6 X7 ⟨g11, g12, g13⟩ (n + 1)).v) n⌝))
  step k u := by
    iintro ⟨H2, H3, H4, H5, H6, H7, ⟨%f11, H11, %e11⟩, ⟨%f12, H12, %e12⟩, ⟨%f13, H13, %e13⟩⟩
    have e11' := e11.trans (rec_q i arg2 arg3 arg4 arg5 arg6 arg7 X2 X3 X4 X5 X6 X7 ⟨g11, g12, g13⟩ k.val)
    have e12' := e12.trans (rec_k i arg2 arg3 arg4 arg5 arg6 arg7 X2 X3 X4 X5 X6 X7 ⟨g11, g12, g13⟩ k.val)
    have e13' := e13.trans (rec_v i arg2 arg3 arg4 arg5 arg6 arg7 X2 X3 X4 X5 X6 X7 ⟨g11, g12, g13⟩ k.val)
    subst e11' e12' e13'
    iapply (wp_wand_r Idealize.ShloMosaic.frame (wpE (defs₀ (F := F)) 𝒱 (c : Thread nD τ) bd) E)
    isplitl [H2 H3 H4 H5 H6 H7 H11 H12 H13]
    · iapply (trip1 c i arg2 harg2 arg3 harg3 arg4 harg4 arg5 harg5 arg6 harg6 arg7 harg7 arg8 harg8 arg9 harg9 arg10 harg10 harg11 harg12 harg13 arg14 v129 X2 X3 X4 X5 X6 X7 𝒱 bd E k
        (accAt i arg2 arg3 arg4 arg5 arg6 arg7 X2 X3 X4 X5 X6 X7 ⟨g11, g12, g13⟩ k.val))
      isplitl [H2]; · iexact H2
      isplitl [H3]; · iexact H3
      isplitl [H4]; · iexact H4
      isplitl [H5]; · iexact H5
      isplitl [H6]; · iexact H6
      isplitl [H7]; · iexact H7
      isplitl [H11]; · iexact H11
      isplitl [H12]; · iexact H12
      iexact H13
    · iintro %u' ⟨H2, H3, H4, H5, H6, H7, H11, H12, H13⟩
      isplitl [H2]; · iexact H2
      isplitl [H3]; · iexact H3
      isplitl [H4]; · iexact H4
      isplitl [H5]; · iexact H5
      isplitl [H6]; · iexact H6
      isplitl [H7]; · iexact H7
      isplitl [H11]; · iexists _; isplitl [H11]; · iexact H11
                       · ipureintro; show _ = Acc.q (accAt i arg2 arg3 arg4 arg5 arg6 arg7 X2 X3 X4 X5 X6 X7 ⟨g11, g12, g13⟩ (k.val + 1)); rw [accAt_succ]
      isplitl [H12]; · iexists _; isplitl [H12]; · iexact H12
                       · ipureintro; show _ = Acc.k (accAt i arg2 arg3 arg4 arg5 arg6 arg7 X2 X3 X4 X5 X6 X7 ⟨g11, g12, g13⟩ (k.val + 1)); rw [accAt_succ]
      iexists _; isplitl [H13]; · iexact H13
      · ipureintro; show _ = Acc.v (accAt i arg2 arg3 arg4 arg5 arg6 arg7 X2 X3 X4 X5 X6 X7 ⟨g11, g12, g13⟩ (k.val + 1)); rw [accAt_succ]
end
end Cert.KernelIdeal.Hand
-- ==== Proof.Point.lean ====
module

public import proofs.«01_k».proof.Proof.Loop

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The loop over the remainder of the query blocks has no trips. -/
theorem trips2 (i : grid0.Coords) : (k0_t2_loop i).trips = 0 := by
  have h : ∀ n : Fin 32, (let a : BitVec 32 := BitVec.ofNat 32 n.val
    let v129 : BitVec 32 := Scalar.addi a 1#32
    (⟨Scalar.addi v129 (Scalar.muli (Scalar.divsi (Scalar.subi 32#32 v129) 1#32) 1#32), Scalar.addi v129 (Scalar.subi 32#32 v129), 1#32⟩ : Scf.Loop 32).trips) = 0 := by
    decide +kernel
  exact h (i 1)

set_option warn.classDefReducibility false in
/-- The remainder loop by an invariant that says nothing. -/
@[sl_loop] def loop2 (c : Dev nD) (i : grid0.Coords)
    (arg2 : Memref sig .tc .vmem S2x16384x128 .f32) (harg2 : arg2.IsWhole)
    (arg3 : Memref sig .tc .vmem S2x512x128 .bf16) (harg3 : arg3.IsWhole)
    (arg4 : Memref sig .tc .vmem S2x512x128 .bf16) (harg4 : arg4.IsWhole)
    (arg5 : Memref sig .tc .vmem S16384x128 .bf16) (harg5 : arg5.IsWhole)
    (arg6 : Memref sig .tc .vmem S2x32x1x512 .f32) (harg6 : arg6.IsWhole)
    (arg7 : Memref sig .tc .vmem S2x32x1x512 .f32) (harg7 : arg7.IsWhole)
    (arg8 : Memref sig .tc .hbm S16x16384x128 .f32) (harg8 : arg8.IsWhole)
    (arg9 : Memref sig .tc .vmem S2x512x128 .f32) (harg9 : arg9.IsWhole)
    (arg10 : Memref sig .tc .vmem S2x512x64 .f32) (harg10 : arg10.IsWhole)
    (harg11 : accQ.IsWhole) (harg12 : accK.IsWhole) (harg13 : accV.IsWhole)
    (arg14 : DmaSems sig S_) (v134 : BitVec 32) (𝒱 : Variants) (bd : Option 𝒱.V) (E : Set ℕ) :
    LoopInvTy_k0_t2 (F := F) Unit ℕ (Pipeline.UD sig nD τ) ℕ 𝒱 c bd E i arg2 harg2 arg3 harg3 arg4 harg4 arg5 harg5 arg6 harg6 arg7 harg7 arg8 harg8 arg9 harg9 arg10 harg10 accQ harg11 accK harg12 accV harg13 arg14 v134 where
  inv n _ := iprop(emp)
  step k u := by
    have h : k.val < (k0_t2_loop i).trips := k.isLt
    rw [trips2] at h; exact absurd h (Nat.not_lt_zero _)

section
variable (c : Dev nD) (i : grid0.Coords)
  (arg2 : Memref sig .tc .vmem S2x16384x128 .f32) (harg2 : arg2.IsWhole)
  (arg3 : Memref sig .tc .vmem S2x512x128 .bf16) (harg3 : arg3.IsWhole)
  (arg4 : Memref sig .tc .vmem S2x512x128 .bf16) (harg4 : arg4.IsWhole)
  (arg5 : Memref sig .tc .vmem S16384x128 .bf16) (harg5 : arg5.IsWhole)
  (arg6 : Memref sig .tc .vmem S2x32x1x512 .f32) (harg6 : arg6.IsWhole)
  (arg7 : Memref sig .tc .vmem S2x32x1x512 .f32) (harg7 : arg7.IsWhole)
  (arg9 : Memref sig .tc .vmem S2x512x128 .f32) (harg9 : arg9.IsWhole)
  (arg10 : Memref sig .tc .vmem S2x512x64 .f32) (harg10 : arg10.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (f9 : BufTy.Contents (Elt F) arg9.view.ty) (f10 : BufTy.Contents (Elt F) arg10.view.ty)

abbrev outQ : Memref sig .tc .hbm S16x16384x128 .f32 := Memref.whole main_v42_0

/-- A buffer held at contents that are the ones named. -/
theorem pt_eq {ℓ : Loc nD τ sig} {S : Finset ℓ.2.ty.Idx} {f g : Buf (Elt F) ℓ} (h : f = g) :
    (iprop(ℓ ↦[S]{fullShare} f) : sProp 𝕄) ⊢ iprop(ℓ ↦[S]{fullShare} g) := by subst h; exact .rfl

/-- The blocks the masked step reads for the first head. -/
abbrev dblk0 : Blk F :=
  blkA arg2 arg3 arg4 arg5 arg6 arg7 X2 X3 X4 X5 X6 X7 (k0_off1 i) (k0_off1_inb i) (k0_off2 i) (k0_off2_inb i)
    (k0_off3 i) (k0_off3_inb i) ![0, 0, 0] inb_S2x512x128_S1x512x128_0_0_0 inb_S2x512x128_S1x512x64_0_0_0

/-- The blocks the masked step reads for the second head. -/
abbrev dblk1 : Blk F :=
  blkA arg2 arg3 arg4 arg5 arg6 arg7 X2 X3 X4 X5 X6 X7 (k0_off4 i) (k0_off4_inb i) (k0_off5 i) (k0_off5_inb i)
    (k0_off6 i) (k0_off6_inb i) ![1, 0, 0] inb_S2x512x128_S1x512x128_1_0_0 inb_S2x512x128_S1x512x64_1_0_0

/-- The queries' accumulator cleared at the first block of keys. -/
def clrQ (f : BufTy.Contents (Elt F) accQ.view.ty) : BufTy.Contents (Elt F) accQ.view.ty :=
  if _hc : Scalar.cmpi .ne (Scalar.extui (Scalar.cmpi .eq (BitVec.ofNat 32 (i 1).val) 0#32) : BitVec 32) 0#32 = 1#1 then
    accQ.view.writes (Elt F) f [⟨Rect.unit (s := S2x16384x128) ![0, 0, 0] S2x16384x128.size inb_S2x16384x128_S2x16384x128_0_0_0, k0_pay38⟩] else f

/-- The keys' accumulator cleared, as one written piece. -/
def zeroK : List (View.Piece (Elt F) S2x512x128 .f32) :=
  [⟨Rect.unit (s := S2x512x128) ![0, 0, 0] S2x512x128.size inb_S2x512x128_S2x512x128_0_0_0, k0_pay39⟩]

/-- The keys' accumulator after the first head of the masked step. -/
def fstK (b0 : Blk F) (s0 : FVec F S512x512 .f32) : List (View.Piece (Elt F) S2x512x128 .f32) :=
  ⟨Rect.unit (s := S2x512x128) ![0, 0, 0] S1x512x128.size inb_S2x512x128_S1x512x128_0_0_0, b0.addK s0 (accK.view.readCov zeroK (Rect.unit (s := S2x512x128) ![0, 0, 0] S1x512x128.size inb_S2x512x128_S1x512x128_0_0_0).toLoadRect)⟩ :: zeroK

/-- The keys' accumulator after the masked step. -/
def diagK (b0 b1 : Blk F) (s0 s1 : FVec F S512x512 .f32) : List (View.Piece (Elt F) S2x512x128 .f32) :=
  ⟨Rect.unit (s := S2x512x128) ![1, 0, 0] S1x512x128.size inb_S2x512x128_S1x512x128_1_0_0, b1.addK s1 (accK.view.readCov (fstK b0 s0) (Rect.unit (s := S2x512x128) ![1, 0, 0] S1x512x128.size inb_S2x512x128_S1x512x128_1_0_0).toLoadRect)⟩ :: fstK b0 s0

/-- The values' accumulator cleared, as one written piece. -/
def zeroV : List (View.Piece (Elt F) S2x512x64 .f32) :=
  [⟨Rect.unit (s := S2x512x64) ![0, 0, 0] S2x512x64.size inb_S2x512x64_S2x512x64_0_0_0, k0_pay40⟩]

/-- The values' accumulator after the first head of the masked step. -/
def fstV (b0 : Blk F) (s0 : FVec F S512x512 .f32) : List (View.Piece (Elt F) S2x512x64 .f32) :=
  ⟨Rect.unit (s := S2x512x64) ![0, 0, 0] S1x512x64.size inb_S2x512x64_S1x512x64_0_0_0, b0.addV s0 (accV.view.readCov zeroV (Rect.unit (s := S2x512x64) ![0, 0, 0] S1x512x64.size inb_S2x512x64_S1x512x64_0_0_0).toLoadRect)⟩ :: zeroV

/-- The values' accumulator after the masked step. -/
def diagV (b0 b1 : Blk F) (s0 s1 : FVec F S512x512 .f32) : List (View.Piece (Elt F) S2x512x64 .f32) :=
  ⟨Rect.unit (s := S2x512x64) ![1, 0, 0] S1x512x64.size inb_S2x512x64_S1x512x64_1_0_0, b1.addV s1 (accV.view.readCov (fstV b0 s0) (Rect.unit (s := S2x512x64) ![1, 0, 0] S1x512x64.size inb_S2x512x64_S1x512x64_1_0_0).toLoadRect)⟩ :: fstV b0 s0

/-- The accumulators after the masked step. -/
def diagAcc (a : Acc F) : Acc F :=
  let b0 := dblk0 i arg2 arg3 arg4 arg5 arg6 arg7 X2 X3 X4 X5 X6 X7
  let b1 := dblk1 i arg2 arg3 arg4 arg5 arg6 arg7 X2 X3 X4 X5 X6 X7
  ⟨stepQ (k0_off1 i) (k0_off4 i) (k0_off1_inb i) (k0_off4_inb i) b0 b1 b0.sm b1.sm (clrQ i a.q), accK.view.writes (Elt F) accK.view.junk (diagK b0 b1 b0.sm b1.sm), accV.view.writes (Elt F) accV.view.junk (diagV b0 b1 b0.sm b1.sm)⟩

/-- The accumulators after all of the point's steps. -/
def endAcc (a : Acc F) : Acc F :=
  accAt i arg2 arg3 arg4 arg5 arg6 arg7 X2 X3 X4 X5 X6 X7 (diagAcc i arg2 arg3 arg4 arg5 arg6 arg7 X2 X3 X4 X5 X6 X7 a) (k0_t1_loop i).trips

/-- The keys' block written out. -/
def outK (f : BufTy.Contents (Elt F) arg9.view.ty) (k : BufTy.Contents (Elt F) accK.view.ty) : BufTy.Contents (Elt F) arg9.view.ty :=
  arg9.view.writes (Elt F) f [⟨Rect.unit (s := S2x512x128) ![0, 0, 0] S2x512x128.size inb_S2x512x128_S2x512x128_0_0_0,
    k0_pay6 (View.readAt (Elt F) accK.view (Rect.unit (s := S2x512x128) ![0, 0, 0] S2x512x128.size inb_S2x512x128_S2x512x128_0_0_0).toLoadRect k)⟩]

/-- The values' block written out. -/
def outV (f : BufTy.Contents (Elt F) arg10.view.ty) (v : BufTy.Contents (Elt F) accV.view.ty) : BufTy.Contents (Elt F) arg10.view.ty :=
  arg10.view.writes (Elt F) f [⟨Rect.unit (s := S2x512x64) ![0, 0, 0] S2x512x64.size inb_S2x512x64_S2x512x64_0_0_0,
    View.readAt (Elt F) accV.view (Rect.unit (s := S2x512x64) ![0, 0, 0] S2x512x64.size inb_S2x512x64_S2x512x64_0_0_0).toLoadRect v⟩]

/-- Accumulators are equal where their three contents are. -/
theorem Acc.of_eq {q : BufTy.Contents (Elt F) accQ.view.ty} {k : BufTy.Contents (Elt F) accK.view.ty} {v : BufTy.Contents (Elt F) accV.view.ty}
    {a : Acc F} (hq : q = a.q) (hk : k = a.k) (hv : v = a.v) : (⟨q, k, v⟩ : Acc F) = a := by
  cases a; cases hq; cases hk; cases hv; rfl

/-- The queries' accumulator after the masked step. -/
theorem diagAcc_q (a : Acc F) : (diagAcc i arg2 arg3 arg4 arg5 arg6 arg7 X2 X3 X4 X5 X6 X7 a).q = accQ.view.writes (Elt F) (clrQ i a.q)
    [⟨Rect.unit (s := S2x16384x128) (k0_off4 i) S1x512x128.size (k0_off4_inb i), (dblk1 i arg2 arg3 arg4 arg5 arg6 arg7 X2 X3 X4 X5 X6 X7).addQ (dblk1 i arg2 arg3 arg4 arg5 arg6 arg7 X2 X3 X4 X5 X6 X7).sm
        (View.readAt (Elt F) accQ.view (Rect.unit (s := S2x16384x128) (k0_off4 i) S1x512x128.size (k0_off4_inb i)).toLoadRect (clrQ i a.q))⟩,
      ⟨Rect.unit (s := S2x16384x128) (k0_off1 i) S1x512x128.size (k0_off1_inb i), (dblk0 i arg2 arg3 arg4 arg5 arg6 arg7 X2 X3 X4 X5 X6 X7).addQ (dblk0 i arg2 arg3 arg4 arg5 arg6 arg7 X2 X3 X4 X5 X6 X7).sm
        (View.readAt (Elt F) accQ.view (Rect.unit (s := S2x16384x128) (k0_off1 i) S1x512x128.size (k0_off1_inb i)).toLoadRect (clrQ i a.q))⟩] := rfl

/-- The keys' accumulator after the masked step. -/
theorem diagAcc_k (a : Acc F) : (diagAcc i arg2 arg3 arg4 arg5 arg6 arg7 X2 X3 X4 X5 X6 X7 a).k = accK.view.writes (Elt F) accK.view.junk
    (diagK (dblk0 i arg2 arg3 arg4 arg5 arg6 arg7 X2 X3 X4 X5 X6 X7) (dblk1 i arg2 arg3 arg4 arg5 arg6 arg7 X2 X3 X4 X5 X6 X7) (dblk0 i arg2 arg3 arg4 arg5 arg6 arg7 X2 X3 X4 X5 X6 X7).sm (dblk1 i arg2 arg3 arg4 arg5 arg6 arg7 X2 X3 X4 X5 X6 X7).sm) := rfl

/-- The values' accumulator after the masked step. -/
theorem diagAcc_v (a : Acc F) : (diagAcc i arg2 arg3 arg4 arg5 arg6 arg7 X2 X3 X4 X5 X6 X7 a).v = accV.view.writes (Elt F) accV.view.junk
    (diagV (dblk0 i arg2 arg3 arg4 arg5 arg6 arg7 X2 X3 X4 X5 X6 X7) (dblk1 i arg2 arg3 arg4 arg5 arg6 arg7 X2 X3 X4 X5 X6 X7) (dblk0 i arg2 arg3 arg4 arg5 arg6 arg7 X2 X3 X4 X5 X6 X7).sm (dblk1 i arg2 arg3 arg4 arg5 arg6 arg7 X2 X3 X4 X5 X6 X7).sm) := rfl

/-- The queries' accumulator after the loop, of the accumulators at its entry. -/
theorem end_q (q : BufTy.Contents (Elt F) accQ.view.ty) (k : BufTy.Contents (Elt F) accK.view.ty) (v : BufTy.Contents (Elt F) accV.view.ty)
    (a : Acc F) (h : (⟨q, k, v⟩ : Acc F) = diagAcc i arg2 arg3 arg4 arg5 arg6 arg7 X2 X3 X4 X5 X6 X7 a) :
    Nat.rec (motive := fun _ => BufTy.Contents (Elt F) accQ.view.ty) q (fun n _ => (accAt i arg2 arg3 arg4 arg5 arg6 arg7 X2 X3 X4 X5 X6 X7 ⟨q, k, v⟩ (n + 1)).q)
      (Scf.trips (k0_t1_loop i).lb (k0_t1_loop i).ub (k0_t1_loop i).st) = (endAcc i arg2 arg3 arg4 arg5 arg6 arg7 X2 X3 X4 X5 X6 X7 a).q :=
  (rec_q i arg2 arg3 arg4 arg5 arg6 arg7 X2 X3 X4 X5 X6 X7 ⟨q, k, v⟩ _).trans (by rw [h]; rfl)

/-- The keys' accumulator after the loop, of the accumulators at its entry. -/
theorem end_k (q : BufTy.Contents (Elt F) accQ.view.ty) (k : BufTy.Contents (Elt F) accK.view.ty) (v : BufTy.Contents (Elt F) accV.view.ty)
    (a : Acc F) (h : (⟨q, k, v⟩ : Acc F) = diagAcc i arg2 arg3 arg4 arg5 arg6 arg7 X2 X3 X4 X5 X6 X7 a) :
    Nat.rec (motive := fun _ => BufTy.Contents (Elt F) accK.view.ty) k (fun n _ => (accAt i arg2 arg3 arg4 arg5 arg6 arg7 X2 X3 X4 X5 X6 X7 ⟨q, k, v⟩ (n + 1)).k)
      (Scf.trips (k0_t1_loop i).lb (k0_t1_loop i).ub (k0_t1_loop i).st) = (endAcc i arg2 arg3 arg4 arg5 arg6 arg7 X2 X3 X4 X5 X6 X7 a).k :=
  (rec_k i arg2 arg3 arg4 arg5 arg6 arg7 X2 X3 X4 X5 X6 X7 ⟨q, k, v⟩ _).trans (by rw [h]; rfl)

/-- The values' accumulator after the loop, of the accumulators at its entry. -/
theorem end_v (q : BufTy.Contents (Elt F) accQ.view.ty) (k : BufTy.Contents (Elt F) accK.view.ty) (v : BufTy.Contents (Elt F) accV.view.ty)
    (a : Acc F) (h : (⟨q, k, v⟩ : Acc F) = diagAcc i arg2 arg3 arg4 arg5 arg6 arg7 X2 X3 X4 X5 X6 X7 a) :
    Nat.rec (motive := fun _ => BufTy.Contents (Elt F) accV.view.ty) v (fun n _ => (accAt i arg2 arg3 arg4 arg5 arg6 arg7 X2 X3 X4 X5 X6 X7 ⟨q, k, v⟩ (n + 1)).v)
      (Scf.trips (k0_t1_loop i).lb (k0_t1_loop i).ub (k0_t1_loop i).st) = (endAcc i arg2 arg3 arg4 arg5 arg6 arg7 X2 X3 X4 X5 X6 X7 a).v :=
  (rec_v i arg2 arg3 arg4 arg5 arg6 arg7 X2 X3 X4 X5 X6 X7 ⟨q, k, v⟩ _).trans (by rw [h]; rfl)

end
end Cert.KernelIdeal.Hand
-- ==== Proof.Sem.lean ====
module

public import proofs.«01_k».proof.Proof.Point
public import Idealize.ShloMosaic.Lib.Pipeline.Value

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## A point's results as functions of the blocks the pipeline hands it -/

/-- The six blocks a point is handed. -/
structure Inp (F : FTy → Type) where
  q : Vec F S2x16384x128 .f32
  k : Vec F S2x512x128 .bf16
  v : Vec F S2x512x128 .bf16
  d : Vec F S16384x128 .bf16
  l : Vec F S2x32x1x512 .f32
  t : Vec F S2x32x1x512 .f32

/-- What one head of one step reads of them, at the offsets given. -/
def Inp.blk (I : Inp F) (o2 : Fin 3 → Nat) (h2 : ∀ a, o2 a + S1x512x128.size a ≤ S2x16384x128.size a)
    (o5 : Fin 2 → Nat) (h5 : ∀ a, o5 a + S512x64.size a ≤ S16384x128.size a)
    (o6 : Fin 4 → Nat) (h6 : ∀ a, o6 a + S1x1x1x512.size a ≤ S2x32x1x512.size a)
    (oh : Fin 3 → Nat) (hk : ∀ a, oh a + S1x512x128.size a ≤ S2x512x128.size a) (hv : ∀ a, oh a + S1x512x64.size a ≤ S2x512x128.size a) : Blk F where
  qb := View.ld I.q (Rect.unit (s := S2x16384x128) o2 S1x512x128.size h2)
  db := View.ld I.d (Rect.unit (s := S16384x128) o5 S512x64.size h5)
  kb := View.ld I.k (Rect.unit (s := S2x512x128) oh S1x512x128.size hk)
  vb := View.ld I.v (Rect.unit (s := S2x512x128) oh S1x512x64.size hv)
  lb := View.ld I.l (Rect.unit (s := S2x32x1x512) o6 S1x1x1x512.size h6)
  tb := View.ld I.t (Rect.unit (s := S2x32x1x512) o6 S1x1x1x512.size h6)

/-- The masked step's blocks, of the two heads. -/
def Inp.d0 (I : Inp F) (i : grid0.Coords) : Blk F :=
  I.blk (k0_off1 i) (k0_off1_inb i) (k0_off2 i) (k0_off2_inb i) (k0_off3 i) (k0_off3_inb i)
    ![0, 0, 0] inb_S2x512x128_S1x512x128_0_0_0 inb_S2x512x128_S1x512x64_0_0_0
def Inp.d1 (I : Inp F) (i : grid0.Coords) : Blk F :=
  I.blk (k0_off4 i) (k0_off4_inb i) (k0_off5 i) (k0_off5_inb i) (k0_off6 i) (k0_off6_inb i)
    ![1, 0, 0] inb_S2x512x128_S1x512x128_1_0_0 inb_S2x512x128_S1x512x64_1_0_0

/-- Trip `k`'s blocks, of the two heads. -/
def Inp.b0 (I : Inp F) (i : grid0.Coords) (k : Fin (k0_t1_loop i).trips) : Blk F :=
  I.blk (k0_off7 i k) (k0_off7_inb i k) (k0_off8 i k) (k0_off8_inb i k) (k0_off9 i k) (k0_off9_inb i k)
    ![0, 0, 0] inb_S2x512x128_S1x512x128_0_0_0 inb_S2x512x128_S1x512x64_0_0_0
def Inp.b1 (I : Inp F) (i : grid0.Coords) (k : Fin (k0_t1_loop i).trips) : Blk F :=
  I.blk (k0_off10 i k) (k0_off10_inb i k) (k0_off11 i k) (k0_off11_inb i k) (k0_off12 i k) (k0_off12_inb i k)
    ![1, 0, 0] inb_S2x512x128_S1x512x128_1_0_0 inb_S2x512x128_S1x512x64_1_0_0

/-- The queries' accumulator before trip `n`. -/
def Inp.qAt (I : Inp F) (i : grid0.Coords) (f : Vec F S2x16384x128 .f32) : ℕ → Vec F S2x16384x128 .f32
  | 0 => stepQ (k0_off1 i) (k0_off4 i) (k0_off1_inb i) (k0_off4_inb i) (I.d0 i) (I.d1 i) (I.d0 i).sm (I.d1 i).sm (clrQ i f)
  | n + 1 => if h : n < (k0_t1_loop i).trips then
      stepQ (k0_off7 i ⟨n, h⟩) (k0_off10 i ⟨n, h⟩) (k0_off7_inb i ⟨n, h⟩) (k0_off10_inb i ⟨n, h⟩) (I.b0 i ⟨n, h⟩) (I.b1 i ⟨n, h⟩)
        (I.b0 i ⟨n, h⟩).s (I.b1 i ⟨n, h⟩).s (I.qAt i f n) else I.qAt i f n

/-- The keys' accumulator before trip `n`. -/
def Inp.kAt (I : Inp F) (i : grid0.Coords) : ℕ → Vec F S2x512x128 .f32
  | 0 => accK.view.writes (Elt F) accK.view.junk (diagK (I.d0 i) (I.d1 i) (I.d0 i).sm (I.d1 i).sm)
  | n + 1 => if h : n < (k0_t1_loop i).trips then
      stepK (I.b0 i ⟨n, h⟩) (I.b1 i ⟨n, h⟩) (I.b0 i ⟨n, h⟩).s (I.b1 i ⟨n, h⟩).s (I.kAt i n) else I.kAt i n

/-- The values' accumulator before trip `n`. -/
def Inp.vAt (I : Inp F) (i : grid0.Coords) : ℕ → Vec F S2x512x64 .f32
  | 0 => accV.view.writes (Elt F) accV.view.junk (diagV (I.d0 i) (I.d1 i) (I.d0 i).sm (I.d1 i).sm)
  | n + 1 => if h : n < (k0_t1_loop i).trips then
      stepV (I.b0 i ⟨n, h⟩) (I.b1 i ⟨n, h⟩) (I.b0 i ⟨n, h⟩).s (I.b1 i ⟨n, h⟩).s (I.vAt i n) else I.vAt i n

/-- The queries' accumulator after the block on the diagonal. -/
theorem Inp.qAt_zero (I : Inp F) (i : grid0.Coords) (f : Vec F S2x16384x128 .f32) : I.qAt i f 0 =
    stepQ (k0_off1 i) (k0_off4 i) (k0_off1_inb i) (k0_off4_inb i) (I.d0 i) (I.d1 i) (I.d0 i).sm (I.d1 i).sm (clrQ i f) := by rw [Inp.qAt]
/-- The queries' accumulator after one more block below the diagonal. -/
theorem Inp.qAt_succ (I : Inp F) (i : grid0.Coords) (f : Vec F S2x16384x128 .f32) (n : ℕ) : I.qAt i f (n + 1) =
    if h : n < (k0_t1_loop i).trips then
      stepQ (k0_off7 i ⟨n, h⟩) (k0_off10 i ⟨n, h⟩) (k0_off7_inb i ⟨n, h⟩) (k0_off10_inb i ⟨n, h⟩) (I.b0 i ⟨n, h⟩) (I.b1 i ⟨n, h⟩)
        (I.b0 i ⟨n, h⟩).s (I.b1 i ⟨n, h⟩).s (I.qAt i f n) else I.qAt i f n := by rw [Inp.qAt]
/-- The keys' accumulator after the block on the diagonal. -/
theorem Inp.kAt_zero (I : Inp F) (i : grid0.Coords) : I.kAt i 0 =
    accK.view.writes (Elt F) accK.view.junk (diagK (I.d0 i) (I.d1 i) (I.d0 i).sm (I.d1 i).sm) := by rw [Inp.kAt]
/-- The keys' accumulator after one more block. -/
theorem Inp.kAt_succ (I : Inp F) (i : grid0.Coords) (n : ℕ) : I.kAt i (n + 1) =
    if h : n < (k0_t1_loop i).trips then
      stepK (I.b0 i ⟨n, h⟩) (I.b1 i ⟨n, h⟩) (I.b0 i ⟨n, h⟩).s (I.b1 i ⟨n, h⟩).s (I.kAt i n) else I.kAt i n := by rw [Inp.kAt]
/-- The values' accumulator after the block on the diagonal. -/
theorem Inp.vAt_zero (I : Inp F) (i : grid0.Coords) : I.vAt i 0 =
    accV.view.writes (Elt F) accV.view.junk (diagV (I.d0 i) (I.d1 i) (I.d0 i).sm (I.d1 i).sm) := by rw [Inp.vAt]
/-- The values' accumulator after one more block. -/
theorem Inp.vAt_succ (I : Inp F) (i : grid0.Coords) (n : ℕ) : I.vAt i (n + 1) =
    if h : n < (k0_t1_loop i).trips then
      stepV (I.b0 i ⟨n, h⟩) (I.b1 i ⟨n, h⟩) (I.b0 i ⟨n, h⟩).s (I.b1 i ⟨n, h⟩).s (I.vAt i n) else I.vAt i n := by rw [Inp.vAt]

/-- The three accumulators at the end of a point. -/
def Inp.finQ (I : Inp F) (i : grid0.Coords) (f : Vec F S2x16384x128 .f32) : Vec F S2x16384x128 .f32 := I.qAt i f (k0_t1_loop i).trips
def Inp.finK (I : Inp F) (i : grid0.Coords) : Vec F S2x512x128 .f32 := I.kAt i (k0_t1_loop i).trips
def Inp.finV (I : Inp F) (i : grid0.Coords) : Vec F S2x512x64 .f32 := I.vAt i (k0_t1_loop i).trips

section
variable (c : Dev nD) (i : grid0.Coords)
  (arg2 : Memref sig .tc .vmem S2x16384x128 .f32) (harg2 : arg2.IsWhole)
  (arg3 : Memref sig .tc .vmem S2x512x128 .bf16) (harg3 : arg3.IsWhole)
  (arg4 : Memref sig .tc .vmem S2x512x128 .bf16) (harg4 : arg4.IsWhole)
  (arg5 : Memref sig .tc .vmem S16384x128 .bf16) (harg5 : arg5.IsWhole)
  (arg6 : Memref sig .tc .vmem S2x32x1x512 .f32) (harg6 : arg6.IsWhole)
  (arg7 : Memref sig .tc .vmem S2x32x1x512 .f32) (harg7 : arg7.IsWhole)
  (arg9 : Memref sig .tc .vmem S2x512x128 .f32) (harg9 : arg9.IsWhole)
  (arg10 : Memref sig .tc .vmem S2x512x64 .f32) (harg10 : arg10.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (f9 : BufTy.Contents (Elt F) arg9.view.ty) (f10 : BufTy.Contents (Elt F) arg10.view.ty)

/-- The diagonal step from the two heads' blocks alone. -/
theorem diagAcc_of (b0 b1 : Blk F) (h0 : dblk0 i arg2 arg3 arg4 arg5 arg6 arg7 X2 X3 X4 X5 X6 X7 = b0) (h1 : dblk1 i arg2 arg3 arg4 arg5 arg6 arg7 X2 X3 X4 X5 X6 X7 = b1) (a : Acc F) :
    diagAcc i arg2 arg3 arg4 arg5 arg6 arg7 X2 X3 X4 X5 X6 X7 a = ⟨stepQ (k0_off1 i) (k0_off4 i) (k0_off1_inb i) (k0_off4_inb i) b0 b1 b0.sm b1.sm (clrQ i a.q),
      accK.view.writes (Elt F) accK.view.junk (diagK b0 b1 b0.sm b1.sm), accV.view.writes (Elt F) accV.view.junk (diagV b0 b1 b0.sm b1.sm)⟩ := by
  subst h0 h1; unfold diagAcc; exact .refl _

/-- One trip of the loop from the two heads' blocks alone. -/
theorem tripAcc_of (k : Fin (k0_t1_loop i).trips) (b0 b1 : Blk F) (h0 : blk0 i arg2 arg3 arg4 arg5 arg6 arg7 X2 X3 X4 X5 X6 X7 k = b0) (h1 : blk1 i arg2 arg3 arg4 arg5 arg6 arg7 X2 X3 X4 X5 X6 X7 k = b1) (a : Acc F) :
    tripAcc i arg2 arg3 arg4 arg5 arg6 arg7 X2 X3 X4 X5 X6 X7 k a = ⟨stepQ (k0_off7 i k) (k0_off10 i k) (k0_off7_inb i k) (k0_off10_inb i k) b0 b1 b0.s b1.s a.q,
      stepK b0 b1 b0.s b1.s a.k, stepV b0 b1 b0.s b1.s a.v⟩ := by
  subst h0 h1; unfold tripAcc; exact .refl _

section
variable (I : Inp F) (e2 : arg2.view.read (Elt F) X2 = I.q) (e3 : arg3.view.read (Elt F) X3 = I.k) (e4 : arg4.view.read (Elt F) X4 = I.v)
  (e5 : arg5.view.read (Elt F) X5 = I.d) (e6 : arg6.view.read (Elt F) X6 = I.l) (e7 : arg7.view.read (Elt F) X7 = I.t)
include e2 e3 e4 e5 e6 e7

/-- What a step reads depends on the blocks alone, not on the memory that holds them. -/
theorem blkA_eq (o2 : Fin 3 → Nat) (h2 : ∀ a, o2 a + S1x512x128.size a ≤ S2x16384x128.size a)
    (o5 : Fin 2 → Nat) (h5 : ∀ a, o5 a + S512x64.size a ≤ S16384x128.size a)
    (o6 : Fin 4 → Nat) (h6 : ∀ a, o6 a + S1x1x1x512.size a ≤ S2x32x1x512.size a)
    (oh : Fin 3 → Nat) (hk : ∀ a, oh a + S1x512x128.size a ≤ S2x512x128.size a) (hv : ∀ a, oh a + S1x512x64.size a ≤ S2x512x128.size a) :
    blkA arg2 arg3 arg4 arg5 arg6 arg7 X2 X3 X4 X5 X6 X7 o2 h2 o5 h5 o6 h6 oh hk hv = I.blk o2 h2 o5 h5 o6 h6 oh hk hv := by
  cases I; subst e2 e3 e4 e5 e6 e7; rfl

/-- The masked step's accumulators, as functions of the blocks. -/
theorem diagAcc_eq (a : Acc F) : diagAcc i arg2 arg3 arg4 arg5 arg6 arg7 X2 X3 X4 X5 X6 X7 a = ⟨I.qAt i a.q 0, I.kAt i 0, I.vAt i 0⟩ := by
  have h0 : dblk0 i arg2 arg3 arg4 arg5 arg6 arg7 X2 X3 X4 X5 X6 X7 = I.d0 i := blkA_eq arg2 arg3 arg4 arg5 arg6 arg7 X2 X3 X4 X5 X6 X7 I e2 e3 e4 e5 e6 e7 _ _ _ _ _ _ _ _ _
  have h1 : dblk1 i arg2 arg3 arg4 arg5 arg6 arg7 X2 X3 X4 X5 X6 X7 = I.d1 i := blkA_eq arg2 arg3 arg4 arg5 arg6 arg7 X2 X3 X4 X5 X6 X7 I e2 e3 e4 e5 e6 e7 _ _ _ _ _ _ _ _ _
  refine (diagAcc_of i arg2 arg3 arg4 arg5 arg6 arg7 X2 X3 X4 X5 X6 X7 _ _ h0 h1 a).trans ?_
  rw [I.qAt_zero, I.kAt_zero, I.vAt_zero]

/-- One trip's accumulators, as functions of the blocks. -/
theorem tripAcc_eq (k : Fin (k0_t1_loop i).trips) (a : Acc F) : tripAcc i arg2 arg3 arg4 arg5 arg6 arg7 X2 X3 X4 X5 X6 X7 k a =
    ⟨stepQ (k0_off7 i k) (k0_off10 i k) (k0_off7_inb i k) (k0_off10_inb i k) (I.b0 i k) (I.b1 i k) (I.b0 i k).s (I.b1 i k).s a.q,
      stepK (I.b0 i k) (I.b1 i k) (I.b0 i k).s (I.b1 i k).s a.k, stepV (I.b0 i k) (I.b1 i k) (I.b0 i k).s (I.b1 i k).s a.v⟩ := by
  have h0 : blk0 i arg2 arg3 arg4 arg5 arg6 arg7 X2 X3 X4 X5 X6 X7 k = I.b0 i k := blkA_eq arg2 arg3 arg4 arg5 arg6 arg7 X2 X3 X4 X5 X6 X7 I e2 e3 e4 e5 e6 e7 _ _ _ _ _ _ _ _ _
  have h1 : blk1 i arg2 arg3 arg4 arg5 arg6 arg7 X2 X3 X4 X5 X6 X7 k = I.b1 i k := blkA_eq arg2 arg3 arg4 arg5 arg6 arg7 X2 X3 X4 X5 X6 X7 I e2 e3 e4 e5 e6 e7 _ _ _ _ _ _ _ _ _
  exact tripAcc_of i arg2 arg3 arg4 arg5 arg6 arg7 X2 X3 X4 X5 X6 X7 k _ _ h0 h1 a

/-- The accumulators before trip `n`, as functions of the blocks. -/
theorem accAt_eq (a : Acc F) (n : ℕ) :
    accAt i arg2 arg3 arg4 arg5 arg6 arg7 X2 X3 X4 X5 X6 X7 (diagAcc i arg2 arg3 arg4 arg5 arg6 arg7 X2 X3 X4 X5 X6 X7 a) n = ⟨I.qAt i a.q n, I.kAt i n, I.vAt i n⟩ := by
  induction n with
  | zero => exact diagAcc_eq i arg2 arg3 arg4 arg5 arg6 arg7 X2 X3 X4 X5 X6 X7 I e2 e3 e4 e5 e6 e7 a
  | succ n ih =>
    rw [accAt, ih, I.qAt_succ, I.kAt_succ, I.vAt_succ]
    by_cases h : n < (k0_t1_loop i).trips
    · rw [dif_pos h, dif_pos h, dif_pos h, dif_pos h]
      exact tripAcc_eq i arg2 arg3 arg4 arg5 arg6 arg7 X2 X3 X4 X5 X6 X7 I e2 e3 e4 e5 e6 e7 ⟨n, h⟩ _
    · rw [dif_neg h, dif_neg h, dif_neg h, dif_neg h]

/-- The accumulators at the end of a point, as functions of the blocks. -/
theorem endAcc_eq (a : Acc F) : endAcc i arg2 arg3 arg4 arg5 arg6 arg7 X2 X3 X4 X5 X6 X7 a = ⟨I.finQ i a.q, I.finK i, I.finV i⟩ :=
  accAt_eq i arg2 arg3 arg4 arg5 arg6 arg7 X2 X3 X4 X5 X6 X7 I e2 e3 e4 e5 e6 e7 a _
end

/-- The block of the keys' gradient a point writes out. -/
theorem read_outK (k : Vec F S2x512x128 .f32) : arg9.view.read (Elt F) (outK arg9 f9 k) = k0_pay6 k := by
  have h0 : (![0, 0, 0] : Fin 3 → Nat) = fun _ => 0 := by decide
  unfold outK
  refine (View.read_writes_eq_canon arg9.view f9 _ fun y => ⟨_, List.Mem.head _, View.mem_set_unit_zero h0 (by decide) y⟩).trans ?_
  refine (View.canon_unit_zero h0 _ _).trans (congrArg k0_pay6 ?_)
  exact View.ld_unit_zero h0 _ k

/-- The block of the values' gradient a point writes out. -/
theorem read_outV (v : Vec F S2x512x64 .f32) : arg10.view.read (Elt F) (outV arg10 f10 v) = v := by
  have h0 : (![0, 0, 0] : Fin 3 → Nat) = fun _ => 0 := by decide
  unfold outV
  refine (View.read_writes_eq_canon arg10.view f10 _ fun y => ⟨_, List.Mem.head _, View.mem_set_unit_zero h0 (by decide) y⟩).trans ?_
  refine (View.canon_unit_zero h0 _ _).trans ?_
  exact View.ld_unit_zero h0 _ v
end
end Cert.KernelIdeal.Hand
-- ==== Proof.Copy.lean ====
module

public import proofs.«01_k».proof.Proof.Point

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The scaled accumulator, as one written piece. -/
def scaledL (q : BufTy.Contents (Elt F) accQ.view.ty) : List (View.Piece (Elt F) S2x16384x128 .f32) :=
  [⟨Rect.unit (s := S2x16384x128) ![0, 0, 0] S2x16384x128.size inb_S2x16384x128_S2x16384x128_0_0_0,
    k0_pay7 (View.readAt (Elt F) accQ.view (Rect.unit (s := S2x16384x128) ![0, 0, 0] S2x16384x128.size inb_S2x16384x128_S2x16384x128_0_0_0).toLoadRect q)⟩]

/-- The queries' accumulator scaled. -/
def scaled (q : BufTy.Contents (Elt F) accQ.view.ty) : BufTy.Contents (Elt F) accQ.view.ty := accQ.view.writes (Elt F) q (scaledL q)

/-- The array of the queries' gradient with the point's pair of heads copied in. -/
def outH (i : grid0.Coords) (hc2 : k0_cond2 i = 1#1) (h : BufTy.Contents (Elt F) outQ.view.ty) (q : BufTy.Contents (Elt F) accQ.view.ty) :
    BufTy.Contents (Elt F) outQ.view.ty :=
  View.write (Elt F) (outQ.slice (Rect.unit (s := S16x16384x128) (k0_off19 i) S2x16384x128.size (k0_off19_inb i hc2)) (fun _ => rfl)).view h
    (View.read (Elt F) accQ.view (scaled q)) Finset.univ

/-- The accumulator held with a scaled piece written is held scaled. -/
theorem pt_scaled (c : Dev nD) {X Y : BufTy.Contents (Elt F) accQ.view.ty} {L : List (View.Piece (Elt F) S2x16384x128 .f32)} (h : X = Y)
    (hL : L = scaledL Y) :
    (accQ.view.loc (c : Thread nD τ) ↦[accQ.view.set]{fullShare} accQ.view.writes (Elt F) X L : sProp 𝕄)
      ⊢ (accQ.view.loc (c : Thread nD τ) ↦[accQ.view.set]{fullShare} scaled Y) := by
  subst h hL; exact .rfl

end Cert.KernelIdeal.Hand
-- ==== Proof.Data.lean ====
module

public import proofs.«01_k».proof.Proof.Sem
public import proofs.«01_k».proof.Proof.Copy
public import proofs.«01_k».proof.Proof.Gen.KernelIdeal.Frame
public import Idealize.ShloMosaic.Lib.Pipeline.FrameValue

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## Which points clear, and which copy out -/

/-- The word that says a point is the first of its pair of heads. -/
abbrev clrW (i : grid0.Coords) : BitVec 1 :=
  Scalar.cmpi .ne (Scalar.extui (Scalar.cmpi .eq (BitVec.ofNat 32 (i 1).val) 0#32) : BitVec 32) 0#32

/-- The queries' accumulator is cleared exactly at the first block of keys. -/
theorem clrW_iff (i : grid0.Coords) : clrW i = 1#1 ↔ (i 1).val = 0 := by
  have h : ∀ n : Fin 32, Scalar.cmpi .ne (Scalar.extui (Scalar.cmpi .eq (BitVec.ofNat 32 n.val) 0#32) : BitVec 32) 0#32 = 1#1 ↔ n.val = 0 := by
    decide +kernel
  exact h (i 1)

/-- The copy out runs exactly at the last block of keys. -/
theorem cond2_iff (i : grid0.Coords) : k0_cond2 i = 1#1 ↔ (i 1).val = 31 := by
  have h : ∀ n : Fin 32, Scalar.cmpi .ne (Scalar.extui (Scalar.cmpi .eq (BitVec.ofNat 32 n.val) 31#32) : BitVec 32) 0#32 = 1#1 ↔ n.val = 31 := by
    decide +kernel
  exact h (i 1)

/-- The block of keys of a point. -/
theorem coords_1 (t : Fin grid0.N) : (grid0.coords t 1).val = t.val % 32 := by
  have h := Pipeline.Grid.coords_val (G := grid0) t 1 (S := 1) (B := 32) (by decide) rfl
  simpa using h

/-- The pair of heads of a point. -/
theorem coords_0 (t : Fin grid0.N) : (grid0.coords t 0).val = t.val / 32 := by
  have h := Pipeline.Grid.coords_val (G := grid0) t 0 (S := 32) (B := 8) (by decide) rfl
  have ht : t.val < 256 := N_0 ▸ t.isLt
  rw [h]; omega

/-- A point that clears the accumulator forgets what it held. -/
theorem clrQ_forget (i : grid0.Coords) (hc : clrW i = 1#1) (f f' : BufTy.Contents (Elt F) accQ.view.ty) : clrQ i f = clrQ i f' := by
  unfold clrQ; rw [dif_pos hc, dif_pos hc]
  have e : ∀ g : BufTy.Contents (Elt F) accQ.view.ty, accQ.view.read (Elt F) g = g := fun g => View.read_whole cc0_scratch0 g
  have h := View.read_writes_of_cover_last (Val := Elt F) accQ.view f accQ.view f'
    (⟨Rect.unit (s := S2x16384x128) ![0, 0, 0] S2x16384x128.size inb_S2x16384x128_S2x16384x128_0_0_0, k0_pay38⟩ : View.Piece (Elt F) S2x16384x128 .f32) [] []
    fun y => View.mem_set_unit_zero (by decide) inb_S2x16384x128_S2x16384x128_0_0_0 y
  exact (e _).symm.trans (h.trans (e _))

/-! ## The states between points -/

/-- The blocks point `t` is handed. -/
def inp (c : Dev nD) (t : Fin cfg0.N) : Inp F where
  q := iblk m c 0 t
  k := iblk m c 1 t
  v := iblk m c 2 t
  d := iblk m c 3 t
  l := iblk m c 4 t
  t := iblk m c 5 t

/-- The queries' accumulator after `n` points (what a point that clears leaves depends on nothing before it). -/
def qS (c : Dev nD) : ℕ → BufTy.Contents (Elt F) accQ.view.ty
  | 0 => accQ.view.junk
  | n + 1 => if h : n < cfg0.N then (inp m c ⟨n, h⟩).finQ (grid0.coords ⟨n, h⟩) (qS c n) else qS c n

/-- The queries' accumulator after one more point. -/
theorem qS_succ (c : Dev nD) (t : Fin cfg0.N) : qS m c (t.val + 1) = (inp m c t).finQ (grid0.coords t) (qS m c t.val) := by
  rw [qS, dif_pos t.isLt]

/-- The array of the queries' gradient after `n` points. -/
def hS (c : Dev nD) : ℕ → BufTy.Contents (Elt F) outQ.view.ty
  | 0 => V m c main_v42_0
  | n + 1 => if h : n < cfg0.N then
      (if hc2 : k0_cond2 (grid0.coords ⟨n, h⟩) = 1#1 then outH (grid0.coords ⟨n, h⟩) hc2 (hS c n) (qS m c (n + 1)) else hS c n) else hS c n

/-- At the last block of keys the result takes the scaled accumulator. -/
theorem hS_last (c : Dev nD) (t : Fin cfg0.N) (hc2 : k0_cond2 (grid0.coords t) = 1#1) :
    hS m c (t.val + 1) = outH (grid0.coords t) hc2 (hS m c t.val) (qS m c (t.val + 1)) := by
  rw [hS, dif_pos t.isLt]; exact dif_pos hc2

/-- At every other point the result stays. -/
theorem hS_mid (c : Dev nD) (t : Fin cfg0.N) (hc2 : ¬ k0_cond2 (grid0.coords t) = 1#1) : hS m c (t.val + 1) = hS m c t.val := by
  rw [hS, dif_pos t.isLt]; exact dif_neg hc2

/-- What is known of the queries' accumulator before point `n`: all of it, unless the point clears it. -/
def qOK (c : Dev nD) (n : ℕ) (f : BufTy.Contents (Elt F) accQ.view.ty) : Prop := n % 32 ≠ 0 → f = qS m c n

/-- What a point makes of the accumulator it finds. -/
theorem finQ_qS (c : Dev nD) (t : Fin cfg0.N) (f : BufTy.Contents (Elt F) accQ.view.ty) (hf : qOK m c t.val f) :
    (inp m c t).finQ (grid0.coords t) f = qS m c (t.val + 1) := by
  rw [qS_succ]
  by_cases h : t.val % 32 = 0
  · have hc : clrW (grid0.coords t) = 1#1 := (clrW_iff _).mpr ((coords_1 t).trans h)
    have e : ∀ n, (inp m c t).qAt (grid0.coords t) f n = (inp m c t).qAt (grid0.coords t) (qS m c t.val) n := by
      intro n
      induction n with
      | zero => rw [Inp.qAt_zero, Inp.qAt_zero, clrQ_forget _ hc f (qS m c t.val)]
      | succ n ih => rw [Inp.qAt_succ, Inp.qAt_succ, ih]
    exact e _
  · rw [hf h]

/-! ## The run's data -/

/-- The body's own DMA cell. -/
abbrev osem0 : Fin 1 → SemLoc sig := fun j => (![SemLoc.dma 12] : Fin 1 → SemLoc sig) j
/-- The copy's semaphore is the launch's own. -/
theorem ownSemFacts0 : Pipeline.OwnSemFacts spec0 osem0 := by decide
def R0 : Finset (Ref sig .tc) := {main_v42_0}
/-- The copied result is none of the pipeline's arrays. -/
theorem R0_sub : R0 ⊆ Pipeline.restRefs sig spec0 \ (∅ : Finset (Ref sig .tc)) := by decide
/-- No buffer is held apart. -/
theorem H0_sub : (∅ : Finset (Ref sig .tc)) ⊆ Pipeline.restRefs sig spec0 := Finset.empty_subset _

/-- The invariant before point `n`. -/
def Phi (c : Dev nD) (n : ℕ) : sProp 𝕄 :=
  iprop((∃ f, (accQ.view.loc (c : Thread nD τ) ↦[accQ.view.set]{fullShare} f) ∗ ⌜qOK m c n f⌝)
    ∗ (∃ f, accK.view.loc (c : Thread nD τ) ↦[accK.view.set]{fullShare} f) ∗ (∃ f, accV.view.loc (c : Thread nD τ) ↦[accV.view.set]{fullShare} f)
    ∗ (∃ r, prngReg c r) ∗ semVal ((c : Thread nD τ), SemLoc.dma 12) 0
    ∗ (outQ.view.loc (c : Thread nD τ) ↦[outQ.view.set]{fullShare} hS m c n))

def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay6 ((inp m c t).finK (grid0.coords t))
    | ⟨7, _⟩ => (inp m c t).finV (grid0.coords t)
  Φ t := Phi m c t.val
  q _ := fullShare
  owed _ := 0

/-- A window's array starts with what the host left in it. -/
theorem A_eq (c : Dev nD) (w : Fin cfg0.W) : (dats m 0 c).A w = V m c (Pipeline.arrRef spec0 w) := by
  dsimp only [dats]
/-- A point leaves input window 0 as it was. -/
theorem after0_0 (c : Dev nD) (t : Fin cfg0.N) : (dats m 0 c).after 0 t = iblk m c 0 t := by dsimp only [dats]
/-- A point leaves input window 1 as it was. -/
theorem after0_1 (c : Dev nD) (t : Fin cfg0.N) : (dats m 0 c).after 1 t = iblk m c 1 t := by dsimp only [dats]
/-- A point leaves input window 2 as it was. -/
theorem after0_2 (c : Dev nD) (t : Fin cfg0.N) : (dats m 0 c).after 2 t = iblk m c 2 t := by dsimp only [dats]
/-- A point leaves input window 3 as it was. -/
theorem after0_3 (c : Dev nD) (t : Fin cfg0.N) : (dats m 0 c).after 3 t = iblk m c 3 t := by dsimp only [dats]
/-- A point leaves input window 4 as it was. -/
theorem after0_4 (c : Dev nD) (t : Fin cfg0.N) : (dats m 0 c).after 4 t = iblk m c 4 t := by dsimp only [dats]
/-- A point leaves input window 5 as it was. -/
theorem after0_5 (c : Dev nD) (t : Fin cfg0.N) : (dats m 0 c).after 5 t = iblk m c 5 t := by dsimp only [dats]
/-- After a point the keys' window holds its gradient. -/
theorem after0_6 (c : Dev nD) (t : Fin cfg0.N) : (dats m 0 c).after 6 t = k0_pay6 ((inp m c t).finK (grid0.coords t)) := by dsimp only [dats]
/-- After a point the values' window holds its gradient. -/
theorem after0_7 (c : Dev nD) (t : Fin cfg0.N) : (dats m 0 c).after 7 t = (inp m c t).finV (grid0.coords t) := by dsimp only [dats]

/-- Before a point input window 0 holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Pipeline.Dat.blockOf iblk; rw [A_eq]; try rfl) t d).trans
    (by unfold Pipeline.Dat.fetched Pipeline.Dat.blockOf iblk; rw [A_eq]; try rfl)
/-- Before a point input window 1 holds its block. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Pipeline.Dat.blockOf iblk; rw [A_eq]; try rfl) t d).trans
    (by unfold Pipeline.Dat.fetched Pipeline.Dat.blockOf iblk; rw [A_eq]; try rfl)
/-- Before a point input window 2 holds its block. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Pipeline.Dat.blockOf iblk; rw [A_eq]; try rfl) t d).trans
    (by unfold Pipeline.Dat.fetched Pipeline.Dat.blockOf iblk; rw [A_eq]; try rfl)
/-- Before a point input window 3 holds its block. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Pipeline.Dat.blockOf iblk; rw [A_eq]; try rfl) t d).trans
    (by unfold Pipeline.Dat.fetched Pipeline.Dat.blockOf iblk; rw [A_eq]; try rfl)
/-- Before a point input window 4 holds its block. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Pipeline.Dat.blockOf iblk; rw [A_eq]; try rfl) t d).trans
    (by unfold Pipeline.Dat.fetched Pipeline.Dat.blockOf iblk; rw [A_eq]; try rfl)
/-- Before a point input window 5 holds its block. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Pipeline.Dat.blockOf iblk; rw [A_eq]; try rfl) t d).trans
    (by unfold Pipeline.Dat.fetched Pipeline.Dat.blockOf iblk; rw [A_eq]; try rfl)

/-! ## @main up to the region, at this algebra -/

set_option maxHeartbeats 800000 in
/-- The program is its host part followed by the launch. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- What the buffers outside the pipeline hold at the end. -/
def G (c : Dev nD) (b : Ref sig .tc) : Buf (Elt F) ((c : Thread nD τ).loc b) :=
  if h : b = main_v42_0 then h ▸ hS m c cfg0.N else V m c b

/-- What the launch leaves in the copied result. -/
theorem G_eq (c : Dev nD) : G m c main_v42_0 = hS m c cfg0.N := by unfold G; rw [dif_pos rfl]

/-- The launch's own resources, written out: accumulators, register, semaphore and copied result. -/
theorem PhiDRG_eq (c : Dev nD) (W : (c : Dev nD) → (b : Ref sig .tc) → Buf (Elt F) ((c : Thread nD τ).loc b)) :
    (Pipeline.ΦDRG osem0 spec0 ∅ R0 (V m) W c : sProp 𝕄)
      = iprop(iprop((∃ f, accQ.view.loc (c : Thread nD τ) ↦[accQ.view.set]{fullShare} f) ∗ (∃ f, accK.view.loc (c : Thread nD τ) ↦[accK.view.set]{fullShare} f)
            ∗ (∃ f, accV.view.loc (c : Thread nD τ) ↦[accV.view.set]{fullShare} f))
          ∗ (∃ r, prngReg c r) ∗ semVal ((c : Thread nD τ), SemLoc.dma 12) 0 ∗ emp
          ∗ (outQ.view.loc (c : Thread nD τ) ↦[outQ.view.set]{fullShare} W c main_v42_0)) := by
  rw [Pipeline.ΦDRG_eq, scopedRest0_eq, Pipeline.ownSems0_eq_of_list c osem0 [0] (by decide) (by decide), BI.bigSep_empty]
  unfold R0
  rw [Pipeline.routed_singleton]
  simp only [accQ, accK, accV, outQ, Memref.view_whole, View.set_whole]; rfl

/-- The launch's resources give the first point's. -/
theorem hin (c : Dev nD) : Pipeline.ΦDRG osem0 spec0 ∅ R0 (V m) (V m) c ⊢ (dats m 0 c).Φ 0 := by
  rw [PhiDRG_eq, show (dats m 0 c).Φ 0 = Phi m c 0 from rfl]; unfold Phi
  iintro ⟨⟨⟨%f, HQ⟩, HK, HV⟩, Hg, Hs, -, Ho⟩
  isplitl [HQ]
  · iexists f; isplitl [HQ]; · iexact HQ
    ipureintro; intro h; exact absurd rfl h
  isplitl [HK]; · iexact HK
  isplitl [HV]; · iexact HV
  isplitl [Hg]; · iexact Hg
  isplitl [Hs]; · iexact Hs
  iexact Ho

/-- The last point's resources give the launch's. -/
theorem hout (c : Dev nD) : (dats m 0 c).Φ (Fin.last cfg0.N) ⊢ Pipeline.ΦDRG osem0 spec0 ∅ R0 (V m) (G m) c := by
  rw [PhiDRG_eq, G_eq, show (dats m 0 c).Φ (Fin.last cfg0.N) = Phi m c cfg0.N from rfl]; unfold Phi
  iintro ⟨⟨%f, HQ, -⟩, HK, HV, Hg, Hs, Ho⟩
  isplitl [HQ HK HV]
  · isplitl [HQ]; · iexists f; iexact HQ
    isplitl [HK]; · iexact HK
    iexact HV
  isplitl [Hg]; · iexact Hg
  isplitl [Hs]; · iexact Hs
  isplitr; · itrivial
  iexact Ho

end Cert.KernelIdeal.Hand
-- ==== Proof.Mid.lean ====
module

public import proofs.«01_k».proof.Proof.Point

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (i : grid0.Coords)
  (arg2 : Memref sig .tc .vmem S2x16384x128 .f32) (harg2 : arg2.IsWhole)
  (arg3 : Memref sig .tc .vmem S2x512x128 .bf16) (harg3 : arg3.IsWhole)
  (arg4 : Memref sig .tc .vmem S2x512x128 .bf16) (harg4 : arg4.IsWhole)
  (arg5 : Memref sig .tc .vmem S16384x128 .bf16) (harg5 : arg5.IsWhole)
  (arg6 : Memref sig .tc .vmem S2x32x1x512 .f32) (harg6 : arg6.IsWhole)
  (arg7 : Memref sig .tc .vmem S2x32x1x512 .f32) (harg7 : arg7.IsWhole)
  (arg9 : Memref sig .tc .vmem S2x512x128 .f32) (harg9 : arg9.IsWhole)
  (arg10 : Memref sig .tc .vmem S2x512x64 .f32) (harg10 : arg10.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (f9 : BufTy.Contents (Elt F) arg9.view.ty) (f10 : BufTy.Contents (Elt F) arg10.view.ty)

/-- A point that is not the last of its pair of heads, run. -/
theorem run_mid (hc2 : ¬ k0_cond2 i = 1#1) (a : Acc F) (K : PUnit → sProp 𝕄) :
    iprop(held (F := F) c arg2 arg3 arg4 arg5 arg6 arg7 X2 X3 X4 X5 X6 X7 a
      ∗ (arg9.view.loc (c : Thread nD τ) ↦[arg9.view.set]{fullShare} f9) ∗ (arg10.view.loc (c : Thread nD τ) ↦[arg10.view.set]{fullShare} f10)
      ∗ (iprop(held (F := F) c arg2 arg3 arg4 arg5 arg6 arg7 X2 X3 X4 X5 X6 X7 (endAcc i arg2 arg3 arg4 arg5 arg6 arg7 X2 X3 X4 X5 X6 X7 a)
        ∗ (arg9.view.loc (c : Thread nD τ) ↦[arg9.view.set]{fullShare} outK arg9 f9 (endAcc i arg2 arg3 arg4 arg5 arg6 arg7 X2 X3 X4 X5 X6 X7 a).k)
        ∗ (arg10.view.loc (c : Thread nD τ) ↦[arg10.view.set]{fullShare} outV arg10 f10 (endAcc i arg2 arg3 arg4 arg5 arg6 arg7 X2 X3 X4 X5 X6 X7 a).v)) -∗ K ⟨⟩))
      ⊢ wp frame (wpE (defs₀ (F := F)) Variants.none (c : Thread nD τ) none) Set.univ
          (cc0_c_attn_bwd (F := F) i arg2 harg2 arg3 harg3 arg4 harg4 arg5 harg5 arg6 harg6 arg7 harg7 outQ (Memref.isWhole_whole _) arg9 harg9 arg10 harg10 accQ (Memref.isWhole_whole _) accK (Memref.isWhole_whole _) accV (Memref.isWhole_whole _) cc0_scratch3) K := by
  simp only [cc0_c_attn_bwd_eq_skeleton]; unfold cc0_c_attn_bwd_skel
  iintro ⟨⟨H2, H3, H4, H5, H6, H7, H11, H12, H13⟩, H9, H10, Hk⟩
  sl_exec
  sl_step
  have kK : run_mid.sl.H12_3 i arg2 arg3 arg4 arg5 arg6 arg7 X2 X3 X4 X5 X6 X7 = diagK (dblk0 i arg2 arg3 arg4 arg5 arg6 arg7 X2 X3 X4 X5 X6 X7) (dblk1 i arg2 arg3 arg4 arg5 arg6 arg7 X2 X3 X4 X5 X6 X7) (dblk0 i arg2 arg3 arg4 arg5 arg6 arg7 X2 X3 X4 X5 X6 X7).sm (dblk1 i arg2 arg3 arg4 arg5 arg6 arg7 X2 X3 X4 X5 X6 X7).sm := rfl
  have kV : run_mid.sl.H13_3 i arg2 arg3 arg5 arg6 X2 X3 X5 X6 = diagV (dblk0 i arg2 arg3 arg4 arg5 arg6 arg7 X2 X3 X4 X5 X6 X7) (dblk1 i arg2 arg3 arg4 arg5 arg6 arg7 X2 X3 X4 X5 X6 X7) (dblk0 i arg2 arg3 arg4 arg5 arg6 arg7 X2 X3 X4 X5 X6 X7).sm (dblk1 i arg2 arg3 arg4 arg5 arg6 arg7 X2 X3 X4 X5 X6 X7).sm := rfl
  have kQ : accQ.view.writes (Elt F) (if hc : run_mid.sl.v2 i = 1#1 then
      accQ.view.writes (Elt F) a.1 [⟨Rect.unit (s := S2x16384x128) ![0, 0, 0] S2x16384x128.size inb_S2x16384x128_S2x16384x128_0_0_0, k0_pay38⟩] else a.q)
      [⟨Rect.unit (s := S2x16384x128) (k0_off4 i) S1x512x128.size (k0_off4_inb i), k0_pay1 (run_mid.sl.v134 i arg2 arg3 arg4 arg5 arg6 arg7 X2 X3 X4 X5 X6 X7 a)⟩,
        ⟨Rect.unit (s := S2x16384x128) (k0_off1 i) S1x512x128.size (k0_off1_inb i),
          k0_pay48 (run_mid.sl.r_3 i arg2 arg3 arg4 arg5 arg6 arg7 X2 X3 X4 X5 X6 X7) (run_mid.sl.v66 i a) (View.readAt (Elt F) arg3.view (Rect.unit (s := S2x512x128) ![0, 0, 0] S1x512x128.size inb_S2x512x128_S1x512x128_0_0_0).toLoadRect X3)⟩] = (diagAcc i arg2 arg3 arg4 arg5 arg6 arg7 X2 X3 X4 X5 X6 X7 a).q := rfl
  have key := Acc.of_eq kQ ((congrArg (accK.view.writes (Elt F) accK.view.junk) kK).trans (diagAcc_k i arg2 arg3 arg4 arg5 arg6 arg7 X2 X3 X4 X5 X6 X7 a).symm)
    ((congrArg (accV.view.writes (Elt F) accV.view.junk) kV).trans (diagAcc_v i arg2 arg3 arg4 arg5 arg6 arg7 X2 X3 X4 X5 X6 X7 a).symm)
  have eQ := end_q i arg2 arg3 arg4 arg5 arg6 arg7 X2 X3 X4 X5 X6 X7 _ _ _ a key
  have eK := end_k i arg2 arg3 arg4 arg5 arg6 arg7 X2 X3 X4 X5 X6 X7 _ _ _ a key
  have eV := end_v i arg2 arg3 arg4 arg5 arg6 arg7 X2 X3 X4 X5 X6 X7 _ _ _ a key
  iapply Hk
  isplitl [H2 H3 H4 H5 H6 H7 H11 H12 H13]
  · isplitl [H2]; · iexact H2
    isplitl [H3]; · iexact H3
    isplitl [H4]; · iexact H4
    isplitl [H5]; · iexact H5
    isplitl [H6]; · iexact H6
    isplitl [H7]; · iexact H7
    isplitl [H11]
    · iapply (pt_eq eQ); iexact H11
    isplitl [H12]
    · iapply (pt_eq eK); iexact H12
    iapply (pt_eq eV); iexact H13
  have e9 := congrArg (outK arg9 f9) eK
  have e10 := congrArg (outV arg10 f10) eV
  isplitl [H9]
  · iapply (pt_eq e9); iexact H9
  iapply (pt_eq e10); iexact H10
end
end Cert.KernelIdeal.Hand
-- ==== Proof.Last.lean ====
module

public import proofs.«01_k».proof.Proof.Copy

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (i : grid0.Coords)
  (arg2 : Memref sig .tc .vmem S2x16384x128 .f32) (harg2 : arg2.IsWhole)
  (arg3 : Memref sig .tc .vmem S2x512x128 .bf16) (harg3 : arg3.IsWhole)
  (arg4 : Memref sig .tc .vmem S2x512x128 .bf16) (harg4 : arg4.IsWhole)
  (arg5 : Memref sig .tc .vmem S16384x128 .bf16) (harg5 : arg5.IsWhole)
  (arg6 : Memref sig .tc .vmem S2x32x1x512 .f32) (harg6 : arg6.IsWhole)
  (arg7 : Memref sig .tc .vmem S2x32x1x512 .f32) (harg7 : arg7.IsWhole)
  (arg9 : Memref sig .tc .vmem S2x512x128 .f32) (harg9 : arg9.IsWhole)
  (arg10 : Memref sig .tc .vmem S2x512x64 .f32) (harg10 : arg10.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (f9 : BufTy.Contents (Elt F) arg9.view.ty) (f10 : BufTy.Contents (Elt F) arg10.view.ty)

/-- A point that is the last of its pair of heads, run: the queries' accumulator is scaled and copied out. -/
theorem run_last (hc2 : k0_cond2 i = 1#1) (a : Acc F) (h : BufTy.Contents (Elt F) outQ.view.ty) (W : Waits sig Unit) (K : PUnit → sProp 𝕄) :
    iprop(held (F := F) c arg2 arg3 arg4 arg5 arg6 arg7 X2 X3 X4 X5 X6 X7 a
      ∗ (arg9.view.loc (c : Thread nD τ) ↦[arg9.view.set]{fullShare} f9) ∗ (arg10.view.loc (c : Thread nD τ) ↦[arg10.view.set]{fullShare} f10)
      ∗ (outQ.view.loc (c : Thread nD τ) ↦[outQ.view.set]{fullShare} h) ∗ semVal ((c : Thread nD τ), SemLoc.dma 12) 0 ∗ owes (c : Thread nD τ) 0 W
      ∗ (iprop(held (F := F) c arg2 arg3 arg4 arg5 arg6 arg7 X2 X3 X4 X5 X6 X7 ⟨scaled (endAcc i arg2 arg3 arg4 arg5 arg6 arg7 X2 X3 X4 X5 X6 X7 a).q, (endAcc i arg2 arg3 arg4 arg5 arg6 arg7 X2 X3 X4 X5 X6 X7 a).k, (endAcc i arg2 arg3 arg4 arg5 arg6 arg7 X2 X3 X4 X5 X6 X7 a).v⟩
        ∗ (arg9.view.loc (c : Thread nD τ) ↦[arg9.view.set]{fullShare} outK arg9 f9 (endAcc i arg2 arg3 arg4 arg5 arg6 arg7 X2 X3 X4 X5 X6 X7 a).k)
        ∗ (arg10.view.loc (c : Thread nD τ) ↦[arg10.view.set]{fullShare} outV arg10 f10 (endAcc i arg2 arg3 arg4 arg5 arg6 arg7 X2 X3 X4 X5 X6 X7 a).v)
        ∗ (outQ.view.loc (c : Thread nD τ) ↦[outQ.view.set]{fullShare} outH i hc2 h (endAcc i arg2 arg3 arg4 arg5 arg6 arg7 X2 X3 X4 X5 X6 X7 a).q)
        ∗ semVal ((c : Thread nD τ), SemLoc.dma 12) 0 ∗ (∃ W', owes (c : Thread nD τ) 0 W')) -∗ K ⟨⟩))
      ⊢ wp frame (wpE (defs₀ (F := F)) Variants.none (c : Thread nD τ) none) Set.univ
          (cc0_c_attn_bwd (F := F) i arg2 harg2 arg3 harg3 arg4 harg4 arg5 harg5 arg6 harg6 arg7 harg7 outQ (Memref.isWhole_whole _) arg9 harg9 arg10 harg10 accQ (Memref.isWhole_whole _) accK (Memref.isWhole_whole _) accV (Memref.isWhole_whole _) cc0_scratch3) K := by
  rw [cc0_c_attn_bwd_eq_skeleton]; unfold cc0_c_attn_bwd_skel
  iintro ⟨⟨H2, H3, H4, H5, H6, H7, H11, H12, H13⟩, H9, H10, Ho, Hs, HW, Hk⟩
  sl_exec
  sl_step
  have kK : run_last.sl.H12_3 i arg2 arg3 arg4 arg5 arg6 arg7 X2 X3 X4 X5 X6 X7 = diagK (dblk0 i arg2 arg3 arg4 arg5 arg6 arg7 X2 X3 X4 X5 X6 X7) (dblk1 i arg2 arg3 arg4 arg5 arg6 arg7 X2 X3 X4 X5 X6 X7) (dblk0 i arg2 arg3 arg4 arg5 arg6 arg7 X2 X3 X4 X5 X6 X7).sm (dblk1 i arg2 arg3 arg4 arg5 arg6 arg7 X2 X3 X4 X5 X6 X7).sm := rfl
  have kV : run_last.sl.H13_3 i arg2 arg3 arg5 arg6 X2 X3 X5 X6 = diagV (dblk0 i arg2 arg3 arg4 arg5 arg6 arg7 X2 X3 X4 X5 X6 X7) (dblk1 i arg2 arg3 arg4 arg5 arg6 arg7 X2 X3 X4 X5 X6 X7) (dblk0 i arg2 arg3 arg4 arg5 arg6 arg7 X2 X3 X4 X5 X6 X7).sm (dblk1 i arg2 arg3 arg4 arg5 arg6 arg7 X2 X3 X4 X5 X6 X7).sm := rfl
  have kQ : accQ.view.writes (Elt F) (if hc : run_last.sl.v2 i = 1#1 then
      accQ.view.writes (Elt F) a.1 [⟨Rect.unit (s := S2x16384x128) ![0, 0, 0] S2x16384x128.size inb_S2x16384x128_S2x16384x128_0_0_0, k0_pay38⟩] else a.q)
      [⟨Rect.unit (s := S2x16384x128) (k0_off4 i) S1x512x128.size (k0_off4_inb i), k0_pay1 (run_last.sl.v134 i arg2 arg3 arg4 arg5 arg6 arg7 X2 X3 X4 X5 X6 X7 a)⟩,
        ⟨Rect.unit (s := S2x16384x128) (k0_off1 i) S1x512x128.size (k0_off1_inb i),
          k0_pay48 (run_last.sl.r_3 i arg2 arg3 arg4 arg5 arg6 arg7 X2 X3 X4 X5 X6 X7) (run_last.sl.v66 i a) (View.readAt (Elt F) arg3.view (Rect.unit (s := S2x512x128) ![0, 0, 0] S1x512x128.size inb_S2x512x128_S1x512x128_0_0_0).toLoadRect X3)⟩] = (diagAcc i arg2 arg3 arg4 arg5 arg6 arg7 X2 X3 X4 X5 X6 X7 a).q := rfl
  have key := Acc.of_eq kQ ((congrArg (accK.view.writes (Elt F) accK.view.junk) kK).trans (diagAcc_k i arg2 arg3 arg4 arg5 arg6 arg7 X2 X3 X4 X5 X6 X7 a).symm)
    ((congrArg (accV.view.writes (Elt F) accV.view.junk) kV).trans (diagAcc_v i arg2 arg3 arg4 arg5 arg6 arg7 X2 X3 X4 X5 X6 X7 a).symm)
  have eQ := end_q i arg2 arg3 arg4 arg5 arg6 arg7 X2 X3 X4 X5 X6 X7 _ _ _ a key
  have eK := end_k i arg2 arg3 arg4 arg5 arg6 arg7 X2 X3 X4 X5 X6 X7 _ _ _ a key
  have eV := end_v i arg2 arg3 arg4 arg5 arg6 arg7 X2 X3 X4 X5 X6 X7 _ _ _ a key
  have kS : run_last.sl.H11_1 i arg2 arg3 arg4 arg5 arg6 arg7 X2 X3 X4 X5 X6 X7 a = scaledL (endAcc i arg2 arg3 arg4 arg5 arg6 arg7 X2 X3 X4 X5 X6 X7 a).q := by
    rw [← eQ]; unfold run_last.sl.H11_1; rfl
  have e9 := congrArg (outK arg9 f9) eK
  have e10 := congrArg (outV arg10 f10) eV
  have eo := congrArg (outH i hc2 h) eQ
  iapply Hk
  isplitl [H2 H3 H4 H5 H6 H7 H11 H12 H13]
  · isplitl [H2]; · iexact H2
    isplitl [H3]; · iexact H3
    isplitl [H4]; · iexact H4
    isplitl [H5]; · iexact H5
    isplitl [H6]; · iexact H6
    isplitl [H7]; · iexact H7
    isplitl [H11]
    · iapply (pt_scaled c eQ kS); iexact H11
    isplitl [H12]
    · iapply (pt_eq eK); iexact H12
    iapply (pt_eq eV); iexact H13
  isplitl [H9]
  · iapply (pt_eq e9); iexact H9
  isplitl [H10]
  · iapply (pt_eq e10); iexact H10
  isplitl [Ho]
  · iapply (pt_eq eo); iexact Ho
  isplitl [Hs]
  · iexact Hs
  iexists _; iexact HW
end
end Cert.KernelIdeal.Hand
-- ==== Proof.Run.lean ====
module

public import proofs.«01_k».proof.Proof.Data
public import proofs.«01_k».proof.Proof.Mid
public import proofs.«01_k».proof.Proof.Last
public import proofs.«01_k».proof.Proof.Gen.KernelIdeal.Frame
public import Idealize.ShloMosaic.Lib.Pipeline.FrameValue

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## One point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

/-- Accumulators by their three contents. -/
theorem endAcc_fin (c : Dev nD) (t : Fin cfg0.N) (a : Acc F) (g0 : BufTy.Contents (Elt F) (st0_0 t).view.ty) (g1 : BufTy.Contents (Elt F) (st0_1 t).view.ty)
    (g2 : BufTy.Contents (Elt F) (st0_2 t).view.ty) (g3 : BufTy.Contents (Elt F) (st0_3 t).view.ty)
    (g4 : BufTy.Contents (Elt F) (st0_4 t).view.ty) (g5 : BufTy.Contents (Elt F) (st0_5 t).view.ty)
    (e0 : (st0_0 t).view.read (Elt F) g0 = iblk m c 0 t) (e1 : (st0_1 t).view.read (Elt F) g1 = iblk m c 1 t)
    (e2 : (st0_2 t).view.read (Elt F) g2 = iblk m c 2 t) (e3 : (st0_3 t).view.read (Elt F) g3 = iblk m c 3 t)
    (e4 : (st0_4 t).view.read (Elt F) g4 = iblk m c 4 t) (e5 : (st0_5 t).view.read (Elt F) g5 = iblk m c 5 t)
    (hq : qOK m c t.val a.q) :
    endAcc (grid0.coords t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) g0 g1 g2 g3 g4 g5 a
      = ⟨qS m c (t.val + 1), (inp m c t).finK (grid0.coords t), (inp m c t).finV (grid0.coords t)⟩ := by
  rw [endAcc_eq (grid0.coords t) _ _ _ _ _ _ g0 g1 g2 g3 g4 g5 (inp m c t) e0 e1 e2 e3 e4 e5 a, finQ_qS m c t a.q hq]

/-- One point of the grid, from what it is given to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2, after0_3, after0_4, after0_5, after0_6, after0_7]
  simp only [before0_0, before0_1, before0_2, before0_3, before0_4, before0_5]
  rw [show (dats m 0 c).Φ t.castSucc = Phi m c t.val from rfl, show (dats m 0 c).Φ t.succ = Phi m c (t.val + 1) from rfl]
  unfold Phi
  unfold Pipeline.Dat.owesAt Pipeline.owesWithin
  rw [show (dats m 0 c).owed t.castSucc = 0 from rfl, show (dats m 0 c).owed t.succ = 0 from rfl]
  unfold owns
  iintro ⟨⟨⟨%f, HQ, %hq⟩, ⟨%fk, HK⟩, ⟨%fv, HV⟩, Hg, Hs, Ho⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, -, H6⟩, ⟨%d7, %g7, -, H7⟩⟩
  have key := endAcc_fin m c t ⟨f, fk, fv⟩ g0 g1 g2 g3 g4 g5 e0 e1 e2 e3 e4 e5 hq
  by_cases hc2 : k0_cond2 (grid0.coords t) = 1#1
  · have hl : (t.val + 1) % 32 = 0 := by
      have := (cond2_iff _).mp hc2; rw [coords_1] at this; omega
    iapply (run_last (F := F) c (grid0.coords t) _ _ _ _ _ _ _ _ _ _ _ _ _ _ _ _ g0 g1 g2 g3 g4 g5 g6 g7 hc2 ⟨f, fk, fv⟩ (hS m c t.val) W)
    rw [key]
    isplitl [H0 H1 H2 H3 H4 H5 HQ HK HV]
    · isplitl [H0]; · iexact H0
      isplitl [H1]; · iexact H1
      isplitl [H2]; · iexact H2
      isplitl [H3]; · iexact H3
      isplitl [H4]; · iexact H4
      isplitl [H5]; · iexact H5
      isplitl [HQ]; · iexact HQ
      isplitl [HK]; · iexact HK
      iexact HV
    isplitl [H6]; · iexact H6
    isplitl [H7]; · iexact H7
    isplitl [Ho]; · iexact Ho
    isplitl [Hs]; · iexact Hs
    isplitl [HW]; · iexact HW
    iintro ⟨⟨H0, H1, H2, H3, H4, H5, HQ, HK, HV⟩, H6, H7, Ho, Hs, ⟨%W', HW'⟩⟩
    isplitl [HQ HK HV Hg Hs Ho]
    · isplitl [HQ]
      · iexists _; isplitl [HQ]; · iexact HQ
        ipureintro; intro h; exact absurd hl h
      isplitl [HK]; · iexists _; iexact HK
      isplitl [HV]; · iexists _; iexact HV
      isplitl [Hg]; · iexact Hg
      isplitl [Hs]; · iexact Hs
      rw [hS_last m c t hc2]; iexact Ho
    isplitl [HW']
    · iexists W'; isplitr; · ipureintro; exact fun _ _ => Or.inl trivial
      iexact HW'
    isplitl [H0]
    · iexists g0; isplitr; · ipureintro; exact e0
      iexact H0
    isplitl [H1]
    · iexists g1; isplitr; · ipureintro; exact e1
      iexact H1
    isplitl [H2]
    · iexists g2; isplitr; · ipureintro; exact e2
      iexact H2
    isplitl [H3]
    · iexists g3; isplitr; · ipureintro; exact e3
      iexact H3
    isplitl [H4]
    · iexists g4; isplitr; · ipureintro; exact e4
      iexact H4
    isplitl [H5]
    · iexists g5; isplitr; · ipureintro; exact e5
      iexact H5
    isplitl [H6]
    · iexists _; isplitr; swap; · iexact H6
      ipureintro; exact read_outK _ _ _
    · iexists _; isplitr; swap; · iexact H7
      ipureintro; exact read_outV _ _ _

  · iapply (run_mid (F := F) c (grid0.coords t) _ _ _ _ _ _ _ _ _ _ _ _ _ _ _ _ g0 g1 g2 g3 g4 g5 g6 g7 hc2 ⟨f, fk, fv⟩)
    rw [key]
    isplitl [H0 H1 H2 H3 H4 H5 HQ HK HV]
    · isplitl [H0]; · iexact H0
      isplitl [H1]; · iexact H1
      isplitl [H2]; · iexact H2
      isplitl [H3]; · iexact H3
      isplitl [H4]; · iexact H4
      isplitl [H5]; · iexact H5
      isplitl [HQ]; · iexact HQ
      isplitl [HK]; · iexact HK
      iexact HV
    isplitl [H6]; · iexact H6
    isplitl [H7]; · iexact H7
    iintro ⟨⟨H0, H1, H2, H3, H4, H5, HQ, HK, HV⟩, H6, H7⟩
    isplitl [HQ HK HV Hg Hs Ho]
    · isplitl [HQ]
      · iexists _; isplitl [HQ]; · iexact HQ
        ipureintro; intro _; rfl
      isplitl [HK]; · iexists _; iexact HK
      isplitl [HV]; · iexists _; iexact HV
      isplitl [Hg]; · iexact Hg
      isplitl [Hs]; · iexact Hs
      rw [hS_mid m c t hc2]; iexact Ho
    isplitl [HW]
    · iexists W; isplitr; · ipureintro; exact fun _ _ => Or.inl trivial
      iexact HW
    isplitl [H0]
    · iexists g0; isplitr; · ipureintro; exact e0
      iexact H0
    isplitl [H1]
    · iexists g1; isplitr; · ipureintro; exact e1
      iexact H1
    isplitl [H2]
    · iexists g2; isplitr; · ipureintro; exact e2
      iexact H2
    isplitl [H3]
    · iexists g3; isplitr; · ipureintro; exact e3
      iexact H3
    isplitl [H4]
    · iexists g4; isplitr; · ipureintro; exact e4
      iexact H4
    isplitl [H5]
    · iexists g5; isplitr; · ipureintro; exact e5
      iexact H5
    isplitl [H6]
    · iexists _; isplitr; swap; · iexact H6
      ipureintro; exact read_outK _ _ _
    · iexists _; isplitr; swap; · iexact H7
      ipureintro; exact read_outV _ _ _

/-- The pipeline's body at a point is the body with that point's slots. -/
theorem defs₀_row (t : Fin cfg0.N) :
    defs₀ (F := F) .tc cfg0.body (cfg0.bodyArgs t (cfg0.slots t)) = bodyAt0 t := by
  unfold defs₀; rw [Defs.onTc_tc]

/-- Every point meets the pipeline's demand. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- THE RUN: every array of the pipeline at the library's contents, the array of the queries' gradient at `hS`, every
    other buffer as launched, every counter at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := hin m) (hout := hout m)

/-- The arguments at the end are as launched. -/
theorem args_kept (r : PUnit × MemSt nD τ sig (Elt F)) (h : Pipeline.FramePostRG cfgs (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold R0 at h
  exact ⟨((h.toR c).2 main_arg0 (Finset.mem_sdiff.mpr ⟨Pipeline.mem_restRefs_of main_arg0 (by decide) (by decide), by decide⟩)).trans (V_main_arg0 m c),
    ((h.toR c).2 main_arg1 (Finset.mem_sdiff.mpr ⟨Pipeline.mem_restRefs_of main_arg1 (by decide) (by decide), by decide⟩)).trans (V_main_arg1 m c),
    ((h.toR c).2 main_arg2 (Finset.mem_sdiff.mpr ⟨Pipeline.mem_restRefs_of main_arg2 (by decide) (by decide), by decide⟩)).trans (V_main_arg2 m c),
    ((h.toR c).2 main_arg3 (Finset.mem_sdiff.mpr ⟨Pipeline.mem_restRefs_of main_arg3 (by decide) (by decide), by decide⟩)).trans (V_main_arg3 m c)⟩

/-- THE FRAME, at any `F`. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run_main m ρ)

end Cert.KernelIdeal.Hand
-- ==== Proof.KernelFrame.lean ====
module

public import proofs.«01_k».proof.Proof.Gen.Kernel
public import proofs.«01_k».proof.Proof.Gen.KernelIdeal
public import proofs.«01_k».proof.Proof.Run
public import Idealize.ShloMosaic.PureOps.BitExact

@[expose] public section

set_option maxRecDepth 16384
set_option maxHeartbeats 4000000

noncomputable section

namespace Cert.Kernel.Hand

open Idealize.ShloMosaic Idealize.ShloMosaic.TcCoe Idealize.SL.Sem

/-- At words a named number is the word the program prints. -/
@[reducible] def wordNames : Named Bits := ⟨fun _ _ φ b => Scalar.ofBits φ b⟩

section
local instance : Named Bits := wordNames

/-- At words the idealized kernel's body is the printed kernel's. -/
theorem body_eq : Cert.KernelIdeal.cc0_c_attn_bwd (F := Bits) = Cert.Kernel.cc0_c_attn_bwd (F := Bits) := rfl

/-- So are the bodies a launch calls. -/
theorem defs0_eq : Cert.KernelIdeal.defs₀ (F := Bits) = Cert.Kernel.defs₀ (F := Bits) := by
  unfold Cert.KernelIdeal.defs₀ Cert.Kernel.defs₀
  refine congrArg Defs.onTc (funext fun l => funext fun x => ?_)
  match l, x with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _
  | ⟨_ + 1, h⟩, _ => exact absurd h (Nat.not_lt.2 (Nat.le_add_left _ _))

/-- So are the launch's definitions. -/
theorem defs_eq : Cert.KernelIdeal.defs (F := Bits) = Cert.Kernel.defs (F := Bits) := by
  unfold Cert.KernelIdeal.defs Cert.Kernel.defs
  exact congrArg (Idealize.ShloMosaic.Pipeline.defs (Cert.KernelIdeal.pcfgs (F := Bits))) defs0_eq

/-- So is the host program. -/
theorem main_eq : Cert.KernelIdeal.main (F := Bits) = Cert.Kernel.main (F := Bits) := by
  unfold Cert.KernelIdeal.main Cert.Kernel.main
  rfl

/-- The kernel as printed, at words: every weakly fair execution of its `main` terminates without a fault, leaves the four
arguments as they were and every semaphore at zero. It is the run of the idealized text at words, where a named number is
the word it stands for. -/
theorem frame_words (m : (ℓ : Loc nD τ sig) → Buf (Elt Bits) ℓ) (g : Dev nD → PrngReg) :
    θ_run (Cert.Kernel.defs (F := Bits)) (onTc (τ := τ) (Cert.Kernel.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.KernelIdeal.Hand.frame_main (F := Bits) m g
  rw [defs_eq, main_eq] at h
  exact h
end

end Cert.Kernel.Hand
-- ==== Proof.Frames.lean ====
module

public import proofs.«01_k».proof.Defs
public import proofs.«01_k».proof.Proof.Run
public import proofs.«01_k».proof.Proof.KernelFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The printed kernel's frame, at words. -/
theorem frame_kernel : Cert.quiescent_Kernel (hKernel := Cert.Kernel.Gen.facts) :=
  fun m g _ => Cert.Kernel.Hand.frame_words m g

/-- The idealized kernel's frame. -/
theorem frame_kernel_ideal : Cert.quiescent_KernelIdeal (hKernelIdeal := Cert.KernelIdeal.Gen.facts) :=
  fun m g _ => Cert.KernelIdeal.Hand.frame_main (F := Ideal) m g

/-- The idealized reference's frame: its run read at the arguments; the program declares no semaphore. -/
theorem frame_reference : Cert.quiescent_ReferenceIdeal (hReferenceIdeal := Cert.ReferenceIdeal.Gen.facts) :=
  fun m g _ => (θ_run Cert.ReferenceIdeal.defs _ _).mono
    (fun r h => ⟨fun c => (h c).2.2.2, sem_eq_zero_of_no_sems (by decide) r.2⟩)
    (Cert.ReferenceIdeal.Value.run (F := Ideal) m g)

/-- The named constants' rule statements, one per distinct rewrite of the idealized kernel. -/
theorem preserves : Cert.preserves_Kernel_KernelIdeal :=
  ⟨IdealRules.named_const.statement Cert.KernelIdeal.κ "qscale" .f32 0x3E16C740#32
      (((3424635 / 33554432) * (Real.log 2)⁻¹ : ℝ) : EReal) rfl,
    IdealRules.named_const.statement Cert.KernelIdeal.κ "neg" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

end Cert.Proof

end
-- ==== Proof.ValBlk.lean ====
module

public import proofs.«01_k».proof.Proof.Trip
public import Idealize.ShloMosaic.Lib.Pointwise
public import Idealize.ShloMosaic.Lib.WordCmp

@[expose] public section

set_option maxRecDepth 16384
set_option maxHeartbeats 4000000

noncomputable section

namespace Cert.KernelIdeal.Hand

open Cert.KernelIdeal Cert.KernelIdeal.Gen
open Idealize.ShloMosaic

/-- The factor of the queries: the scale of the scores over the natural logarithm of two. -/
abbrev qsc : EReal := (((3424635 / 33554432) * (Real.log 2)⁻¹ : ℝ) : EReal)

/-- The reciprocal of the natural logarithm of two. -/
abbrev l2e : EReal := (((Real.log 2)⁻¹ : ℝ) : EReal)

/-- The scaled queries at an index. -/
theorem scl_apply (x : Vec Ideal S1x512x128 .f32) (r : Fin 512) (d : Fin 128) : scl x (ix2 r d) = x (ix3 0 r d) * qsc := by
  pointwise [scl]
  rfl

/-- The scores at an index: the dot product of a key and a scaled query. -/
theorem Blk.s_apply (b : Blk Ideal) (j r : Fin 512) :
    b.s (ix2 j r) = ∑ d : Fin 128, b.kb (ix3 0 j d) * scl b.qb (ix2 r d) := by
  pointwise [Blk.s, flat]

/-- The comparison of two positions of a block, as the body makes it. -/
theorem le_word (j r : Fin 512) : IntOp.cmpi CmpIPredicate.sle (IntOp.addi (BitVec.ofNat 32 j.val) 0#32) (BitVec.ofNat 32 r.val)
    = if j.val ≤ r.val then 1#1 else 0#1 := by
  have hj := j.isLt
  have hr := r.isLt
  rw [show IntOp.addi (BitVec.ofNat 32 j.val) 0#32 = BitVec.ofNat 32 j.val from BitVec.add_zero _]
  by_cases c : j.val ≤ r.val
  · rw [if_pos c]; exact (WordCmp.cmpi_sle_ofNat_eq_one_iff (by omega) (by omega)).mpr c
  · rw [if_neg c]; exact (WordCmp.cmpi_sle_ofNat_eq_zero_iff (by omega) (by omega)).mpr c

/-- The masked scores at an index: below all numbers where the key is after the query. -/
theorem Blk.sm_apply (b : Blk Ideal) (j r : Fin 512) :
    b.sm (ix2 j r) = if j.val ≤ r.val then b.s (ix2 j r) else ⊥ := by
  pointwise [Blk.sm]
  rw [le_word]
  by_cases c : j.val ≤ r.val
  · rw [if_pos c, if_pos c]; rfl
  · rw [if_neg c, if_neg c]; rfl

/-- The probabilities at an index. -/
theorem Blk.p_apply (b : Blk Ideal) (s : FVec Ideal S512x512 .f32) (j r : Fin 512) :
    b.p s (ix2 j r) = Ideal.exp2 (s (ix2 j r) - b.lb (ix4 0 0 0 r) * l2e) := by
  pointwise [Blk.p, lse2]
  rfl

/-- The gradient of the scores at an index. -/
theorem Blk.ds_apply (b : Blk Ideal) (s : FVec Ideal S512x512 .f32) (j r : Fin 512) :
    b.ds s (ix2 j r) = b.p s (ix2 j r) * ((∑ e : Fin 64, b.vb (ix3 0 j e) * b.db (ix2 r e)) - b.tb (ix4 0 0 0 r)) := by
  pointwise [Blk.ds, flatD, rowOf]

/-- The values' gradient with a block's part added, at an index. -/
theorem Blk.addV_apply (b : Blk Ideal) (s : FVec Ideal S512x512 .f32) (old : Vec Ideal S1x512x64 .f32) (j : Fin 512) (e : Fin 64) :
    b.addV s old (ix3 0 j e) = old (ix3 0 j e) + ∑ r : Fin 512, b.p s (ix2 j r) * b.db (ix2 r e) := by
  pointwise [Blk.addV, flatD]

/-- The keys' gradient with a block's part added, at an index. -/
theorem Blk.addK_apply (b : Blk Ideal) (s : FVec Ideal S512x512 .f32) (old : Vec Ideal S1x512x128 .f32) (j : Fin 512) (d : Fin 128) :
    b.addK s old (ix3 0 j d) = old (ix3 0 j d) + ∑ r : Fin 512, b.ds s (ix2 j r) * scl b.qb (ix2 r d) := by
  pointwise [Blk.addK]

/-- The queries' gradient with a block's part added, at an index. -/
theorem Blk.addQ_apply (b : Blk Ideal) (s : FVec Ideal S512x512 .f32) (old : Vec Ideal S1x512x128 .f32) (r : Fin 512) (d : Fin 128) :
    b.addQ s old (ix3 0 r d) = old (ix3 0 r d) + ∑ j : Fin 512, b.ds s (ix2 j r) * b.kb (ix3 0 j d) := by
  pointwise [Blk.addQ, flat]

end Cert.KernelIdeal.Hand
-- ==== Proof.ValHeads.lean ====
module

public import proofs.«01_k».proof.Proof.ValBlk

@[expose] public section

set_option maxRecDepth 16384
set_option maxHeartbeats 4000000

noncomputable section

namespace Cert.KernelIdeal.Hand

open Cert.KernelIdeal Cert.KernelIdeal.Gen
open Idealize.ShloMosaic

section
variable {A B C : ℕ} {sg : RefSig} {κ' : Kind} {sp : Space} {e : EltTy} {Val : EltTy → Type}
  (v : View sg κ' sp ⟨3, ![2, A, B]⟩ e) (f : v.ty.Contents Val) (off : ℕ)
  (o0 o1 : Fin 3 → ℕ) (e0 : o0 = ![0, off, 0]) (e1 : o1 = ![1, off, 0])
  (h0 : ∀ a, o0 a + (⟨3, ![1, C, B]⟩ : Shape).size a ≤ (⟨3, ![2, A, B]⟩ : Shape).size a)
  (h1 : ∀ a, o1 a + (⟨3, ![1, C, B]⟩ : Shape).size a ≤ (⟨3, ![2, A, B]⟩ : Shape).size a)
  (w0 w1 : (⟨3, ![1, C, B]⟩ : Shape).Idx → Val e) (L : List (View.Piece Val ⟨3, ![2, A, B]⟩ e))
include e1

/-- The second head's rows, after a step wrote the two heads' rows. -/
theorem heads_hit1 (a : Fin A) (x : Fin C) (b : Fin B) (ha : a.val = off + x.val) :
    v.read Val (v.writes Val f (⟨Rect.unit (s := ⟨3, ![2, A, B]⟩) o1 (⟨3, ![1, C, B]⟩ : Shape).size h1, w1⟩ :: L)) (ix3 1 a b) = w1 (ix3 0 x b) := by
  subst e1
  refine View.read_writes_cons_hit_of_coords v f (Rect.unit (s := ⟨3, ![2, A, B]⟩) _ (⟨3, ![1, C, B]⟩ : Shape).size _) _ L (ix3 0 x b : (⟨3, ![1, C, B]⟩ : Shape).Idx) _ fun d => ?_
  match d with
  | ⟨0, _⟩ => rfl
  | ⟨1, _⟩ => show a.val = off + 1 * x.val; omega
  | ⟨2, _⟩ => show b.val = 0 + 1 * b.val; omega

/-- The first head's rows are not among the second's. -/
theorem heads_skip1 (a : Fin A) (b : Fin B) :
    v.read Val (v.writes Val f (⟨Rect.unit (s := ⟨3, ![2, A, B]⟩) o1 (⟨3, ![1, C, B]⟩ : Shape).size h1, w1⟩ :: L)) (ix3 0 a b)
      = v.read Val (v.writes Val f L) (ix3 0 a b) := by
  subst e1
  exact View.read_writes_cons_miss_of_axis v f _ _ _ (0 : Fin 3) 1 1 rfl rfl rfl (Or.inl Nat.one_pos)

/-- Rows that the second head's part does not reach. -/
theorem heads_miss1 (h : Fin 2) (a : Fin A) (b : Fin B) (ha : a.val < off ∨ off + C ≤ a.val) :
    v.read Val (v.writes Val f (⟨Rect.unit (s := ⟨3, ![2, A, B]⟩) o1 (⟨3, ![1, C, B]⟩ : Shape).size h1, w1⟩ :: L)) (ix3 h a b)
      = v.read Val (v.writes Val f L) (ix3 h a b) := by
  subst e1
  exact View.read_writes_cons_miss_of_axis v f _ _ _ (1 : Fin 3) off C rfl rfl rfl ha
omit e1
include e0

/-- The first head's rows, after a step wrote them. -/
theorem heads_hit0 (a : Fin A) (x : Fin C) (b : Fin B) (ha : a.val = off + x.val) :
    v.read Val (v.writes Val f (⟨Rect.unit (s := ⟨3, ![2, A, B]⟩) o0 (⟨3, ![1, C, B]⟩ : Shape).size h0, w0⟩ :: L)) (ix3 0 a b) = w0 (ix3 0 x b) := by
  subst e0
  refine View.read_writes_cons_hit_of_coords v f (Rect.unit (s := ⟨3, ![2, A, B]⟩) _ (⟨3, ![1, C, B]⟩ : Shape).size _) _ L (ix3 0 x b : (⟨3, ![1, C, B]⟩ : Shape).Idx) _ fun d => ?_
  match d with
  | ⟨0, _⟩ => rfl
  | ⟨1, _⟩ => show a.val = off + 1 * x.val; omega
  | ⟨2, _⟩ => show b.val = 0 + 1 * b.val; omega

/-- The second head's rows are not among the first's. -/
theorem heads_skip0 (a : Fin A) (b : Fin B) :
    v.read Val (v.writes Val f (⟨Rect.unit (s := ⟨3, ![2, A, B]⟩) o0 (⟨3, ![1, C, B]⟩ : Shape).size h0, w0⟩ :: L)) (ix3 1 a b)
      = v.read Val (v.writes Val f L) (ix3 1 a b) := by
  subst e0
  exact View.read_writes_cons_miss_of_axis v f _ _ _ (0 : Fin 3) 0 1 rfl rfl rfl (Or.inr (Nat.le_refl 1))

/-- Rows that the first head's part does not reach. -/
theorem heads_miss0 (h : Fin 2) (a : Fin A) (b : Fin B) (ha : a.val < off ∨ off + C ≤ a.val) :
    v.read Val (v.writes Val f (⟨Rect.unit (s := ⟨3, ![2, A, B]⟩) o0 (⟨3, ![1, C, B]⟩ : Shape).size h0, w0⟩ :: L)) (ix3 h a b)
      = v.read Val (v.writes Val f L) (ix3 h a b) := by
  subst e0
  exact View.read_writes_cons_miss_of_axis v f _ _ _ (1 : Fin 3) off C rfl rfl rfl ha
omit e0
end

/-- A load of one head's rows at an index. -/
theorem heads_ld {A B C : ℕ} {sg : RefSig} {κ' : Kind} {sp : Space} {e : EltTy} {Val : EltTy → Type}
    (v : View sg κ' sp ⟨3, ![2, A, B]⟩ e) (f : v.ty.Contents Val) (hd : Fin 2) (off : ℕ) (o : Fin 3 → ℕ) (eo : o = ![hd.val, off, 0])
    (ho : ∀ a, o a + (⟨3, ![1, C, B]⟩ : Shape).size a ≤ (⟨3, ![2, A, B]⟩ : Shape).size a) (a : Fin A) (x : Fin C) (b : Fin B) (ha : a.val = off + x.val) :
    v.readAt Val (Rect.unit (s := ⟨3, ![2, A, B]⟩) o (⟨3, ![1, C, B]⟩ : Shape).size ho).toLoadRect f (ix3 0 x b : (⟨3, ![1, C, B]⟩ : Shape).Idx) = v.read Val f (ix3 hd a b) := by
  subst eo
  refine congrArg (v.read Val f) (funext fun d => Fin.ext ?_)
  match d with
  | ⟨0, _⟩ => show hd.val + 1 * 0 = hd.val; omega
  | ⟨1, _⟩ => show off + 1 * x.val = a.val; omega
  | ⟨2, _⟩ => show 0 + 1 * b.val = b.val; omega

/-- A load of a whole buffer at an index. -/
theorem full_ld {A B : ℕ} {sg : RefSig} {κ' : Kind} {sp : Space} {e : EltTy} {Val : EltTy → Type}
    (v : View sg κ' sp ⟨3, ![2, A, B]⟩ e) (f : v.ty.Contents Val)
    (ho : ∀ a, (![0, 0, 0] : Fin 3 → ℕ) a + (⟨3, ![2, A, B]⟩ : Shape).size a ≤ (⟨3, ![2, A, B]⟩ : Shape).size a) (h : Fin 2) (a : Fin A) (b : Fin B) :
    v.readAt Val (Rect.unit (s := ⟨3, ![2, A, B]⟩) ![0, 0, 0] (⟨3, ![2, A, B]⟩ : Shape).size ho).toLoadRect f (ix3 h a b : (⟨3, ![2, A, B]⟩ : Shape).Idx) = v.read Val f (ix3 h a b) := by
  refine congrArg (v.read Val f) (funext fun d => Fin.ext ?_)
  match d with
  | ⟨0, _⟩ => show 0 + 1 * h.val = h.val; omega
  | ⟨1, _⟩ => show 0 + 1 * a.val = a.val; omega
  | ⟨2, _⟩ => show 0 + 1 * b.val = b.val; omega

/-- A whole buffer written holds what was written. -/
theorem heads_full {A B : ℕ} {sg : RefSig} {κ' : Kind} {sp : Space} {e : EltTy} {Val : EltTy → Type}
    (v : View sg κ' sp ⟨3, ![2, A, B]⟩ e) (f : v.ty.Contents Val)
    (ho : ∀ a, (![0, 0, 0] : Fin 3 → ℕ) a + (⟨3, ![2, A, B]⟩ : Shape).size a ≤ (⟨3, ![2, A, B]⟩ : Shape).size a)
    (w : (⟨3, ![2, A, B]⟩ : Shape).Idx → Val e) (L : List (View.Piece Val ⟨3, ![2, A, B]⟩ e)) (h : Fin 2) (a : Fin A) (b : Fin B) :
    v.read Val (v.writes Val f (⟨Rect.unit (s := ⟨3, ![2, A, B]⟩) ![0, 0, 0] (⟨3, ![2, A, B]⟩ : Shape).size ho, w⟩ :: L)) (ix3 h a b) = w (ix3 h a b) := by
  refine View.read_writes_cons_hit_of_coords v f (Rect.unit (s := ⟨3, ![2, A, B]⟩) _ (⟨3, ![2, A, B]⟩ : Shape).size _) _ L (ix3 h a b : (⟨3, ![2, A, B]⟩ : Shape).Idx) _ fun d => ?_
  match d with
  | ⟨0, _⟩ => show h.val = 0 + 1 * h.val; omega
  | ⟨1, _⟩ => show a.val = 0 + 1 * a.val; omega
  | ⟨2, _⟩ => show b.val = 0 + 1 * b.val; omega

end Cert.KernelIdeal.Hand
-- ==== Proof.ValStep.lean ====
module

public import proofs.«01_k».proof.Proof.ValBlk
public import proofs.«01_k».proof.Proof.ValHeads
public import proofs.«01_k».proof.Proof.Data

@[expose] public section

set_option maxRecDepth 16384
set_option maxHeartbeats 4000000

noncomputable section

namespace Cert.KernelIdeal.Hand

open Cert.KernelIdeal Cert.KernelIdeal.Gen
open Idealize.ShloMosaic

/-- A read of the whole keys' accumulator. -/
theorem rdK (X : Vec Ideal S2x512x128 .f32) : accK.view.read (Elt Ideal) X = X := rfl

/-- One step adds to the first head's keys' gradient its block's part. -/
theorem stepK_0 (b0 b1 : Blk Ideal) (s0 s1 : FVec Ideal S512x512 .f32) (f : Vec Ideal S2x512x128 .f32) (j : Fin 512) (d : Fin 128) :
    (stepK b0 b1 s0 s1 f : Vec Ideal S2x512x128 .f32) (ix3 0 j d) = f (ix3 0 j d) + (∑ r : Fin 512, b0.ds s0 (ix2 j r) * scl b0.qb (ix2 r d)) := by
  rw [← rdK (stepK b0 b1 s0 s1 f)]
  unfold stepK
  rw [heads_skip1 (A := 512) (B := 128) (C := 512) (Val := Elt Ideal) accK.view f 0 ![1, 0, 0] rfl inb_S2x512x128_S1x512x128_1_0_0 _ _ j d,
    heads_hit0 (A := 512) (B := 128) (C := 512) (Val := Elt Ideal) accK.view f 0 ![0, 0, 0] rfl inb_S2x512x128_S1x512x128_0_0_0 _ _ j j d (Nat.zero_add _).symm, Blk.addK_apply,
    heads_ld (A := 512) (B := 128) (C := 512) (Val := Elt Ideal) accK.view f 0 0 ![0, 0, 0] rfl inb_S2x512x128_S1x512x128_0_0_0 j j d (Nat.zero_add _).symm, rdK]

/-- One step adds to the second head's keys' gradient its block's part. -/
theorem stepK_1 (b0 b1 : Blk Ideal) (s0 s1 : FVec Ideal S512x512 .f32) (f : Vec Ideal S2x512x128 .f32) (j : Fin 512) (d : Fin 128) :
    (stepK b0 b1 s0 s1 f : Vec Ideal S2x512x128 .f32) (ix3 1 j d) = f (ix3 1 j d) + (∑ r : Fin 512, b1.ds s1 (ix2 j r) * scl b1.qb (ix2 r d)) := by
  rw [← rdK (stepK b0 b1 s0 s1 f)]
  unfold stepK
  rw [heads_hit1 (A := 512) (B := 128) (C := 512) (Val := Elt Ideal) accK.view f 0 ![1, 0, 0] rfl inb_S2x512x128_S1x512x128_1_0_0 _ _ j j d (Nat.zero_add _).symm, Blk.addK_apply,
    heads_ld (A := 512) (B := 128) (C := 512) (Val := Elt Ideal) accK.view f 1 0 ![1, 0, 0] rfl inb_S2x512x128_S1x512x128_1_0_0 j j d (Nat.zero_add _).symm, rdK]

/-- The keys' accumulator is cleared to zeros. -/
theorem zeroK_apply (f : Vec Ideal S2x512x128 .f32) (h : Fin 2) (j : Fin 512) (d : Fin 128) :
    accK.view.read (Elt Ideal) (accK.view.writes (Elt Ideal) f zeroK) (ix3 h j d) = 0 := by
  unfold zeroK
  rw [heads_full (A := 512) (B := 128) (Val := Elt Ideal) accK.view f inb_S2x512x128_S2x512x128_0_0_0 _ _ h j d]
  pointwise [k0_pay39]

/-- The first head's keys' gradient after the masked step. -/
theorem diagK_0 (b0 b1 : Blk Ideal) (s0 s1 : FVec Ideal S512x512 .f32) (f : Vec Ideal S2x512x128 .f32) (j : Fin 512) (d : Fin 128) :
    (accK.view.writes (Elt Ideal) f (diagK b0 b1 s0 s1) : Vec Ideal S2x512x128 .f32) (ix3 0 j d) = (∑ r : Fin 512, b0.ds s0 (ix2 j r) * scl b0.qb (ix2 r d)) := by
  rw [← rdK (accK.view.writes (Elt Ideal) f (diagK b0 b1 s0 s1))]
  unfold diagK fstK
  rw [heads_skip1 (A := 512) (B := 128) (C := 512) (Val := Elt Ideal) accK.view f 0 ![1, 0, 0] rfl inb_S2x512x128_S1x512x128_1_0_0 _ _ j d,
    heads_hit0 (A := 512) (B := 128) (C := 512) (Val := Elt Ideal) accK.view f 0 ![0, 0, 0] rfl inb_S2x512x128_S1x512x128_0_0_0 _ _ j j d (Nat.zero_add _).symm, Blk.addK_apply]
  unfold View.readCov
  rw [heads_ld (A := 512) (B := 128) (C := 512) (Val := Elt Ideal) accK.view _ 0 0 ![0, 0, 0] rfl inb_S2x512x128_S1x512x128_0_0_0 j j d (Nat.zero_add _).symm, zeroK_apply, zero_add]

/-- The second head's keys' gradient after the masked step. -/
theorem diagK_1 (b0 b1 : Blk Ideal) (s0 s1 : FVec Ideal S512x512 .f32) (f : Vec Ideal S2x512x128 .f32) (j : Fin 512) (d : Fin 128) :
    (accK.view.writes (Elt Ideal) f (diagK b0 b1 s0 s1) : Vec Ideal S2x512x128 .f32) (ix3 1 j d) = (∑ r : Fin 512, b1.ds s1 (ix2 j r) * scl b1.qb (ix2 r d)) := by
  rw [← rdK (accK.view.writes (Elt Ideal) f (diagK b0 b1 s0 s1))]
  unfold diagK
  rw [heads_hit1 (A := 512) (B := 128) (C := 512) (Val := Elt Ideal) accK.view f 0 ![1, 0, 0] rfl inb_S2x512x128_S1x512x128_1_0_0 _ _ j j d (Nat.zero_add _).symm, Blk.addK_apply]
  unfold View.readCov
  rw [heads_ld (A := 512) (B := 128) (C := 512) (Val := Elt Ideal) accK.view _ 1 0 ![1, 0, 0] rfl inb_S2x512x128_S1x512x128_1_0_0 j j d (Nat.zero_add _).symm]
  unfold fstK
  rw [heads_skip0 (A := 512) (B := 128) (C := 512) (Val := Elt Ideal) accK.view _ 0 ![0, 0, 0] rfl inb_S2x512x128_S1x512x128_0_0_0 _ _ j d, zeroK_apply, zero_add]

/-- A read of the whole values' accumulator. -/
theorem rdV (X : Vec Ideal S2x512x64 .f32) : accV.view.read (Elt Ideal) X = X := rfl

/-- One step adds to the first head's values' gradient its block's part. -/
theorem stepV_0 (b0 b1 : Blk Ideal) (s0 s1 : FVec Ideal S512x512 .f32) (f : Vec Ideal S2x512x64 .f32) (j : Fin 512) (d : Fin 64) :
    (stepV b0 b1 s0 s1 f : Vec Ideal S2x512x64 .f32) (ix3 0 j d) = f (ix3 0 j d) + (∑ r : Fin 512, b0.p s0 (ix2 j r) * b0.db (ix2 r d)) := by
  rw [← rdV (stepV b0 b1 s0 s1 f)]
  unfold stepV
  rw [heads_skip1 (A := 512) (B := 64) (C := 512) (Val := Elt Ideal) accV.view f 0 ![1, 0, 0] rfl inb_S2x512x64_S1x512x64_1_0_0 _ _ j d,
    heads_hit0 (A := 512) (B := 64) (C := 512) (Val := Elt Ideal) accV.view f 0 ![0, 0, 0] rfl inb_S2x512x64_S1x512x64_0_0_0 _ _ j j d (Nat.zero_add _).symm, Blk.addV_apply,
    heads_ld (A := 512) (B := 64) (C := 512) (Val := Elt Ideal) accV.view f 0 0 ![0, 0, 0] rfl inb_S2x512x64_S1x512x64_0_0_0 j j d (Nat.zero_add _).symm, rdV]

/-- One step adds to the second head's values' gradient its block's part. -/
theorem stepV_1 (b0 b1 : Blk Ideal) (s0 s1 : FVec Ideal S512x512 .f32) (f : Vec Ideal S2x512x64 .f32) (j : Fin 512) (d : Fin 64) :
    (stepV b0 b1 s0 s1 f : Vec Ideal S2x512x64 .f32) (ix3 1 j d) = f (ix3 1 j d) + (∑ r : Fin 512, b1.p s1 (ix2 j r) * b1.db (ix2 r d)) := by
  rw [← rdV (stepV b0 b1 s0 s1 f)]
  unfold stepV
  rw [heads_hit1 (A := 512) (B := 64) (C := 512) (Val := Elt Ideal) accV.view f 0 ![1, 0, 0] rfl inb_S2x512x64_S1x512x64_1_0_0 _ _ j j d (Nat.zero_add _).symm, Blk.addV_apply,
    heads_ld (A := 512) (B := 64) (C := 512) (Val := Elt Ideal) accV.view f 1 0 ![1, 0, 0] rfl inb_S2x512x64_S1x512x64_1_0_0 j j d (Nat.zero_add _).symm, rdV]

/-- The values' accumulator is cleared to zeros. -/
theorem zeroV_apply (f : Vec Ideal S2x512x64 .f32) (h : Fin 2) (j : Fin 512) (d : Fin 64) :
    accV.view.read (Elt Ideal) (accV.view.writes (Elt Ideal) f zeroV) (ix3 h j d) = 0 := by
  unfold zeroV
  rw [heads_full (A := 512) (B := 64) (Val := Elt Ideal) accV.view f inb_S2x512x64_S2x512x64_0_0_0 _ _ h j d]
  pointwise [k0_pay40]

/-- The first head's values' gradient after the masked step. -/
theorem diagV_0 (b0 b1 : Blk Ideal) (s0 s1 : FVec Ideal S512x512 .f32) (f : Vec Ideal S2x512x64 .f32) (j : Fin 512) (d : Fin 64) :
    (accV.view.writes (Elt Ideal) f (diagV b0 b1 s0 s1) : Vec Ideal S2x512x64 .f32) (ix3 0 j d) = (∑ r : Fin 512, b0.p s0 (ix2 j r) * b0.db (ix2 r d)) := by
  rw [← rdV (accV.view.writes (Elt Ideal) f (diagV b0 b1 s0 s1))]
  unfold diagV fstV
  rw [heads_skip1 (A := 512) (B := 64) (C := 512) (Val := Elt Ideal) accV.view f 0 ![1, 0, 0] rfl inb_S2x512x64_S1x512x64_1_0_0 _ _ j d,
    heads_hit0 (A := 512) (B := 64) (C := 512) (Val := Elt Ideal) accV.view f 0 ![0, 0, 0] rfl inb_S2x512x64_S1x512x64_0_0_0 _ _ j j d (Nat.zero_add _).symm, Blk.addV_apply]
  unfold View.readCov
  rw [heads_ld (A := 512) (B := 64) (C := 512) (Val := Elt Ideal) accV.view _ 0 0 ![0, 0, 0] rfl inb_S2x512x64_S1x512x64_0_0_0 j j d (Nat.zero_add _).symm, zeroV_apply, zero_add]

/-- The second head's values' gradient after the masked step. -/
theorem diagV_1 (b0 b1 : Blk Ideal) (s0 s1 : FVec Ideal S512x512 .f32) (f : Vec Ideal S2x512x64 .f32) (j : Fin 512) (d : Fin 64) :
    (accV.view.writes (Elt Ideal) f (diagV b0 b1 s0 s1) : Vec Ideal S2x512x64 .f32) (ix3 1 j d) = (∑ r : Fin 512, b1.p s1 (ix2 j r) * b1.db (ix2 r d)) := by
  rw [← rdV (accV.view.writes (Elt Ideal) f (diagV b0 b1 s0 s1))]
  unfold diagV
  rw [heads_hit1 (A := 512) (B := 64) (C := 512) (Val := Elt Ideal) accV.view f 0 ![1, 0, 0] rfl inb_S2x512x64_S1x512x64_1_0_0 _ _ j j d (Nat.zero_add _).symm, Blk.addV_apply]
  unfold View.readCov
  rw [heads_ld (A := 512) (B := 64) (C := 512) (Val := Elt Ideal) accV.view _ 1 0 ![1, 0, 0] rfl inb_S2x512x64_S1x512x64_1_0_0 j j d (Nat.zero_add _).symm]
  unfold fstV
  rw [heads_skip0 (A := 512) (B := 64) (C := 512) (Val := Elt Ideal) accV.view _ 0 ![0, 0, 0] rfl inb_S2x512x64_S1x512x64_0_0_0 _ _ j d, zeroV_apply, zero_add]

/-- A read of the whole queries' accumulator. -/
theorem rdQ (X : Vec Ideal S2x16384x128 .f32) : accQ.view.read (Elt Ideal) X = X := rfl

section
variable (o0 o1 : Fin 3 → Nat) (off : ℕ) (e0 : o0 = ![0, off, 0]) (e1 : o1 = ![1, off, 0]) (h0 : ∀ a, o0 a + S1x512x128.size a ≤ S2x16384x128.size a)
    (h1 : ∀ a, o1 a + S1x512x128.size a ≤ S2x16384x128.size a) (b0 b1 : Blk Ideal) (s0 s1 : FVec Ideal S512x512 .f32) (f : Vec Ideal S2x16384x128 .f32)
include e0 e1

/-- One step adds to the first head's queries' gradient, at the step's rows, its block's part. -/
theorem stepQ_0 (a : Fin 16384) (r : Fin 512) (ha : a.val = off + r.val) (d : Fin 128) :
    (stepQ o0 o1 h0 h1 b0 b1 s0 s1 f : Vec Ideal S2x16384x128 .f32) (ix3 0 a d)
      = f (ix3 0 a d) + (∑ j : Fin 512, b0.ds s0 (ix2 j r) * b0.kb (ix3 0 j d)) := by
  rw [← rdQ (stepQ o0 o1 h0 h1 b0 b1 s0 s1 f)]
  unfold stepQ
  rw [heads_skip1 (A := 16384) (B := 128) (C := 512) (Val := Elt Ideal) accQ.view f off o1 e1 h1 _ _ a d, heads_hit0 (A := 16384) (B := 128) (C := 512) (Val := Elt Ideal) accQ.view f off o0 e0 h0 _ _ a r d ha, Blk.addQ_apply, heads_ld (A := 16384) (B := 128) (C := 512) (Val := Elt Ideal) accQ.view f 0 off o0 e0 h0 a r d ha, rdQ]

/-- One step adds to the second head's queries' gradient, at the step's rows, its block's part. -/
theorem stepQ_1 (a : Fin 16384) (r : Fin 512) (ha : a.val = off + r.val) (d : Fin 128) :
    (stepQ o0 o1 h0 h1 b0 b1 s0 s1 f : Vec Ideal S2x16384x128 .f32) (ix3 1 a d)
      = f (ix3 1 a d) + (∑ j : Fin 512, b1.ds s1 (ix2 j r) * b1.kb (ix3 0 j d)) := by
  rw [← rdQ (stepQ o0 o1 h0 h1 b0 b1 s0 s1 f)]
  unfold stepQ
  rw [heads_hit1 (A := 16384) (B := 128) (C := 512) (Val := Elt Ideal) accQ.view f off o1 e1 h1 _ _ a r d ha, Blk.addQ_apply, heads_ld (A := 16384) (B := 128) (C := 512) (Val := Elt Ideal) accQ.view f 1 off o1 e1 h1 a r d ha, rdQ]

/-- One step leaves the other rows of the queries' gradient. -/
theorem stepQ_miss (h : Fin 2) (a : Fin 16384) (ha : a.val < off ∨ off + 512 ≤ a.val) (d : Fin 128) :
    (stepQ o0 o1 h0 h1 b0 b1 s0 s1 f : Vec Ideal S2x16384x128 .f32) (ix3 h a d) = f (ix3 h a d) := by
  rw [← rdQ (stepQ o0 o1 h0 h1 b0 b1 s0 s1 f)]
  unfold stepQ
  rw [heads_miss1 (A := 16384) (B := 128) (C := 512) (Val := Elt Ideal) accQ.view f off o1 e1 h1 _ _ h a d ha, heads_miss0 (A := 16384) (B := 128) (C := 512) (Val := Elt Ideal) accQ.view f off o0 e0 h0 _ _ h a d ha]
  rfl
end

/-- The queries' accumulator before a point's first step: zeros at a row's first point. -/
theorem clrQ_apply (i : grid0.Coords) (f : Vec Ideal S2x16384x128 .f32) (h : Fin 2) (a : Fin 16384) (d : Fin 128) :
    (clrQ i f : Vec Ideal S2x16384x128 .f32) (ix3 h a d) = if (i 1).val = 0 then 0 else f (ix3 h a d) := by
  unfold clrQ
  by_cases c : (i 1).val = 0
  · rw [if_pos c, dif_pos ((clrW_iff i).mpr c), ← rdQ (accQ.view.writes (Elt Ideal) f _)]
    rw [heads_full (A := 16384) (B := 128) (Val := Elt Ideal) accQ.view f inb_S2x16384x128_S2x16384x128_0_0_0 _ _ h a d]
    pointwise [k0_pay38]
  · rw [if_neg c, dif_neg (fun hc => c ((clrW_iff i).mp hc))]

/-- The queries' gradient scaled, at an index. -/
theorem scaled_apply (f : Vec Ideal S2x16384x128 .f32) (h : Fin 2) (a : Fin 16384) (d : Fin 128) :
    (scaled f : Vec Ideal S2x16384x128 .f32) (ix3 h a d) = f (ix3 h a d) * Ideal.ofBits .f32 0x3DD105EC#32 := by
  rw [← rdQ (scaled f)]
  unfold scaled scaledL
  rw [heads_full (A := 16384) (B := 128) (Val := Elt Ideal) accQ.view f inb_S2x16384x128_S2x16384x128_0_0_0 _ _ h a d]
  pointwise [k0_pay7]
  rw [full_ld (A := 16384) (B := 128) (Val := Elt Ideal) accQ.view f _ h a d, rdQ]

/-- The keys' gradient's last factor. -/
theorem pay6_apply (f : Vec Ideal S2x512x128 .f32) (h : Fin 2) (j : Fin 512) (d : Fin 128) :
    k0_pay6 f (ix3 h j d) = f (ix3 h j d) * ((Real.log 2 : ℝ) : EReal) := by
  pointwise [k0_pay6]
  rfl

end Cert.KernelIdeal.Hand
-- ==== Proof.ValOff.lean ====
module

public import proofs.«01_k».proof.Proof.Data

@[expose] public section

set_option maxRecDepth 16384
set_option maxHeartbeats 4000000

noncomputable section

namespace Cert.KernelIdeal.Hand

open Cert.KernelIdeal Cert.KernelIdeal.Gen
open Idealize.ShloMosaic

/-! The offsets at which the body loads and stores, as numbers. -/

/-- The first row of a block. -/
theorem word_rows (n : ℕ) (hn : n < 32) : (Scalar.indexCast (Scalar.muli (BitVec.ofNat 32 n) 512#32) : Index).toNat = n * 512 := by
  have h : ∀ n : Fin 32, (Scalar.indexCast (Scalar.muli (BitVec.ofNat 32 n.val) 512#32) : Index).toNat = n.val * 512 := by decide +kernel
  exact h ⟨n, hn⟩

/-- A block's number. -/
theorem word_self (n : ℕ) (hn : n < 32) : (Scalar.indexCast (BitVec.ofNat 32 n) : Index).toNat = n := by
  have h : ∀ n : Fin 32, (Scalar.indexCast (BitVec.ofNat 32 n.val) : Index).toNat = n.val := by decide +kernel
  exact h ⟨n, hn⟩

/-- The query block of a trip. -/
theorem word_iv (n k : ℕ) (h : n + 1 + k < 32) :
    Scf.iv (Scalar.addi (BitVec.ofNat 32 n) 1#32) 1#32 k = BitVec.ofNat 32 (n + 1 + k) := by
  have h' : ∀ n k : Fin 32, Scf.iv (Scalar.addi (BitVec.ofNat 32 n.val) 1#32) 1#32 k.val = BitVec.ofNat 32 (n.val + 1 + k.val) := by decide +kernel
  exact h' ⟨n, by omega⟩ ⟨k, by omega⟩

/-- The trips of a point: one for every later block of queries. -/
theorem trips_eq (i : grid0.Coords) : (k0_t1_loop i).trips = 31 - (i 1).val := by
  have h : ∀ n : Fin 32, (⟨Scalar.addi (BitVec.ofNat 32 n.val) 1#32,
      Scalar.addi (Scalar.addi (BitVec.ofNat 32 n.val) 1#32) (Scalar.muli (Scalar.divsi (Scalar.subi 32#32 (Scalar.addi (BitVec.ofNat 32 n.val) 1#32)) 1#32) 1#32), 1#32⟩ : Scf.Loop 32).trips
      = 31 - n.val := by decide +kernel
  exact h (i 1)

/-- There are 32 blocks of keys. -/
theorem coord1_lt (i : grid0.Coords) : (i 1).val < 32 := (i 1).isLt
/-- There are 8 pairs of heads. -/
theorem coord0_lt (i : grid0.Coords) : (i 0).val < 8 := (i 0).isLt

section
variable (i : grid0.Coords)
/-- The offset of the first head's queries on the diagonal. -/
theorem off1_eq : k0_off1 i = ![0, (i 1).val * 512, 0] := congrArg (fun a : ℕ => ![0, a, 0]) (word_rows _ (coord1_lt i))
/-- The offset of the first head's cotangent on the diagonal. -/
theorem off2_eq : k0_off2 i = ![(i 1).val * 512, 0] := congrArg (fun a : ℕ => ![a, 0]) (word_rows _ (coord1_lt i))
/-- The offset of the first head's row numbers on the diagonal. -/
theorem off3_eq : k0_off3 i = ![0, (i 1).val, 0, 0] := congrArg (fun a : ℕ => ![0, a, 0, 0]) (word_self _ (coord1_lt i))
/-- The offset of the second head's queries on the diagonal. -/
theorem off4_eq : k0_off4 i = ![1, (i 1).val * 512, 0] := congrArg (fun a : ℕ => ![1, a, 0]) (word_rows _ (coord1_lt i))
/-- The offset of the second head's cotangent on the diagonal. -/
theorem off5_eq : k0_off5 i = ![(i 1).val * 512, 64] := congrArg (fun a : ℕ => ![a, 64]) (word_rows _ (coord1_lt i))
/-- The offset of the second head's row numbers on the diagonal. -/
theorem off6_eq : k0_off6 i = ![1, (i 1).val, 0, 0] := congrArg (fun a : ℕ => ![1, a, 0, 0]) (word_self _ (coord1_lt i))
/-- Where the copy out lands. -/
theorem off19_eq : k0_off19 i = ![(i 0).val * 2, 0, 0] := by
  have h : ∀ n : Fin 8, (Scalar.muli (BitVec.ofNat 32 n.val) 2#32).toNat = n.val * 2 := by decide +kernel
  exact congrArg (fun a : ℕ => ![a, 0, 0]) (h (i 0))

variable (k : Fin (k0_t1_loop i).trips)

/-- A trip's block of queries is one of the 32. -/
theorem trip_lt : (i 1).val + 1 + k.val < 32 := by
  have h := k.isLt
  have e := trips_eq i
  have c := coord1_lt i
  omega

/-- The offset of the first head's queries in the loop. -/
theorem off7_eq : k0_off7 i k = ![0, ((i 1).val + 1 + k.val) * 512, 0] := by
  refine congrArg (fun a : ℕ => ![0, a, 0]) ?_
  exact (congrArg (fun w : BitVec 32 => (Scalar.indexCast (Scalar.muli w 512#32) : Index).toNat) (word_iv _ _ (trip_lt i k))).trans (word_rows _ (trip_lt i k))
/-- The offset of the first head's cotangent in the loop. -/
theorem off8_eq : k0_off8 i k = ![((i 1).val + 1 + k.val) * 512, 0] := by
  refine congrArg (fun a : ℕ => ![a, 0]) ?_
  exact (congrArg (fun w : BitVec 32 => (Scalar.indexCast (Scalar.muli w 512#32) : Index).toNat) (word_iv _ _ (trip_lt i k))).trans (word_rows _ (trip_lt i k))
/-- The offset of the first head's row numbers in the loop. -/
theorem off9_eq : k0_off9 i k = ![0, (i 1).val + 1 + k.val, 0, 0] := by
  refine congrArg (fun a : ℕ => ![0, a, 0, 0]) ?_
  exact (congrArg (fun w : BitVec 32 => (Scalar.indexCast w : Index).toNat) (word_iv _ _ (trip_lt i k))).trans (word_self _ (trip_lt i k))
/-- The offset of the second head's queries in the loop. -/
theorem off10_eq : k0_off10 i k = ![1, ((i 1).val + 1 + k.val) * 512, 0] := by
  refine congrArg (fun a : ℕ => ![1, a, 0]) ?_
  exact (congrArg (fun w : BitVec 32 => (Scalar.indexCast (Scalar.muli w 512#32) : Index).toNat) (word_iv _ _ (trip_lt i k))).trans (word_rows _ (trip_lt i k))
/-- The offset of the second head's cotangent in the loop. -/
theorem off11_eq : k0_off11 i k = ![((i 1).val + 1 + k.val) * 512, 64] := by
  refine congrArg (fun a : ℕ => ![a, 64]) ?_
  exact (congrArg (fun w : BitVec 32 => (Scalar.indexCast (Scalar.muli w 512#32) : Index).toNat) (word_iv _ _ (trip_lt i k))).trans (word_rows _ (trip_lt i k))
/-- The offset of the second head's row numbers in the loop. -/
theorem off12_eq : k0_off12 i k = ![1, (i 1).val + 1 + k.val, 0, 0] := by
  refine congrArg (fun a : ℕ => ![1, a, 0, 0]) ?_
  exact (congrArg (fun w : BitVec 32 => (Scalar.indexCast w : Index).toNat) (word_iv _ _ (trip_lt i k))).trans (word_self _ (trip_lt i k))
end

end Cert.KernelIdeal.Hand
-- ==== Proof.ValPt.lean ====
module

public import proofs.«01_k».proof.Proof.ValStep
public import proofs.«01_k».proof.Proof.ValOff

@[expose] public section

set_option maxRecDepth 16384
set_option maxHeartbeats 4000000

noncomputable section

namespace Cert.KernelIdeal.Hand

open Cert.KernelIdeal Cert.KernelIdeal.Gen
open Idealize.ShloMosaic

/-! ## A point's accumulators as sums over the blocks of queries -/

/-- Row `x` of block `qi`. -/
def row (qi : ℕ) (x : Fin 512) : Fin 16384 := ⟨(qi * 512 + x.val) % 16384, Nat.mod_lt _ (by norm_num)⟩

/-- Block `qi` of the 32. -/
def bno (qi : ℕ) : Fin 32 := ⟨qi % 32, Nat.mod_lt _ (by norm_num)⟩

/-- The number of a row of a block. -/
theorem row_val (qi : ℕ) (hq : qi < 32) (x : Fin 512) : (row qi x).val = qi * 512 + x.val := by
  have hx := x.isLt
  show (qi * 512 + x.val) % 16384 = _
  exact Nat.mod_eq_of_lt (by omega)

/-- Column `e` of a head's half of the cotangent's block. -/
def hcol (h : Fin 2) (e : Fin 64) : Fin 128 := ⟨h.val * 64 + e.val, by have := h.isLt; have := e.isLt; omega⟩

/-- Column `e` of the padded values. -/
def vcol (e : Fin 64) : Fin 128 := ⟨e.val, by have := e.isLt; omega⟩

/-- A block is what head `h` reads of the point's blocks at the rows of block `qi`. -/
structure BlkAt (I : Inp Ideal) (h : Fin 2) (qi : ℕ) (b : Blk Ideal) : Prop where
  qb : ∀ (x : Fin 512) (d : Fin 128), b.qb (ix3 0 x d) = I.q (ix3 h (row qi x) d)
  db : ∀ (x : Fin 512) (e : Fin 64), b.db (ix2 x e) = I.d (ix2 (row qi x) (hcol h e))
  kb : ∀ (j : Fin 512) (d : Fin 128), b.kb (ix3 0 j d) = I.k (ix3 h j d)
  vb : ∀ (j : Fin 512) (e : Fin 64), b.vb (ix3 0 j e) = I.v (ix3 h j (vcol e))
  lb : ∀ (x : Fin 512), b.lb (ix4 0 0 0 x) = I.l (ix4 h (bno qi) 0 x)
  tb : ∀ (x : Fin 512), b.tb (ix4 0 0 0 x) = I.t (ix4 h (bno qi) 0 x)

/-- The blocks at given offsets are those of a head and a block of rows. -/
theorem blk_at (I : Inp Ideal) (h : Fin 2) (qi : ℕ) (hq : qi < 32)
    (o2 : Fin 3 → Nat) (h2 : ∀ a, o2 a + S1x512x128.size a ≤ S2x16384x128.size a)
    (o5 : Fin 2 → Nat) (h5 : ∀ a, o5 a + S512x64.size a ≤ S16384x128.size a)
    (o6 : Fin 4 → Nat) (h6 : ∀ a, o6 a + S1x1x1x512.size a ≤ S2x32x1x512.size a)
    (oh : Fin 3 → Nat) (hk : ∀ a, oh a + S1x512x128.size a ≤ S2x512x128.size a) (hv : ∀ a, oh a + S1x512x64.size a ≤ S2x512x128.size a)
    (e2 : o2 = ![h.val, qi * 512, 0]) (e5 : o5 = ![qi * 512, h.val * 64]) (e6 : o6 = ![h.val, qi, 0, 0]) (eh : oh = ![h.val, 0, 0]) :
    BlkAt I h qi (I.blk o2 h2 o5 h5 o6 h6 oh hk hv) := by
  subst e2 e5 e6 eh
  constructor
  · intro x d
    refine congrArg I.q (funext fun a => Fin.ext ?_)
    match a with
    | ⟨0, _⟩ => show h.val + 1 * 0 = h.val; omega
    | ⟨1, _⟩ => exact (show qi * 512 + 1 * x.val = qi * 512 + x.val by omega).trans (row_val qi hq x).symm
    | ⟨2, _⟩ => show 0 + 1 * d.val = d.val; omega
  · intro x e
    refine congrArg I.d (funext fun a => Fin.ext ?_)
    match a with
    | ⟨0, _⟩ => exact (show qi * 512 + 1 * x.val = qi * 512 + x.val by omega).trans (row_val qi hq x).symm
    | ⟨1, _⟩ => show h.val * 64 + 1 * e.val = h.val * 64 + e.val; omega
  · intro j d
    refine congrArg I.k (funext fun a => Fin.ext ?_)
    match a with
    | ⟨0, _⟩ => show h.val + 1 * 0 = h.val; omega
    | ⟨1, _⟩ => show 0 + 1 * j.val = j.val; omega
    | ⟨2, _⟩ => show 0 + 1 * d.val = d.val; omega
  · intro j e
    refine congrArg I.v (funext fun a => Fin.ext ?_)
    match a with
    | ⟨0, _⟩ => show h.val + 1 * 0 = h.val; omega
    | ⟨1, _⟩ => show 0 + 1 * j.val = j.val; omega
    | ⟨2, _⟩ => show 0 + 1 * e.val = e.val; omega
  · intro x
    refine congrArg I.l (funext fun a => Fin.ext ?_)
    match a with
    | ⟨0, _⟩ => show h.val + 1 * 0 = h.val; omega
    | ⟨1, _⟩ => exact (show qi + 1 * 0 = qi by omega).trans (Nat.mod_eq_of_lt hq).symm
    | ⟨2, _⟩ => show 0 + 1 * 0 = 0; omega
    | ⟨3, _⟩ => show 0 + 1 * x.val = x.val; omega
  · intro x
    refine congrArg I.t (funext fun a => Fin.ext ?_)
    match a with
    | ⟨0, _⟩ => show h.val + 1 * 0 = h.val; omega
    | ⟨1, _⟩ => exact (show qi + 1 * 0 = qi by omega).trans (Nat.mod_eq_of_lt hq).symm
    | ⟨2, _⟩ => show 0 + 1 * 0 = 0; omega
    | ⟨3, _⟩ => show 0 + 1 * x.val = x.val; omega

section
variable (I : Inp Ideal) (i : grid0.Coords)

/-- The first head's block on the diagonal. -/
theorem d0_at : BlkAt I 0 (i 1).val (I.d0 i) :=
  blk_at I 0 _ (coord1_lt i) _ _ _ _ _ _ _ _ _ (off1_eq i) (off2_eq i) (off3_eq i) rfl
/-- The second head's block on the diagonal. -/
theorem d1_at : BlkAt I 1 (i 1).val (I.d1 i) :=
  blk_at I 1 _ (coord1_lt i) _ _ _ _ _ _ _ _ _ (off4_eq i) (off5_eq i) (off6_eq i) rfl
/-- The first head's block in the loop. -/
theorem b0_at (k : Fin (k0_t1_loop i).trips) : BlkAt I 0 ((i 1).val + 1 + k.val) (I.b0 i k) :=
  blk_at I 0 _ (trip_lt i k) _ _ _ _ _ _ _ _ _ (off7_eq i k) (off8_eq i k) (off9_eq i k) rfl
/-- The second head's block in the loop. -/
theorem b1_at (k : Fin (k0_t1_loop i).trips) : BlkAt I 1 ((i 1).val + 1 + k.val) (I.b1 i k) :=
  blk_at I 1 _ (trip_lt i k) _ _ _ _ _ _ _ _ _ (off10_eq i k) (off11_eq i k) (off12_eq i k) rfl
end

section
variable (I : Inp Ideal) (ki : ℕ) (h : Fin 2)

/-- The score of key `j` and row `x` of block `qi`. -/
def sI (j : Fin 512) (qi : ℕ) (x : Fin 512) : EReal := ∑ d : Fin 128, I.k (ix3 h j d) * (I.q (ix3 h (row qi x) d) * qsc)

/-- The probability of key `j` of block `ki` at row `x` of block `qi`. -/
def pI (j : Fin 512) (qi : ℕ) (x : Fin 512) : EReal :=
  Ideal.exp2 ((if ki * 512 + j.val ≤ qi * 512 + x.val then sI I h j qi x else ⊥) - I.l (ix4 h (bno qi) 0 x) * l2e)

/-- The gradient of the score. -/
def dsI (j : Fin 512) (qi : ℕ) (x : Fin 512) : EReal :=
  pI I ki h j qi x * ((∑ e : Fin 64, I.v (ix3 h j (vcol e)) * I.d (ix2 (row qi x) (hcol h e))) - I.t (ix4 h (bno qi) 0 x))

/-- A block of queries' part of the keys' gradient. -/
def kT (j : Fin 512) (d : Fin 128) (qi : ℕ) : EReal := ∑ x : Fin 512, dsI I ki h j qi x * (I.q (ix3 h (row qi x) d) * qsc)

/-- A block of queries' part of the values' gradient. -/
def vT (j : Fin 512) (e : Fin 64) (qi : ℕ) : EReal := ∑ x : Fin 512, pI I ki h j qi x * I.d (ix2 (row qi x) (hcol h e))

/-- A block of keys' part of the queries' gradient. -/
def qT (qi : ℕ) (x : Fin 512) (d : Fin 128) : EReal := ∑ j : Fin 512, dsI I ki h j qi x * I.k (ix3 h j d)

variable {I ki h} {qi : ℕ} {b : Blk Ideal} (B : BlkAt I h qi b)
include B

/-- A score of a block. -/
theorem BlkAt.s_eq (j x : Fin 512) : b.s (ix2 j x) = sI I h j qi x := by
  rw [Blk.s_apply]
  exact Finset.sum_congr rfl fun d _ => by rw [scl_apply, B.kb, B.qb]

/-- A weight of a block below the diagonal. -/
theorem BlkAt.p_off (hq : ki < qi) (j x : Fin 512) : b.p b.s (ix2 j x) = pI I ki h j qi x := by
  have hj := j.isLt
  rw [Blk.p_apply, B.s_eq, B.lb, pI, if_pos (by omega)]

/-- A score's gradient, once the weight is known. -/
theorem BlkAt.ds_of (s : FVec Ideal S512x512 .f32) (j x : Fin 512) (hp : b.p s (ix2 j x) = pI I ki h j qi x) :
    b.ds s (ix2 j x) = dsI I ki h j qi x := by
  rw [Blk.ds_apply, hp, B.tb, dsI]
  congr 2
  exact Finset.sum_congr rfl fun e _ => by rw [B.vb, B.db]

/-- A score's gradient in a block below the diagonal. -/
theorem BlkAt.ds_off (hq : ki < qi) (j x : Fin 512) : b.ds b.s (ix2 j x) = dsI I ki h j qi x := B.ds_of _ j x (B.p_off hq j x)

/-- What a block adds to the keys' gradient. -/
theorem BlkAt.k_of (s : FVec Ideal S512x512 .f32) (hp : ∀ j x : Fin 512, b.p s (ix2 j x) = pI I ki h j qi x) (j : Fin 512) (d : Fin 128) :
    (∑ x : Fin 512, b.ds s (ix2 j x) * scl b.qb (ix2 x d)) = kT I ki h j d qi :=
  Finset.sum_congr rfl fun x _ => by rw [B.ds_of s j x (hp j x), scl_apply, B.qb]

/-- What a block adds to the values' gradient. -/
theorem BlkAt.v_of (s : FVec Ideal S512x512 .f32) (hp : ∀ j x : Fin 512, b.p s (ix2 j x) = pI I ki h j qi x) (j : Fin 512) (e : Fin 64) :
    (∑ x : Fin 512, b.p s (ix2 j x) * b.db (ix2 x e)) = vT I ki h j e qi :=
  Finset.sum_congr rfl fun x _ => by rw [hp j x, B.db]

/-- What a block adds to the queries' gradient. -/
theorem BlkAt.q_of (s : FVec Ideal S512x512 .f32) (hp : ∀ j x : Fin 512, b.p s (ix2 j x) = pI I ki h j qi x) (x : Fin 512) (d : Fin 128) :
    (∑ j : Fin 512, b.ds s (ix2 j x) * b.kb (ix3 0 j d)) = qT I ki h qi x d :=
  Finset.sum_congr rfl fun j _ => by rw [B.ds_of s j x (hp j x), B.kb]
end

/-- A weight of the block on the diagonal, masked. -/
theorem BlkAt.p_diag {I : Inp Ideal} {h : Fin 2} {ki : ℕ} {b : Blk Ideal} (B : BlkAt I h ki b) (j x : Fin 512) :
    b.p b.sm (ix2 j x) = pI I ki h j ki x := by
  rw [Blk.p_apply, Blk.sm_apply, B.s_eq, B.lb, pI]
  by_cases c : j.val ≤ x.val
  · rw [if_pos c, if_pos (by omega)]
  · rw [if_neg c, if_neg (by omega)]

section
variable (I : Inp Ideal) (i : grid0.Coords)

/-- The keys' accumulator before trip `n`: the parts of the blocks of queries so far. -/
theorem kAt_eq (n : ℕ) (hn : n ≤ (k0_t1_loop i).trips) (h : Fin 2) (j : Fin 512) (d : Fin 128) :
    (I.kAt i n : Vec Ideal S2x512x128 .f32) (ix3 h j d) = ∑ t ∈ Finset.range (n + 1), kT I (i 1).val h j d ((i 1).val + t) := by
  induction n with
  | zero =>
    rw [Inp.kAt_zero, Finset.sum_range_one, Nat.add_zero]
    match h with
    | 0 => rw [diagK_0]; exact (d0_at I i).k_of _ (d0_at I i).p_diag j d
    | 1 => rw [diagK_1]; exact (d1_at I i).k_of _ (d1_at I i).p_diag j d
  | succ n ih =>
    rw [Inp.kAt_succ, dif_pos (show n < (k0_t1_loop i).trips from hn), Finset.sum_range_succ, ← ih (Nat.le_of_succ_le hn), show (i 1).val + (n + 1) = (i 1).val + 1 + n by omega]
    match h with
    | 0 => rw [stepK_0]; exact congrArg (_ + ·) ((b0_at I i ⟨n, hn⟩).k_of _ ((b0_at I i ⟨n, hn⟩).p_off (by show _ < _ + 1 + n; omega)) j d)
    | 1 => rw [stepK_1]; exact congrArg (_ + ·) ((b1_at I i ⟨n, hn⟩).k_of _ ((b1_at I i ⟨n, hn⟩).p_off (by show _ < _ + 1 + n; omega)) j d)

/-- The values' accumulator before trip `n`. -/
theorem vAt_eq (n : ℕ) (hn : n ≤ (k0_t1_loop i).trips) (h : Fin 2) (j : Fin 512) (d : Fin 64) :
    (I.vAt i n : Vec Ideal S2x512x64 .f32) (ix3 h j d) = ∑ t ∈ Finset.range (n + 1), vT I (i 1).val h j d ((i 1).val + t) := by
  induction n with
  | zero =>
    rw [Inp.vAt_zero, Finset.sum_range_one, Nat.add_zero]
    match h with
    | 0 => rw [diagV_0]; exact (d0_at I i).v_of _ (d0_at I i).p_diag j d
    | 1 => rw [diagV_1]; exact (d1_at I i).v_of _ (d1_at I i).p_diag j d
  | succ n ih =>
    rw [Inp.vAt_succ, dif_pos (show n < (k0_t1_loop i).trips from hn), Finset.sum_range_succ, ← ih (Nat.le_of_succ_le hn), show (i 1).val + (n + 1) = (i 1).val + 1 + n by omega]
    match h with
    | 0 => rw [stepV_0]; exact congrArg (_ + ·) ((b0_at I i ⟨n, hn⟩).v_of _ ((b0_at I i ⟨n, hn⟩).p_off (by show _ < _ + 1 + n; omega)) j d)
    | 1 => rw [stepV_1]; exact congrArg (_ + ·) ((b1_at I i ⟨n, hn⟩).v_of _ ((b1_at I i ⟨n, hn⟩).p_off (by show _ < _ + 1 + n; omega)) j d)

/-- The queries' accumulator before trip `n`, at a row of block `qi`. -/
theorem qAt_eq (f : Vec Ideal S2x16384x128 .f32) (n : ℕ) (hn : n ≤ (k0_t1_loop i).trips) (h : Fin 2) (qi : ℕ) (hq : qi < 32) (x : Fin 512) (d : Fin 128) :
    (I.qAt i f n : Vec Ideal S2x16384x128 .f32) (ix3 h (row qi x) d)
      = (if (i 1).val = 0 then 0 else f (ix3 h (row qi x) d)) + (if (i 1).val ≤ qi ∧ qi ≤ (i 1).val + n then qT I (i 1).val h qi x d else 0) := by
  have hr := row_val qi hq x
  have hx := x.isLt
  induction n with
  | zero =>
    rw [Inp.qAt_zero]
    by_cases c : qi = (i 1).val
    · subst c
      rw [if_pos (show (i 1).val ≤ (i 1).val ∧ (i 1).val ≤ (i 1).val + 0 from ⟨Nat.le_refl _, Nat.le_refl _⟩)]
      match h with
      | 0 => rw [stepQ_0 _ _ _ (off1_eq i) (off4_eq i) _ _ _ _ _ _ _ _ x hr, clrQ_apply]; exact congrArg (_ + ·) ((d0_at I i).q_of _ (d0_at I i).p_diag x d)
      | 1 => rw [stepQ_1 _ _ _ (off1_eq i) (off4_eq i) _ _ _ _ _ _ _ _ x hr, clrQ_apply]; exact congrArg (_ + ·) ((d1_at I i).q_of _ (d1_at I i).p_diag x d)
    · rw [if_neg (show ¬((i 1).val ≤ qi ∧ qi ≤ (i 1).val + 0) from fun h => c (by omega)), add_zero, stepQ_miss _ _ _ (off1_eq i) (off4_eq i) _ _ _ _ _ _ _ h _ (by omega), clrQ_apply]
  | succ n ih =>
    rw [Inp.qAt_succ, dif_pos (show n < (k0_t1_loop i).trips from hn)]
    by_cases c : qi = (i 1).val + 1 + n
    · have hi := ih (Nat.le_of_succ_le hn)
      rw [if_neg (show ¬((i 1).val ≤ qi ∧ qi ≤ (i 1).val + n) by omega), add_zero] at hi
      rw [if_pos (show (i 1).val ≤ qi ∧ qi ≤ (i 1).val + (n + 1) by omega), ← hi]
      subst c
      match h with
      | 0 => rw [stepQ_0 _ _ _ (off7_eq i ⟨n, hn⟩) (off10_eq i ⟨n, hn⟩) _ _ _ _ _ _ _ _ x hr]; exact congrArg (_ + ·) ((b0_at I i ⟨n, hn⟩).q_of _ ((b0_at I i ⟨n, hn⟩).p_off (by show _ < _ + 1 + n; omega)) x d)
      | 1 => rw [stepQ_1 _ _ _ (off7_eq i ⟨n, hn⟩) (off10_eq i ⟨n, hn⟩) _ _ _ _ _ _ _ _ x hr]; exact congrArg (_ + ·) ((b1_at I i ⟨n, hn⟩).q_of _ ((b1_at I i ⟨n, hn⟩).p_off (by show _ < _ + 1 + n; omega)) x d)
    · rw [stepQ_miss _ _ _ (off7_eq i ⟨n, hn⟩) (off10_eq i ⟨n, hn⟩) _ _ _ _ _ _ _ h _ (by show _ < (_ + 1 + n) * 512 ∨ (_ + 1 + n) * 512 + 512 ≤ _; omega), ih (Nat.le_of_succ_le hn)]
      congr 1
      by_cases c2 : (i 1).val ≤ qi ∧ qi ≤ (i 1).val + n
      · rw [if_pos c2, if_pos (by omega)]
      · rw [if_neg c2, if_neg (by omega)]

/-- What a point adds to the queries' gradient. -/
theorem finQ_eq (f : Vec Ideal S2x16384x128 .f32) (h : Fin 2) (qi : ℕ) (hq : qi < 32) (x : Fin 512) (d : Fin 128) :
    (I.finQ i f : Vec Ideal S2x16384x128 .f32) (ix3 h (row qi x) d)
      = (if (i 1).val = 0 then 0 else f (ix3 h (row qi x) d)) + (if (i 1).val ≤ qi then qT I (i 1).val h qi x d else 0) := by
  have e := trips_eq i
  have c := coord1_lt i
  rw [Inp.finQ, qAt_eq I i f _ (Nat.le_refl _) h qi hq x d]
  congr 1
  by_cases c2 : (i 1).val ≤ qi
  · rw [if_pos c2, if_pos (by omega)]
  · rw [if_neg c2, if_neg (by omega)]

/-- The keys' gradient at the end of a point. -/
theorem finK_eq (h : Fin 2) (j : Fin 512) (d : Fin 128) :
    (I.finK i : Vec Ideal S2x512x128 .f32) (ix3 h j d) = ∑ t ∈ Finset.range (32 - (i 1).val), kT I (i 1).val h j d ((i 1).val + t) := by
  have e := trips_eq i
  have c := coord1_lt i
  rw [Inp.finK, kAt_eq I i _ (Nat.le_refl _), show (k0_t1_loop i).trips + 1 = 32 - (i 1).val by omega]

/-- The values' gradient at the end of a point. -/
theorem finV_eq (h : Fin 2) (j : Fin 512) (d : Fin 64) :
    (I.finV i : Vec Ideal S2x512x64 .f32) (ix3 h j d) = ∑ t ∈ Finset.range (32 - (i 1).val), vT I (i 1).val h j d ((i 1).val + t) := by
  have e := trips_eq i
  have c := coord1_lt i
  rw [Inp.finV, vAt_eq I i _ (Nat.le_refl _), show (k0_t1_loop i).trips + 1 = 32 - (i 1).val by omega]
end

end Cert.KernelIdeal.Hand
-- ==== Proof.ValArr.lean ====
module

public import proofs.«01_k».proof.Proof.ValPt

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-! ## The points' blocks as parts of the launch's arrays -/

/-- There are 256 points. -/
theorem pt_lt (t : Fin cfg0.N) : t.val < 256 := N_0 ▸ t.isLt

/-- Head `h` of a point's pair. -/
def hd (t : Fin cfg0.N) (h : Fin 2) : Fin 16 := ⟨t.val / 32 * 2 + h.val, by have := pt_lt t; have := h.isLt; omega⟩

/-- Key `j` of a point's block. -/
abbrev krow (t : Fin cfg0.N) (j : Fin 512) : Fin 16384 := row (t.val % 32) j

/-- A word of a number below 32 holds it. -/
theorem small_word (n : ℕ) (hn : n < 32) : (BitVec.ofNat 32 n).toNat = n := by
  rw [BitVec.toNat_ofNat]; exact Nat.mod_eq_of_lt (by omega)

/-- The word of a point's pair of heads. -/
theorem c0_word (t : Fin cfg0.N) : (BitVec.ofNat 32 (grid0.coords t 0).val).toNat = t.val / 32 := by
  have := pt_lt t
  rw [coords_0 t, small_word _ (by omega)]

/-- The word of a point's block of keys. -/
theorem c1_word (t : Fin cfg0.N) : (BitVec.ofNat 32 (grid0.coords t 1).val).toNat = t.val % 32 := by
  rw [coords_1 t, small_word _ (by omega)]

/-- Where the queries' block lies in its array. -/
theorem emb_q (t : Fin cfg0.N) (h : Fin 2) (r : Fin 16384) (d : Fin 128) :
    ((cfg0.win 0).blk t).view.emb (ix3 h r d : S2x16384x128.Idx) = (ix3 (hd t h) r d : S16x16384x128.Idx) := by
  funext a; apply Fin.ext
  match a with
  | ⟨0, _⟩ => show (BitVec.ofNat 32 (grid0.coords t 0).val).toNat * 2 + 1 * h.val = t.val / 32 * 2 + h.val; rw [c0_word]; omega
  | ⟨1, _⟩ => show 0 * 16384 + 1 * r.val = r.val; omega
  | ⟨2, _⟩ => show 0 * 128 + 1 * d.val = d.val; omega

/-- Where the keys' block lies in its array. -/
theorem emb_k (t : Fin cfg0.N) (h : Fin 2) (j : Fin 512) (d : Fin 128) :
    ((cfg0.win 1).blk t).view.emb (ix3 h j d : S2x512x128.Idx) = (ix3 (hd t h) (krow t j) d : S16x16384x128.Idx) := by
  have e := row_val (t.val % 32) (Nat.mod_lt _ (by norm_num)) j
  funext a; apply Fin.ext
  match a with
  | ⟨0, _⟩ => show (BitVec.ofNat 32 (grid0.coords t 0).val).toNat * 2 + 1 * h.val = t.val / 32 * 2 + h.val; rw [c0_word]; omega
  | ⟨1, _⟩ => show (BitVec.ofNat 32 (grid0.coords t 1).val).toNat * 512 + 1 * j.val = (row (t.val % 32) j).val; rw [c1_word]; omega
  | ⟨2, _⟩ => show 0 * 128 + 1 * d.val = d.val; omega

/-- Where the values' block lies in its array. -/
theorem emb_v (t : Fin cfg0.N) (h : Fin 2) (j : Fin 512) (d : Fin 128) :
    ((cfg0.win 2).blk t).view.emb (ix3 h j d : S2x512x128.Idx) = (ix3 (hd t h) (krow t j) d : S16x16384x128.Idx) := by
  have e := row_val (t.val % 32) (Nat.mod_lt _ (by norm_num)) j
  funext a; apply Fin.ext
  match a with
  | ⟨0, _⟩ => show (BitVec.ofNat 32 (grid0.coords t 0).val).toNat * 2 + 1 * h.val = t.val / 32 * 2 + h.val; rw [c0_word]; omega
  | ⟨1, _⟩ => show (BitVec.ofNat 32 (grid0.coords t 1).val).toNat * 512 + 1 * j.val = (row (t.val % 32) j).val; rw [c1_word]; omega
  | ⟨2, _⟩ => show 0 * 128 + 1 * d.val = d.val; omega

/-- Column `e` of a head in the cotangent. -/
def ccol (H : Fin 16) (e : Fin 64) : Fin 1024 := ⟨H.val * 64 + e.val, by have := H.isLt; have := e.isLt; omega⟩

/-- Where the cotangent's block lies in its array. -/
theorem emb_d (t : Fin cfg0.N) (h : Fin 2) (r : Fin 16384) (e : Fin 64) :
    ((cfg0.win 3).blk t).view.emb (ix2 r (hcol h e) : S16384x128.Idx) = (ix2 r (ccol (hd t h) e) : S16384x1024.Idx) := by
  funext a; apply Fin.ext
  match a with
  | ⟨0, _⟩ => show 0 * 16384 + 1 * r.val = r.val; omega
  | ⟨1, _⟩ => show (BitVec.ofNat 32 (grid0.coords t 0).val).toNat * 128 + 1 * (h.val * 64 + e.val) = (t.val / 32 * 2 + h.val) * 64 + e.val; rw [c0_word]; omega

/-- Where the log-sums' block lies in its array. -/
theorem emb_l (t : Fin cfg0.N) (h : Fin 2) (b : Fin 32) (x : Fin 512) :
    ((cfg0.win 4).blk t).view.emb (ix4 h b 0 x : S2x32x1x512.Idx) = (ix4 (hd t h) b 0 x : S16x32x1x512.Idx) := by
  funext a; apply Fin.ext
  match a with
  | ⟨0, _⟩ => show (BitVec.ofNat 32 (grid0.coords t 0).val).toNat * 2 + 1 * h.val = t.val / 32 * 2 + h.val; rw [c0_word]; omega
  | ⟨1, _⟩ => show 0 * 32 + 1 * b.val = b.val; omega
  | ⟨2, _⟩ => show 0 * 1 + 1 * 0 = 0; omega
  | ⟨3, _⟩ => show 0 * 512 + 1 * x.val = x.val; omega

/-- Where the block of row products lies in its array. -/
theorem emb_t (t : Fin cfg0.N) (h : Fin 2) (b : Fin 32) (x : Fin 512) :
    ((cfg0.win 5).blk t).view.emb (ix4 h b 0 x : S2x32x1x512.Idx) = (ix4 (hd t h) b 0 x : S16x32x1x512.Idx) := by
  funext a; apply Fin.ext
  match a with
  | ⟨0, _⟩ => show (BitVec.ofNat 32 (grid0.coords t 0).val).toNat * 2 + 1 * h.val = t.val / 32 * 2 + h.val; rw [c0_word]; omega
  | ⟨1, _⟩ => show 0 * 32 + 1 * b.val = b.val; omega
  | ⟨2, _⟩ => show 0 * 1 + 1 * 0 = 0; omega
  | ⟨3, _⟩ => show 0 * 512 + 1 * x.val = x.val; omega

/-- Where the block of the keys' gradient lies in its array. -/
theorem emb_dk (t : Fin cfg0.N) (h : Fin 2) (j : Fin 512) (d : Fin 128) :
    ((cfg0.win 6).blk t).view.emb (ix3 h j d : S2x512x128.Idx) = (ix3 (hd t h) (krow t j) d : S16x16384x128.Idx) := by
  have e := row_val (t.val % 32) (Nat.mod_lt _ (by norm_num)) j
  funext a; apply Fin.ext
  match a with
  | ⟨0, _⟩ => show (BitVec.ofNat 32 (grid0.coords t 0).val).toNat * 2 + 1 * h.val = t.val / 32 * 2 + h.val; rw [c0_word]; omega
  | ⟨1, _⟩ => show (BitVec.ofNat 32 (grid0.coords t 1).val).toNat * 512 + 1 * j.val = (row (t.val % 32) j).val; rw [c1_word]; omega
  | ⟨2, _⟩ => show 0 * 128 + 1 * d.val = d.val; omega

/-- Where the block of the values' gradient lies in its array. -/
theorem emb_dv (t : Fin cfg0.N) (h : Fin 2) (j : Fin 512) (d : Fin 64) :
    ((cfg0.win 7).blk t).view.emb (ix3 h j d : S2x512x64.Idx) = (ix3 (hd t h) (krow t j) d : S16x16384x64.Idx) := by
  have e := row_val (t.val % 32) (Nat.mod_lt _ (by norm_num)) j
  funext a; apply Fin.ext
  match a with
  | ⟨0, _⟩ => show (BitVec.ofNat 32 (grid0.coords t 0).val).toNat * 2 + 1 * h.val = t.val / 32 * 2 + h.val; rw [c0_word]; omega
  | ⟨1, _⟩ => show (BitVec.ofNat 32 (grid0.coords t 1).val).toNat * 512 + 1 * j.val = (row (t.val % 32) j).val; rw [c1_word]; omega
  | ⟨2, _⟩ => show 0 * 64 + 1 * d.val = d.val; omega

section
variable (c : Dev nD) (t : Fin cfg0.N) (h : Fin 2)

/-- The block of the queries, read from any contents of the buffers. -/
theorem blk_q (W : (b : Ref sig .tc) → Buf (Elt Ideal) ((c : Thread nD τ).loc b)) (r : Fin 16384) (d : Fin 128) :
    ((cfg0.win 0).blk t).view.read (Elt Ideal) (W (Pipeline.arrRef spec0 0)) (ix3 h r d : S2x16384x128.Idx) = W main_v3 (ix3 (hd t h) r d : S16x16384x128.Idx) := by
  show W main_v3 (((cfg0.win 0).blk t).view.emb (ix3 h r d : S2x16384x128.Idx)) = _
  rw [emb_q]
/-- What a point reads of the queries. -/
theorem inp_q (r : Fin 16384) (d : Fin 128) : (inp m c t).q (ix3 h r d) = (V m c main_v3 : Vec Ideal S16x16384x128 .f32) (ix3 (hd t h) r d) := by
  dsimp only [inp, iblk]
  exact blk_q c t h (V m c) r d
/-- The block of the keys, read from any contents of the buffers. -/
theorem blk_k (W : (b : Ref sig .tc) → Buf (Elt Ideal) ((c : Thread nD τ).loc b)) (j : Fin 512) (d : Fin 128) :
    ((cfg0.win 1).blk t).view.read (Elt Ideal) (W (Pipeline.arrRef spec0 1)) (ix3 h j d : S2x512x128.Idx) = W main_v5 (ix3 (hd t h) (krow t j) d : S16x16384x128.Idx) := by
  show W main_v5 (((cfg0.win 1).blk t).view.emb (ix3 h j d : S2x512x128.Idx)) = _
  rw [emb_k]
/-- What a point reads of the keys. -/
theorem inp_k (j : Fin 512) (d : Fin 128) : (inp m c t).k (ix3 h j d) = (V m c main_v5 : Vec Ideal S16x16384x128 .bf16) (ix3 (hd t h) (krow t j) d) := by
  dsimp only [inp, iblk]
  exact blk_k c t h (V m c) j d
/-- The block of the values, read from any contents of the buffers. -/
theorem blk_v (W : (b : Ref sig .tc) → Buf (Elt Ideal) ((c : Thread nD τ).loc b)) (j : Fin 512) (d : Fin 128) :
    ((cfg0.win 2).blk t).view.read (Elt Ideal) (W (Pipeline.arrRef spec0 2)) (ix3 h j d : S2x512x128.Idx) = W main_v10 (ix3 (hd t h) (krow t j) d : S16x16384x128.Idx) := by
  show W main_v10 (((cfg0.win 2).blk t).view.emb (ix3 h j d : S2x512x128.Idx)) = _
  rw [emb_v]
/-- What a point reads of the values. -/
theorem inp_v (j : Fin 512) (d : Fin 128) : (inp m c t).v (ix3 h j d) = (V m c main_v10 : Vec Ideal S16x16384x128 .bf16) (ix3 (hd t h) (krow t j) d) := by
  dsimp only [inp, iblk]
  exact blk_v c t h (V m c) j d
/-- The block of the cotangent, read from any contents of the buffers. -/
theorem blk_d (W : (b : Ref sig .tc) → Buf (Elt Ideal) ((c : Thread nD τ).loc b)) (r : Fin 16384) (e : Fin 64) :
    ((cfg0.win 3).blk t).view.read (Elt Ideal) (W (Pipeline.arrRef spec0 3)) (ix2 r (hcol h e) : S16384x128.Idx) = W main_v39 (ix2 r (ccol (hd t h) e) : S16384x1024.Idx) := by
  show W main_v39 (((cfg0.win 3).blk t).view.emb (ix2 r (hcol h e) : S16384x128.Idx)) = _
  rw [emb_d]
/-- What a point reads of the cotangent. -/
theorem inp_d (r : Fin 16384) (e : Fin 64) : (inp m c t).d (ix2 r (hcol h e)) = (V m c main_v39 : Vec Ideal S16384x1024 .bf16) (ix2 r (ccol (hd t h) e)) := by
  dsimp only [inp, iblk]
  exact blk_d c t h (V m c) r e
/-- The block of the log-sums, read from any contents of the buffers. -/
theorem blk_l (W : (b : Ref sig .tc) → Buf (Elt Ideal) ((c : Thread nD τ).loc b)) (b : Fin 32) (x : Fin 512) :
    ((cfg0.win 4).blk t).view.read (Elt Ideal) (W (Pipeline.arrRef spec0 4)) (ix4 h b 0 x : S2x32x1x512.Idx) = W main_v40 (ix4 (hd t h) b 0 x : S16x32x1x512.Idx) := by
  show W main_v40 (((cfg0.win 4).blk t).view.emb (ix4 h b 0 x : S2x32x1x512.Idx)) = _
  rw [emb_l]
/-- What a point reads of the log-sums. -/
theorem inp_l (b : Fin 32) (x : Fin 512) : (inp m c t).l (ix4 h b 0 x) = (V m c main_v40 : Vec Ideal S16x32x1x512 .f32) (ix4 (hd t h) b 0 x) := by
  dsimp only [inp, iblk]
  exact blk_l c t h (V m c) b x
/-- The block of the row products, read from any contents of the buffers. -/
theorem blk_t (W : (b : Ref sig .tc) → Buf (Elt Ideal) ((c : Thread nD τ).loc b)) (b : Fin 32) (x : Fin 512) :
    ((cfg0.win 5).blk t).view.read (Elt Ideal) (W (Pipeline.arrRef spec0 5)) (ix4 h b 0 x : S2x32x1x512.Idx) = W main_v41 (ix4 (hd t h) b 0 x : S16x32x1x512.Idx) := by
  show W main_v41 (((cfg0.win 5).blk t).view.emb (ix4 h b 0 x : S2x32x1x512.Idx)) = _
  rw [emb_t]
/-- What a point reads of the row products. -/
theorem inp_t (b : Fin 32) (x : Fin 512) : (inp m c t).t (ix4 h b 0 x) = (V m c main_v41 : Vec Ideal S16x32x1x512 .f32) (ix4 (hd t h) b 0 x) := by
  dsimp only [inp, iblk]
  exact blk_t c t h (V m c) b x
end

end Cert.KernelIdeal.Hand
-- ==== Proof.ValOut.lean ====
module

public import proofs.«01_k».proof.Proof.ValArr

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The point of a pair of heads and a block of keys. -/
def pnt (hp ki : ℕ) : Fin cfg0.N := ⟨(hp * 32 + ki) % 256, lt_of_lt_of_eq (Nat.mod_lt _ (by norm_num)) N_0.symm⟩

/-- What window 6 ends with. -/
def dkG (c : Dev nD) : Vec Ideal S16x16384x128 .f32 := fun i =>
  k0_pay6 ((inp m c (pnt ((i 0).val / 2) ((i 1).val / 512))).finK (grid0.coords (pnt ((i 0).val / 2) ((i 1).val / 512))))
    (ix3 (⟨(i 0).val % 2, Nat.mod_lt _ (by norm_num)⟩ : Fin 2) (⟨(i 1).val % 512, Nat.mod_lt _ (by norm_num)⟩ : Fin 512) (i 2 : Fin 128))

/-- What window 7 ends with. -/
def dvG (c : Dev nD) : Vec Ideal S16x16384x64 .f32 := fun i =>
  ((inp m c (pnt ((i 0).val / 2) ((i 1).val / 512))).finV (grid0.coords (pnt ((i 0).val / 2) ((i 1).val / 512))) : Vec Ideal S2x512x64 .f32)
    (ix3 (⟨(i 0).val % 2, Nat.mod_lt _ (by norm_num)⟩ : Fin 2) (⟨(i 1).val % 512, Nat.mod_lt _ (by norm_num)⟩ : Fin 512) (i 2 : Fin 64))

/-- A point is the one of its heads and its keys. -/
theorem pnt_self (t : Fin cfg0.N) (h : Fin 2) (j : Fin 512) : pnt ((hd t h).val / 2) ((krow t j).val / 512) = t := by
  have e := row_val (t.val % 32) (Nat.mod_lt _ (by norm_num)) j
  have := pt_lt t; have := h.isLt; have := j.isLt
  apply Fin.ext
  show ((t.val / 32 * 2 + h.val) / 2 * 32 + (row (t.val % 32) j).val / 512) % 256 = t.val
  rw [e]; omega

/-- Which of the pair a head is. -/
theorem hd_mod (t : Fin cfg0.N) (h : Fin 2) : (⟨(hd t h).val % 2, Nat.mod_lt _ (by norm_num)⟩ : Fin 2) = h := by
  have := h.isLt
  apply Fin.ext
  show (t.val / 32 * 2 + h.val) % 2 = h.val
  omega

/-- Which row of its block a key is. -/
theorem krow_mod (t : Fin cfg0.N) (j : Fin 512) : (⟨(krow t j).val % 512, Nat.mod_lt _ (by norm_num)⟩ : Fin 512) = j := by
  have e := row_val (t.val % 32) (Nat.mod_lt _ (by norm_num)) j
  have := j.isLt
  apply Fin.ext
  show (row (t.val % 32) j).val % 512 = j.val
  rw [e]; omega

/-- The keys' gradient at the keys of a point. -/
theorem dkG_at (c : Dev nD) (t : Fin cfg0.N) (h : Fin 2) (j : Fin 512) (d : Fin 128) :
    dkG m c (ix3 (hd t h) (krow t j) d) = k0_pay6 ((inp m c t).finK (grid0.coords t)) (ix3 h j d) := by
  show k0_pay6 ((inp m c (pnt ((hd t h).val / 2) ((krow t j).val / 512))).finK (grid0.coords (pnt ((hd t h).val / 2) ((krow t j).val / 512))))
    (ix3 (⟨(hd t h).val % 2, Nat.mod_lt _ (by norm_num)⟩ : Fin 2) (⟨(krow t j).val % 512, Nat.mod_lt _ (by norm_num)⟩ : Fin 512) d) = _
  rw [pnt_self, hd_mod, krow_mod]

/-- The values' gradient at the keys of a point. -/
theorem dvG_at (c : Dev nD) (t : Fin cfg0.N) (h : Fin 2) (j : Fin 512) (d : Fin 64) :
    dvG m c (ix3 (hd t h) (krow t j) d) = ((inp m c t).finV (grid0.coords t) : Vec Ideal S2x512x64 .f32) (ix3 h j d) := by
  show ((inp m c (pnt ((hd t h).val / 2) ((krow t j).val / 512))).finV (grid0.coords (pnt ((hd t h).val / 2) ((krow t j).val / 512))) : Vec Ideal S2x512x64 .f32)
    (ix3 (⟨(hd t h).val % 2, Nat.mod_lt _ (by norm_num)⟩ : Fin 2) (⟨(krow t j).val % 512, Nat.mod_lt _ (by norm_num)⟩ : Fin 512) d) = _
  rw [pnt_self, hd_mod, krow_mod]

/-- An index of the arrays is one of a point's block. -/
theorem at_pnt (H : Fin 16) (k : Fin 16384) : ∃ (t : Fin cfg0.N) (h : Fin 2) (j : Fin 512), hd t h = H ∧ krow t j = k := by
  have hH := H.isLt; have hk := k.isLt
  refine ⟨pnt (H.val / 2) (k.val / 512), ⟨H.val % 2, Nat.mod_lt _ (by norm_num)⟩, ⟨k.val % 512, Nat.mod_lt _ (by norm_num)⟩, Fin.ext ?_, Fin.ext ?_⟩
  · show (H.val / 2 * 32 + k.val / 512) % 256 / 32 * 2 + H.val % 2 = H.val; omega
  · show ((H.val / 2 * 32 + k.val / 512) % 256 % 32 * 512 + k.val % 512) % 16384 = k.val; omega

/-- A read of window 6's block. -/
theorem blk_dk (c : Dev nD) (t : Fin cfg0.N) (G : Vec Ideal S16x16384x128 .f32) (h : Fin 2) (j : Fin 512) (d : Fin 128) :
    ((cfg0.win 6).blk t).view.read (Elt Ideal) G (ix3 h j d : S2x512x128.Idx) = G (ix3 (hd t h) (krow t j) d) := by
  show G (((cfg0.win 6).blk t).view.emb (ix3 h j d : S2x512x128.Idx)) = _
  rw [emb_dk]

/-- What a point writes back of window 6. -/
theorem flushed_dk (c : Dev nD) (t : Fin cfg0.N) (h : Fin 2) (j : Fin 512) (d : Fin 128) :
    (dats m 0 c).flushed 6 t (ix3 h j d : S2x512x128.Idx) = (k0_pay6 ((inp m c t).finK (grid0.coords t)) : Vec Ideal S2x512x128 .f32) (ix3 h j d) := by
  have e : (dats m 0 c).flushed 6 t = (cfg0.win 6).cut (grid0.coords t) ((dats m 0 c).after 6 t) := rfl
  rw [e, after0_6]
  rfl

/-- The keys' gradient's array at the end. -/
theorem dk_final (c : Dev nD) : (dats m 0 c).arrAt 6 cfg0.N = dkG m c := by
  refine (dats m 0 c).arrAt_eq_of_cover 6 (dkG m c) (fun t _ => ?_) (fun i => ?_)
  · refine funext fun (y : S2x512x128.Idx) => ?_
    obtain ⟨h, j, d, rfl⟩ : ∃ (h : Fin 2) (j : Fin 512) (d : Fin 128), y = (ix3 h j d : S2x512x128.Idx) := ⟨y 0, y 1, y 2, by funext a; match a with | ⟨0, _⟩ => rfl | ⟨1, _⟩ => rfl | ⟨2, _⟩ => rfl⟩
    exact (flushed_dk m c t h j d).trans ((blk_dk c t (dkG m c) h j d).trans (dkG_at m c t h j d)).symm
  · obtain ⟨H, k, d, rfl⟩ : ∃ (H : Fin 16) (k : Fin 16384) (d : Fin 128), i = (ix3 H k d : S16x16384x128.Idx) := ⟨i 0, i 1, i 2, by funext a; match a with | ⟨0, _⟩ => rfl | ⟨1, _⟩ => rfl | ⟨2, _⟩ => rfl⟩
    obtain ⟨t, h, j, rfl, rfl⟩ := at_pnt H k
    exact ⟨t, flush0_6 t, by have e := ((cfg0.win 6).blk t).view.emb_mem_set (ix3 h j d : S2x512x128.Idx); rwa [emb_dk] at e⟩

/-- A read of window 7's block. -/
theorem blk_dv (c : Dev nD) (t : Fin cfg0.N) (G : Vec Ideal S16x16384x64 .f32) (h : Fin 2) (j : Fin 512) (d : Fin 64) :
    ((cfg0.win 7).blk t).view.read (Elt Ideal) G (ix3 h j d : S2x512x64.Idx) = G (ix3 (hd t h) (krow t j) d) := by
  show G (((cfg0.win 7).blk t).view.emb (ix3 h j d : S2x512x64.Idx)) = _
  rw [emb_dv]

/-- What a point writes back of window 7. -/
theorem flushed_dv (c : Dev nD) (t : Fin cfg0.N) (h : Fin 2) (j : Fin 512) (d : Fin 64) :
    (dats m 0 c).flushed 7 t (ix3 h j d : S2x512x64.Idx) = ((inp m c t).finV (grid0.coords t) : Vec Ideal S2x512x64 .f32) (ix3 h j d) := by
  have e : (dats m 0 c).flushed 7 t = (cfg0.win 7).cut (grid0.coords t) ((dats m 0 c).after 7 t) := rfl
  rw [e, after0_7]
  rfl

/-- The values' gradient's array at the end. -/
theorem dv_final (c : Dev nD) : (dats m 0 c).arrAt 7 cfg0.N = dvG m c := by
  refine (dats m 0 c).arrAt_eq_of_cover 7 (dvG m c) (fun t _ => ?_) (fun i => ?_)
  · refine funext fun (y : S2x512x64.Idx) => ?_
    obtain ⟨h, j, d, rfl⟩ : ∃ (h : Fin 2) (j : Fin 512) (d : Fin 64), y = (ix3 h j d : S2x512x64.Idx) := ⟨y 0, y 1, y 2, by funext a; match a with | ⟨0, _⟩ => rfl | ⟨1, _⟩ => rfl | ⟨2, _⟩ => rfl⟩
    exact (flushed_dv m c t h j d).trans ((blk_dv c t (dvG m c) h j d).trans (dvG_at m c t h j d)).symm
  · obtain ⟨H, k, d, rfl⟩ : ∃ (H : Fin 16) (k : Fin 16384) (d : Fin 64), i = (ix3 H k d : S16x16384x64.Idx) := ⟨i 0, i 1, i 2, by funext a; match a with | ⟨0, _⟩ => rfl | ⟨1, _⟩ => rfl | ⟨2, _⟩ => rfl⟩
    obtain ⟨t, h, j, rfl, rfl⟩ := at_pnt H k
    exact ⟨t, flush0_7 t, by have e := ((cfg0.win 7).blk t).view.emb_mem_set (ix3 h j d : S2x512x64.Idx); rwa [emb_dv] at e⟩

end Cert.KernelIdeal.Hand
-- ==== Proof.ValDq.lean ====
module

public import proofs.«01_k».proof.Proof.ValOut

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem

/-! ## The queries' gradient over the launch -/

section
variable {A B : ℕ} {sg : RefSig} {κ' : Kind} {sp : Space} {e : EltTy} {Val : EltTy → Type}
  (v : View sg κ' sp ⟨3, ![16, A, B]⟩ e) (f : v.ty.Contents Val) (off : ℕ) (o : Fin 3 → ℕ) (eo : o = ![off, 0, 0])
  (ho : ∀ a, o a + (⟨3, ![2, A, B]⟩ : Shape).size a ≤ (⟨3, ![16, A, B]⟩ : Shape).size a)
  (w : (⟨3, ![2, A, B]⟩ : Shape).Idx → Val e)
include eo

/-- A pair of heads written, read where it was written. -/
theorem slab_hit (H : Fin 16) (h : Fin 2) (hH : H.val = off + h.val) (a : Fin A) (b : Fin B) :
    v.read Val (v.writes Val f [⟨Rect.unit (s := ⟨3, ![16, A, B]⟩) o (⟨3, ![2, A, B]⟩ : Shape).size ho, w⟩]) (ix3 H a b) = w (ix3 h a b) := by
  subst eo
  refine View.read_writes_cons_hit_of_coords v f (Rect.unit (s := ⟨3, ![16, A, B]⟩) _ (⟨3, ![2, A, B]⟩ : Shape).size _) _ [] (ix3 h a b : (⟨3, ![2, A, B]⟩ : Shape).Idx) _ fun d => ?_
  match d with
  | ⟨0, _⟩ => show H.val = off + 1 * h.val; omega
  | ⟨1, _⟩ => show a.val = 0 + 1 * a.val; omega
  | ⟨2, _⟩ => show b.val = 0 + 1 * b.val; omega

/-- A pair of heads written, read elsewhere. -/
theorem slab_miss (H : Fin 16) (hH : H.val < off ∨ off + 2 ≤ H.val) (a : Fin A) (b : Fin B) :
    v.read Val (v.writes Val f [⟨Rect.unit (s := ⟨3, ![16, A, B]⟩) o (⟨3, ![2, A, B]⟩ : Shape).size ho, w⟩]) (ix3 H a b) = v.read Val f (ix3 H a b) := by
  subst eo
  exact View.read_writes_cons_miss_of_axis v f _ _ _ (0 : Fin 3) off 2 rfl rfl rfl hH
end

/-- The array read whole. -/
theorem rdO (X : BufTy.Contents (Elt Ideal) outQ.view.ty) : outQ.view.read (Elt Ideal) X = X := rfl

section
variable (i : grid0.Coords) (hc2 : k0_cond2 i = 1#1) (f : BufTy.Contents (Elt Ideal) outQ.view.ty) (q : Vec Ideal S2x16384x128 .f32)

/-- The copy out, as one write of a pair of heads. -/
theorem outH_writes : outH i hc2 f q = outQ.view.writes (Elt Ideal) f [⟨Rect.unit (s := S16x16384x128) (k0_off19 i) S2x16384x128.size (k0_off19_inb i hc2), scaled q⟩] := by
  unfold outH
  rw [rdQ]
  exact (View.writes_singleton outQ.view f _ _).symm

/-- The pair a point writes out. -/
theorem outH_hit (H : Fin 16) (h : Fin 2) (hH : H.val = (i 0).val * 2 + h.val) (r : Fin 16384) (d : Fin 128) :
    (outH i hc2 f q : Vec Ideal S16x16384x128 .f32) (ix3 H r d) = q (ix3 h r d) * Ideal.ofBits .f32 0x3DD105EC#32 := by
  rw [← scaled_apply, ← rdO (outH i hc2 f q), outH_writes]
  exact slab_hit (A := 16384) (B := 128) (Val := Elt Ideal) outQ.view f ((i 0).val * 2) (k0_off19 i) (off19_eq i) (k0_off19_inb i hc2) (scaled q) H h hH r d

/-- The pairs a point does not write out. -/
theorem outH_miss (H : Fin 16) (hH : H.val < (i 0).val * 2 ∨ (i 0).val * 2 + 2 ≤ H.val) (r : Fin 16384) (d : Fin 128) :
    (outH i hc2 f q : Vec Ideal S16x16384x128 .f32) (ix3 H r d) = (f : Vec Ideal S16x16384x128 .f32) (ix3 H r d) := by
  rw [← rdO (outH i hc2 f q), outH_writes]
  exact slab_miss (A := 16384) (B := 128) (Val := Elt Ideal) outQ.view f ((i 0).val * 2) (k0_off19 i) (off19_eq i) (k0_off19_inb i hc2) (scaled q) H hH r d
end

variable (m : (ℓ : Loc nD τ sig) → Buf (Elt Ideal) ℓ) (c : Dev nD)

/-- What block `ki` of keys adds to a row of the queries' gradient. -/
def qP (hp : ℕ) (h : Fin 2) (qi : ℕ) (x : Fin 512) (d : Fin 128) (ki : ℕ) : EReal :=
  if ki ≤ qi then qT (inp m c (pnt hp ki)) ki h qi x d else 0

/-- The number of the point of a pair of heads and a block of keys. -/
theorem pnt_val (hp ki : ℕ) (h : hp < 8) (k : ki < 32) : (pnt hp ki).val = hp * 32 + ki := Nat.mod_eq_of_lt (by omega)

/-- The accumulator after each point of a pair of heads. -/
theorem qS_eq (hp : ℕ) (hhp : hp < 8) (h : Fin 2) (qi : ℕ) (hq : qi < 32) (x : Fin 512) (d : Fin 128) :
    ∀ ki, ki < 32 → (qS m c (hp * 32 + ki + 1) : Vec Ideal S2x16384x128 .f32) (ix3 h (row qi x) d) = ∑ k ∈ Finset.range (ki + 1), qP m c hp h qi x d k := by
  intro ki
  induction ki with
  | zero =>
    intro hk
    have e := qS_succ m c (pnt hp 0)
    rw [pnt_val hp 0 hhp hk] at e
    have c1 : (grid0.coords (pnt hp 0) 1).val = 0 := by rw [coords_1, pnt_val hp 0 hhp hk]; omega
    rw [e]
    refine (finQ_eq _ _ _ h qi hq x d).trans ?_
    rw [c1, if_pos rfl, zero_add, Finset.sum_range_one]
    rfl
  | succ k ih =>
    intro hk
    have e := qS_succ m c (pnt hp (k + 1))
    rw [pnt_val hp (k + 1) hhp hk] at e
    have c1 : (grid0.coords (pnt hp (k + 1)) 1).val = k + 1 := by rw [coords_1, pnt_val hp (k + 1) hhp hk]; omega
    rw [e]
    refine (finQ_eq _ _ _ h qi hq x d).trans ?_
    rw [c1, if_neg (Nat.succ_ne_zero k), Finset.sum_range_succ, ← ih (by omega)]
    rfl

/-- The array once a pair of heads has been written out. -/
theorem hS_eq (hp : ℕ) (hhp : hp < 8) (H : Fin 16) (h : Fin 2) (hH : H.val = hp * 2 + h.val) (qi : ℕ) (hq : qi < 32) (x : Fin 512) (d : Fin 128) :
    ∀ n, hp * 32 + 32 + n ≤ 256 → (hS m c (hp * 32 + 32 + n) : Vec Ideal S16x16384x128 .f32) (ix3 H (row qi x) d)
      = (∑ k ∈ Finset.range 32, qP m c hp h qi x d k) * Ideal.ofBits .f32 0x3DD105EC#32 := by
  intro n
  induction n with
  | zero =>
    intro _
    have pv := pnt_val hp 31 hhp (by norm_num)
    have c0 : (grid0.coords (pnt hp 31) 0).val = hp := by rw [coords_0, pv]; omega
    have c1 : (grid0.coords (pnt hp 31) 1).val = 31 := by rw [coords_1, pv]; omega
    have e := hS_last m c (pnt hp 31) ((cond2_iff _).mpr c1)
    rw [pv] at e
    show (hS m c (hp * 32 + 31 + 1) : Vec Ideal S16x16384x128 .f32) (ix3 H (row qi x) d) = _
    rw [e]
    refine (outH_hit _ _ _ _ H h (by rw [c0]; exact hH) (row qi x) d).trans ?_
    rw [qS_eq m c hp hhp h qi hq x d 31 (by norm_num)]
  | succ n ih =>
    intro hn
    have ht : hp * 32 + 32 + n < cfg0.N := lt_of_lt_of_eq (by omega) N_0.symm
    rw [← ih (by omega)]
    by_cases hc : k0_cond2 (grid0.coords ⟨_, ht⟩) = 1#1
    · have e := hS_last m c ⟨_, ht⟩ hc
      show (hS m c (hp * 32 + 32 + n + 1) : Vec Ideal S16x16384x128 .f32) (ix3 H (row qi x) d) = _
      rw [e]
      have c0 : (grid0.coords ⟨_, ht⟩ 0).val = (hp * 32 + 32 + n) / 32 := coords_0 ⟨_, ht⟩
      refine outH_miss _ _ _ _ H (Or.inl ?_) (row qi x) d
      rw [c0]; have := h.isLt; omega
    · exact congrFun (hS_mid m c ⟨_, ht⟩ hc) _

/-- The queries' gradient at the end. -/
theorem dq_final (hp : ℕ) (hhp : hp < 8) (H : Fin 16) (h : Fin 2) (hH : H.val = hp * 2 + h.val) (qi : ℕ) (hq : qi < 32) (x : Fin 512) (d : Fin 128) :
    (hS m c cfg0.N : Vec Ideal S16x16384x128 .f32) (ix3 H (row qi x) d)
      = (∑ k ∈ Finset.range 32, qP m c hp h qi x d k) * Ideal.ofBits .f32 0x3DD105EC#32 := by
  have e := hS_eq m c hp hhp H h hH qi hq x d (256 - (hp * 32 + 32)) (by omega)
  rw [show hp * 32 + 32 + (256 - (hp * 32 + 32)) = cfg0.N from (by omega : _ = 256).trans N_0.symm] at e
  exact e

end Cert.KernelIdeal.Hand
-- ==== Proof.ValHost.lean ====
module

public import proofs.«01_k».proof.Proof.Data
public import Idealize.ShloMosaic.Lib.StableHlo.ReadAt
public import Idealize.ShloMosaic.Lib.Pointwise

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem

/-! ## What the host prepares, as terms over the arguments -/

section
variable (x0 x1 : FVec Ideal S16384x16x96 FTy.f32) (x2 : FVec Ideal S16384x16x64 FTy.f32) (x3 : FVec Ideal S16384x1024 FTy.f32)
  (s e : FVec Ideal S16x16384x16384 FTy.f32) (mx : FVec Ideal S16x16384 FTy.f32)

/-- An argument of 96 columns, heads first, in 128 columns. -/
def hPad : FVec Ideal S16x16384x128 FTy.f32 :=
  pad S16x16384x128 ![0, 0, 0] ![0, 0, 32] ![0, 0, 0] (transpose S16x16384x96 [1, 0, 2] (α := Ideal FTy.f32) x0 transposes_S16384x16x96_S16x16384x96_1_0_2)
    (sitofp (F := Ideal) FTy.f32 (constantI S_ 32 0#32)) pads_S16x16384x96_S16x16384x128_000_000_0320 h_S_

/-- The values, heads first. -/
def hVal : FVec Ideal S16x16384x64 FTy.f32 := transpose S16x16384x64 [1, 0, 2] x2 transposes_S16384x16x64_S16x16384x64_1_0_2

/-- Columns after the values. -/
def hOne : FVec Ideal S16x16384x64 FTy.f32 :=
  concatenate S16x16384x64 2 [⟨S16x16384x1, (broadcastInDim S16x16384x1 ![] bcast_S_S16x16384x1 (constant (F := Ideal) S_ .f32 0x3F800000#32) : FVec Ideal S16x16384x1 FTy.f32)⟩,
      ⟨S16x16384x63, (broadcastInDim S16x16384x63 ![] bcast_S_S16x16384x63 (constant (F := Ideal) S_ .f32 0x00000000#32) : FVec Ideal S16x16384x63 FTy.f32)⟩] concatenates_S16x16384x1_S16x16384x63_S16x16384x64_d2

/-- Two arrays of 64 columns side by side. -/
def hSide (a b : FVec Ideal S16x16384x64 FTy.f32) : FVec Ideal S16x16384x128 FTy.bf16 :=
  truncf FTy.bf16 (concatenate S16x16384x128 2 [⟨S16x16384x64, a⟩, ⟨S16x16384x64, b⟩] concatenates_S16x16384x64_S16x16384x64_S16x16384x128_d2 : FVec Ideal S16x16384x128 FTy.f32) bitsLt_bf16_f32

/-- The masked scores. -/
def hSc : FVec Ideal S16x16384x16384 FTy.f32 :=
  select (broadcastInDim S16x16384x16384 ![0, 1, 2] bcast_S1x16384x16384_S16x16384x16384_0_1_2
      (broadcastInDim S1x16384x16384 ![1, 2] bcast_S16384x16384_S1x16384x16384_1_2
        (cmpi CmpIPredicate.sle
          (broadcastInDim S16384x16384 ![0, 1] bcast_S1x16384_S16384x16384_0_1 (broadcastInDim S1x16384 ![1] bcast_S16384_S1x16384_1 (iotaInDim S16384 32 0)))
          (broadcastInDim S16384x16384 ![0, 1] bcast_S16384x1_S16384x16384_0_1 (broadcastInDim S16384x1 ![0] bcast_S16384_S16384x1_0 (iotaInDim S16384 32 0))))))
    (mulf (Host.dotGeneral dot_S16x16384x96_S16x16384x96_S16x16384x16384_2_2_1_1_0_0 none
        (transpose S16x16384x96 [1, 0, 2] (α := Ideal FTy.f32) x0 transposes_S16384x16x96_S16x16384x96_1_0_2)
        (transpose S16x16384x96 [1, 0, 2] (α := Ideal FTy.f32) x1 transposes_S16384x16x96_S16x16384x96_1_0_2))
      (broadcastInDim S16x16384x16384 ![] bcast_S_S16x16384x16384 (constant (F := Ideal) S_ FTy.f32 0x3DD105EC#32)))
    (broadcastInDim S16x16384x16384 ![] bcast_S_S16x16384x16384 (constant (F := Ideal) S_ FTy.f32 0xFF800000#32))

/-- The rows' maxima. -/
def hMax : FVec Ideal S16x16384 FTy.f32 := Host.reduce FloatOps.maximumf s (constant (F := Ideal) S_ .f32 0xFF800000#32) reducesTo_S16x16384x16384_S16x16384_d2 h_S_

/-- The exponentials. -/
def hExp : FVec Ideal S16x16384x16384 FTy.f32 :=
  Host.exp (subf s (broadcastInDim S16x16384x16384 ![0, 1, 2] bcast_S16x16384x1_S16x16384x16384_0_1_2 (broadcastInDim S16x16384x1 ![0, 1] bcast_S16x16384_S16x16384x1_0_1 mx)))

/-- The rows' sums. -/
def hDen : FVec Ideal S16x16384x1 FTy.f32 :=
  broadcastInDim S16x16384x1 ![0, 1] bcast_S16x16384_S16x16384x1_0_1 (Host.reduceAdd e (constant (F := Ideal) S_ .f32 0x00000000#32) reducesTo_S16x16384x16384_S16x16384_d2 h_S_)

/-- The rows' maxima and the logarithms of their sums, in blocks of rows. -/
def hLse (dn : FVec Ideal S16x16384x1 FTy.f32) : FVec Ideal S16x32x1x512 FTy.f32 :=
  shapeCast S16x32x1x512 (addf (broadcastInDim S16x16384x1 ![0, 1] bcast_S16x16384_S16x16384x1_0_1 mx) (Host.log dn)) shapeCasts_S16x16384x1_S16x32x1x512

/-- The cotangent against the attention's result, in blocks of rows. -/
def hDel (dn : FVec Ideal S16x16384x1 FTy.f32) : FVec Ideal S16x32x1x512 FTy.f32 :=
  shapeCast S16x32x1x512 (broadcastInDim S16x16384x1 ![0, 1] bcast_S16x16384_S16x16384x1_0_1
    (Host.reduceAdd (mulf (transpose S16x16384x64 [1, 0, 2] (shapeCast S16384x16x64 x3 shapeCasts_S16384x1024_S16384x16x64) transposes_S16384x16x64_S16x16384x64_1_0_2)
      (Host.dotGeneral dot_S16x16384x16384_S16x16384x64_S16x16384x64_2_1_1_2_0_0 none
        (Host.divf e (broadcastInDim S16x16384x16384 ![0, 1, 2] bcast_S16x16384x1_S16x16384x16384_0_1_2 dn)) (hVal x2)))
      (constant (F := Ideal) S_ .f32 0x00000000#32) reducesTo_S16x16384x64_S16x16384_d2 h_S_)) shapeCasts_S16x16384x1_S16x32x1x512
end

variable (m : (ℓ : Loc nD τ sig) → Buf (Elt Ideal) ℓ) (c : Dev nD)

/-- The arguments. -/
def X0 : FVec Ideal S16384x16x96 FTy.f32 := m (c, Proc.tc.devRef main_arg0)
def X1 : FVec Ideal S16384x16x96 FTy.f32 := m (c, Proc.tc.devRef main_arg1)
def X2 : FVec Ideal S16384x16x64 FTy.f32 := m (c, Proc.tc.devRef main_arg2)
def X3 : FVec Ideal S16384x1024 FTy.f32 := m (c, Proc.tc.devRef main_arg3)

/-- The padded queries. -/
theorem V_3 : (V m c main_v3 : FVec Ideal S16x16384x128 FTy.f32) = hPad (X0 m c) := by
  unfold V; after_reads_simp; rfl
/-- The padded keys. -/
theorem V_5 : (V m c main_v5 : FVec Ideal S16x16384x128 FTy.bf16) = truncf .bf16 (hPad (X1 m c)) bitsLt_bf16_f32 := by
  unfold V; after_reads_simp; rfl
/-- The cotangent as the kernel takes it. -/
theorem V_39 : (V m c main_v39 : FVec Ideal S16384x1024 FTy.bf16) = truncf .bf16 (X3 m c) bitsLt_bf16_f32 := by
  unfold V; after_reads_simp; rfl

/-- The values by heads, before anything is set beside them. -/
theorem u2 : (StableHlo.upto [hostOps0, hostOps0_1, hostOps0_2, hostOps0_3, hostOps0_4, hostOps0_5, hostOps0_6].flatten
    (fun b => m (c, b)) 15 (Proc.tc.devRef main_v2) : FVec Ideal S16x16384x64 FTy.f32) = hVal (X2 m c) := by
  after_reads_simp; rfl
/-- The values beside their column of ones. -/
theorem V_10 : (V m c main_v10 : FVec Ideal S16x16384x128 FTy.bf16) = hSide (hVal (X2 m c)) hOne := by
  unfold V; after_reads_simp
  refine congrArg₂ hSide (u2 m c) ?_
  after_reads_simp
  rfl

/-- The scores the launch's host part makes. -/
def kSc : FVec Ideal S16x16384x16384 FTy.f32 := hSc (X0 m c) (X1 m c)
def kMx : FVec Ideal S16x16384 FTy.f32 := hMax (kSc m c)
def kEx : FVec Ideal S16x16384x16384 FTy.f32 := hExp (kSc m c) (kMx m c)
def kDn : FVec Ideal S16x16384x1 FTy.f32 := hDen (kEx m c)

/-- The rows' log-sums, in blocks. -/
theorem V_40 : (V m c main_v40 : FVec Ideal S16x32x1x512 FTy.f32) = hLse (kMx m c) (kDn m c) := by
  unfold V; after_reads_simp; rfl
/-- The rows' products of cotangent and output, in blocks. -/
theorem V_41 : (V m c main_v41 : FVec Ideal S16x32x1x512 FTy.f32) = hDel (X2 m c) (X3 m c) (kEx m c) (kDn m c) := by
  unfold V; after_reads_simp; rfl

end Cert.KernelIdeal.Hand
-- ==== Proof.ValReal.lean ====
module

public import proofs.«01_k».proof.Proof.ValPt

@[expose] public section

noncomputable section

namespace Cert.Proof.Att

open Idealize.ShloMosaic
open Cert.KernelIdeal.Hand (row row_val)

/-! ## The attention's gradient over the real numbers, one head -/

/-- A finite sum of real numbers, as a sum of extended real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of maxima over entries none of which is the top and one of which is not the bottom is a real number. -/
theorem fold_real {ι : Type} (f : ι → EReal) (s : Finset ι) (h : ∀ i ∈ s, f i ≠ ⊤) (h' : ∃ i ∈ s, f i ≠ ⊥) :
    ∃ M : ℝ, Finset.fold max ⊥ f s = (M : EReal) := by
  have a : Finset.fold max ⊥ f s ≠ ⊤ := ((Finset.fold_max_lt (c := ⊤)).mpr ⟨bot_lt_top, fun x hx => lt_top_iff_ne_top.mpr (h x hx)⟩).ne
  have b : Finset.fold max ⊥ f s ≠ ⊥ := by
    obtain ⟨i, hi, e⟩ := h'
    exact ((Finset.lt_fold_max (c := ⊥)).mpr (Or.inr ⟨i, hi, bot_lt_iff_ne_bot.mpr e⟩)).ne'
  exact ⟨_, (EReal.coe_toReal a b).symm⟩

/-- The rows, by blocks of 512. -/
theorem sum_rows (f : Fin 16384 → ℝ) : ∑ r, f r = ∑ t ∈ Finset.range 32, ∑ x : Fin 512, f (row t x) := by
  rw [← Fin.sum_univ_eq_sum_range (fun t => ∑ x : Fin 512, f (row t x)) 32, ← Fintype.sum_prod_type']
  refine (Fintype.sum_equiv (finProdFinEquiv : Fin 32 × Fin 512 ≃ Fin (32 * 512)) _ f fun p => ?_).symm
  refine congrArg f (Fin.ext ?_)
  rw [row_val p.1.val p.1.isLt]
  show p.1.val * 512 + p.2.val = p.2.val + 512 * p.1.val
  omega

/-- A head's queries, keys, values and cotangent. -/
structure Head where
  q : Fin 16384 → Fin 96 → ℝ
  k : Fin 16384 → Fin 96 → ℝ
  v : Fin 16384 → Fin 64 → ℝ
  c : Fin 16384 → Fin 64 → ℝ

/-- The scores' scale. -/
def D : ℝ := 3424635 / 33554432

/-- The words of the two constants. -/
theorem bits_bot : Ideal.ofBits .f32 0xFF800000#32 = ⊥ := by simp [Ideal.ofBits, Ideal.ieee]
/-- The word of the scores' scale. -/
theorem bits_D : Ideal.ofBits .f32 0x3DD105EC#32 = ((D : ℝ) : EReal) := by
  unfold D
  simp [Ideal.ofBits, Ideal.ieee, -EReal.coe_mul]; norm_num

namespace Head
variable (A : Head) (r k : Fin 16384) (M : ℝ)

def S : ℝ := (∑ d, A.q r d * A.k k d) * D
/-- The exponential of a score less `M`, of a key the row sees. -/
def E : ℝ := if k.val ≤ r.val then Real.exp (A.S r k - M) else 0
def Z : ℝ := ∑ k, A.E r k M
/-- The softmax. -/
def W : ℝ := A.E r k 0 / A.Z r 0
def DP : ℝ := ∑ e, A.v k e * A.c r e
def DL : ℝ := ∑ k, A.W r k * A.DP r k
/-- The gradient of the score. -/
def DS : ℝ := A.W r k * (A.DP r k - A.DL r)
def dq (d : Fin 96) : ℝ := (∑ k, A.DS r k * A.k k d) * D
def dk (d : Fin 96) : ℝ := (∑ r, A.DS r k * A.q r d) * D
def dv (e : Fin 64) : ℝ := ∑ r, A.W r k * A.c r e

/-- Another shift multiplies a weight by a constant. -/
theorem E_shift : A.E r k M = A.E r k 0 * Real.exp (-M) := by
  unfold E
  split
  · rw [← Real.exp_add]; congr 1; ring
  · simp

/-- Weights are not negative. -/
theorem E_nonneg : 0 ≤ A.E r k M := by
  unfold E
  split
  · exact (Real.exp_pos _).le
  · exact le_refl _

/-- A row's sum of weights is positive. -/
theorem Z_pos : 0 < A.Z r M := by
  refine Finset.sum_pos' (fun k _ => A.E_nonneg r k M) ⟨r, Finset.mem_univ _, ?_⟩
  unfold E
  rw [if_pos (Nat.le_refl _)]
  exact Real.exp_pos _

/-- Another shift multiplies a row's sum by the same constant. -/
theorem Z_shift : A.Z r M = A.Z r 0 * Real.exp (-M) := by
  unfold Z
  rw [Finset.sum_mul]
  exact Finset.sum_congr rfl fun k _ => A.E_shift r k M

/-- The softmax does not depend on what the scores are lessened by. -/
theorem W_eq : A.E r k M / A.Z r M = A.W r k := by
  unfold W
  rw [E_shift, Z_shift, mul_div_mul_right _ _ (Real.exp_pos _).ne']

/-- The softmax of a key the row sees, from the logarithm of the sum. -/
theorem W_exp (h : k.val ≤ r.val) : Real.exp (A.S r k - (M + Real.log (A.Z r M))) = A.W r k := by
  rw [← A.W_eq r k M, ← sub_sub, Real.exp_sub, Real.exp_log (A.Z_pos r M)]
  unfold E
  rw [if_pos h]

/-- A masked weight is zero. -/
theorem W_out (h : ¬ k.val ≤ r.val) : A.W r k = 0 := by
  unfold W E
  rw [if_neg h, zero_div]

/-- A masked score's gradient is zero. -/
theorem DS_out (h : ¬ k.val ≤ r.val) : A.DS r k = 0 := by
  unfold DS
  rw [A.W_out r k h, zero_mul]

/-- The cotangent against the attention's result. -/
theorem DL_eq : ∑ e, A.c r e * ∑ k, A.W r k * A.v k e = A.DL r := by
  unfold DL DP
  simp only [Finset.mul_sum]
  rw [Finset.sum_comm]
  refine Finset.sum_congr rfl fun k _ => Finset.sum_congr rfl fun e _ => ?_
  ring
end Head

end Cert.Proof.Att
-- ==== Proof.ValHostAt.lean ====
module

public import proofs.«01_k».proof.Proof.ValHost
public import proofs.«01_k».proof.Proof.ValArr
public import proofs.«01_k».proof.Proof.ValReal

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem

/-! ## What the host prepares, at an index -/

variable (x0 x1 : FVec Ideal S16384x16x96 FTy.f32) (x2 : FVec Ideal S16384x16x64 FTy.f32) (x3 : FVec Ideal S16384x1024 FTy.f32)
  (s e : FVec Ideal S16x16384x16384 FTy.f32) (mx : FVec Ideal S16x16384 FTy.f32) (dn : FVec Ideal S16x16384x1 FTy.f32)

/-- The padded array at one of its 96 columns. -/
theorem hPad_lo (H : Fin 16) (r : Fin 16384) (d : Fin 128) (h : d.val < 96) : hPad x0 (ix3 H r d) = x0 (ix3 r H ⟨d.val, h⟩) := by
  pointwise [hPad]
  rw [dif_pos h]
/-- The padded array beyond its columns. -/
theorem hPad_hi (H : Fin 16) (r : Fin 16384) (d : Fin 128) (h : ¬ d.val < 96) : hPad x0 (ix3 H r d) = 0 := by
  pointwise [hPad]
  rw [dif_neg h]
  show (((0#32 : BitVec 32).toInt : ℝ) : EReal) = 0
  simp
/-- The values' part of the array with the ones. -/
theorem hSide_apply (o : FVec Ideal S16x16384x64 FTy.f32) (H : Fin 16) (r : Fin 16384) (e : Fin 64) : hSide (hVal x2) o (ix3 H r (vcol e)) = x2 (ix3 r H e) := by
  pointwise [hSide, hVal]
  have h : (vcol e).val < 64 := e.isLt
  rw [dif_pos h]
  exact congrArg x2 (congrArg (fun a : Fin 64 => (ix3 r H a : S16384x16x64.Idx)) (Fin.ext rfl))
/-- A masked score. -/
theorem hSc_apply (H : Fin 16) (r k : Fin 16384) : hSc x0 x1 (ix3 H r k)
    = if k.val ≤ r.val then (∑ d : Fin 96, x0 (ix3 r H d) * x1 (ix3 k H d)) * Ideal.ofBits .f32 0x3DD105EC#32 else ⊥ := by
  pointwise [hSc]
  have hb : Ideal.ofBits FTy.f32 4286578688#32 = ⊥ := Cert.Proof.Att.bits_bot
  have hk := k.isLt
  have hr := r.isLt
  rw [hb]
  by_cases h : k.val ≤ r.val
  · rw [if_pos h, (WordCmp.cmpi_sle_ofNat_eq_one_iff (by omega) (by omega)).mpr h]; rfl
  · rw [if_neg h, (WordCmp.cmpi_sle_ofNat_eq_zero_iff (by omega) (by omega)).mpr h]; rfl
/-- An unnormalised weight. -/
theorem hExp_apply (H : Fin 16) (r k : Fin 16384) : hExp s mx (ix3 H r k) = Ideal.exp (s (ix3 H r k) - mx (ix2 H r)) := by
  pointwise [hExp]
/-- A row's sum of weights. -/
theorem hDen_apply (H : Fin 16) (r : Fin 16384) : hDen e (ix3 H r 0) = ∑ k : Fin 16384, e (ix3 H r k) := by
  pointwise [hDen]
/-- A row's log-sum. -/
theorem hLse_apply (H : Fin 16) (b : Fin 32) (x : Fin 512) : hLse mx dn (ix4 H b 0 x) = mx (ix2 H (row b.val x)) + Ideal.log (dn (ix3 H (row b.val x) 0)) := by
  pointwise [hLse]
  rw [(show row b.val x = ⟨b.val * 512 + x.val, by have := b.isLt; have := x.isLt; omega⟩ from Fin.ext (row_val b.val b.isLt x))]
/-- A row's product of cotangent and output. -/
theorem hDel_apply (H : Fin 16) (b : Fin 32) (x : Fin 512) : hDel x2 x3 e dn (ix4 H b 0 x)
    = ∑ j : Fin 64, x3 (ix2 (row b.val x) (ccol H j)) * ∑ k : Fin 16384, Ideal.div (e (ix3 H (row b.val x) k)) (dn (ix3 H (row b.val x) 0)) * x2 (ix3 k H j) := by
  pointwise [hDel, hVal]
  rw [(show row b.val x = ⟨b.val * 512 + x.val, by have := b.isLt; have := x.isLt; omega⟩ from Fin.ext (row_val b.val b.isLt x))]
  exact Finset.sum_congr rfl fun j _ => rfl
/-- The maximum of a row with no top and not only bottoms is a real number. -/
theorem hMax_apply (H : Fin 16) (r : Fin 16384) (h : ∀ k, s (ix3 H r k) ≠ ⊤) (h' : ∃ k, s (ix3 H r k) ≠ ⊥) : ∃ M : ℝ, hMax s (ix2 H r) = (M : EReal) := by
  unfold hMax
  rw [Host.reduce_eq_fold]
  have hb : constant (F := Ideal) S_ FTy.f32 (4286578688#32) (Shape.Idx.first h_S_) = ⊥ := Cert.Proof.Att.bits_bot
  rw [hb]
  refine Cert.Proof.Att.fold_real s _ (fun i hi => ?_) ?_
  · have e := (Finset.mem_filter.mp hi).2
    have e0 : i 0 = H := congrFun e 0
    have e1 : i 1 = r := congrFun e 1
    have : i = (ix3 H r (i 2) : S16x16384x16384.Idx) := by
      funext a; match a with | ⟨0, _⟩ => exact e0 | ⟨1, _⟩ => exact e1 | ⟨2, _⟩ => rfl
    rw [this]; exact h _
  · obtain ⟨k, hk⟩ := h'
    refine ⟨ix3 H r k, Finset.mem_filter.mpr ⟨Finset.mem_univ _, ?_⟩, hk⟩
    funext a; match a with | ⟨0, _⟩ => rfl | ⟨1, _⟩ => rfl

end Cert.KernelIdeal.Hand
-- ==== Proof.ValPtR.lean ====
module

public import proofs.«01_k».proof.Proof.ValReal

@[expose] public section

noncomputable section

namespace Cert.KernelIdeal.Hand

open Cert.KernelIdeal Cert.KernelIdeal.Gen
open Idealize.ShloMosaic Idealize.ShloMosaic.TcCoe
open Cert.Proof.Att (Head D coe_sum)

/-! ## A point's parts over real arguments -/

/-- 96 columns followed by 32 of zeros. -/
def ext (f : Fin 96 → ℝ) (d : Fin 128) : ℝ := if h : d.val < 96 then f ⟨d.val, h⟩ else 0

/-- A padded row at one of its 96 columns. -/
theorem ext_lo (f : Fin 96 → ℝ) (d : Fin 128) (h : d.val < 96) : ext f d = f ⟨d.val, h⟩ := dif_pos h
/-- A padded row beyond its columns. -/
theorem ext_hi (f : Fin 96 → ℝ) (d : Fin 128) (h : ¬ d.val < 96) : ext f d = 0 := dif_neg h

/-- The product of two padded rows is that of the rows. -/
theorem sum_ext (f g : Fin 96 → ℝ) : ∑ d : Fin 128, ext f d * ext g d = ∑ d : Fin 96, f d * g d := by
  have e := Fin.sum_univ_add (a := 96) (b := 32) (fun d : Fin (96 + 32) => ext f d * ext g d)
  refine e.trans ?_
  rw [Finset.sum_eq_zero (s := (Finset.univ : Finset (Fin 32))), add_zero]
  · refine Finset.sum_congr rfl fun d _ => ?_
    rw [ext_lo f _ d.isLt, ext_lo g _ d.isLt]
    rfl
  · intro d _
    rw [ext_hi f _ (by show ¬ 96 + d.val < 96; omega), zero_mul]

/-- A point's blocks are those of a head, at a block of keys. -/
structure IsHead (A : Head) (L : Fin 16384 → ℝ) (I : Inp Ideal) (ki : ℕ) (h : Fin 2) : Prop where
  q : ∀ r d, I.q (ix3 h r d) = (ext (A.q r) d : EReal)
  k : ∀ j d, I.k (ix3 h j d) = (ext (A.k (row ki j)) d : EReal)
  v : ∀ j e, I.v (ix3 h j (vcol e)) = (A.v (row ki j) e : EReal)
  d : ∀ r e, I.d (ix2 r (hcol h e)) = (A.c r e : EReal)
  l : ∀ qi, qi < 32 → ∀ x, I.l (ix4 h (bno qi) 0 x) = (L (row qi x) : EReal)
  t : ∀ qi, qi < 32 → ∀ x, I.t (ix4 h (bno qi) 0 x) = (A.DL (row qi x) : EReal)
  w : ∀ r k : Fin 16384, k.val ≤ r.val → Real.exp (A.S r k - L r) = A.W r k

section
variable {A : Head} {L : Fin 16384 → ℝ} {I : Inp Ideal} {ki : ℕ} {h : Fin 2} (B : IsHead A L I ki h)
include B

/-- A point's scores, over the reals. -/
theorem IsHead.s_eq (j : Fin 512) (qi : ℕ) (x : Fin 512) : sI I h j qi x = ((A.S (row qi x) (row ki j) * (Real.log 2)⁻¹ : ℝ) : EReal) := by
  unfold sI
  simp only [B.q, B.k, qsc]
  simp only [← EReal.coe_mul, ← coe_sum]
  congr 1
  unfold Head.S
  rw [← sum_ext, Finset.sum_mul, Finset.sum_mul]
  refine Finset.sum_congr rfl fun d _ => ?_
  unfold D
  ring

/-- A point's weights are the softmax's. -/
theorem IsHead.p_eq (hk : ki < 32) (j : Fin 512) (qi : ℕ) (hq : qi < 32) (x : Fin 512) : pI I ki h j qi x = (A.W (row qi x) (row ki j) : EReal) := by
  unfold pI
  have rk := row_val ki hk j
  have rq := row_val qi hq x
  rw [B.l qi hq x]
  by_cases c : ki * 512 + j.val ≤ qi * 512 + x.val
  · rw [if_pos c, B.s_eq, l2e, ← EReal.coe_mul, ← EReal.coe_sub, Ideal.exp2_coe, ← B.w _ _ (by rw [rk, rq]; exact c)]
    congr 1
    rw [Real.rpow_eq_pow]
    rw [Real.rpow_def_of_pos (by norm_num), ← sub_mul]
    congr 1
    have : Real.log 2 ≠ 0 := (Real.log_pos (by norm_num)).ne'
    field_simp
  · rw [if_neg c, l2e, ← EReal.coe_mul, EReal.bot_sub, Ideal.exp2_bot, A.W_out _ _ (by rw [rk, rq]; exact c)]
    rfl

/-- A point's gradients of the scores are the softmax's. -/
theorem IsHead.ds_eq (hk : ki < 32) (j : Fin 512) (qi : ℕ) (hq : qi < 32) (x : Fin 512) : dsI I ki h j qi x = (A.DS (row qi x) (row ki j) : EReal) := by
  unfold dsI
  rw [B.p_eq hk j qi hq x, B.t qi hq x]
  simp only [B.v, B.d, ← EReal.coe_mul, ← coe_sum, ← EReal.coe_sub]
  rfl

/-- What a block adds to the keys' gradient, over the reals. -/
theorem IsHead.k_eq (hk : ki < 32) (j : Fin 512) (d : Fin 128) (qi : ℕ) (hq : qi < 32) :
    kT I ki h j d qi = ((∑ x : Fin 512, A.DS (row qi x) (row ki j) * (ext (A.q (row qi x)) d * (D * (Real.log 2)⁻¹)) : ℝ) : EReal) := by
  unfold kT
  rw [coe_sum]
  refine Finset.sum_congr rfl fun x _ => ?_
  rw [B.ds_eq hk j qi hq x, B.q, EReal.coe_mul, EReal.coe_mul]
  rfl

/-- What a block adds to the values' gradient, over the reals. -/
theorem IsHead.v_eq (hk : ki < 32) (j : Fin 512) (e : Fin 64) (qi : ℕ) (hq : qi < 32) :
    vT I ki h j e qi = ((∑ x : Fin 512, A.W (row qi x) (row ki j) * A.c (row qi x) e : ℝ) : EReal) := by
  unfold vT
  rw [coe_sum]
  refine Finset.sum_congr rfl fun x _ => ?_
  rw [B.p_eq hk j qi hq x, B.d, EReal.coe_mul]

/-- What a block adds to the queries' gradient, over the reals. -/
theorem IsHead.q_eq (hk : ki < 32) (d : Fin 128) (qi : ℕ) (hq : qi < 32) (x : Fin 512) :
    qT I ki h qi x d = ((∑ j : Fin 512, A.DS (row qi x) (row ki j) * ext (A.k (row ki j)) d : ℝ) : EReal) := by
  unfold qT
  rw [coe_sum]
  refine Finset.sum_congr rfl fun j _ => ?_
  rw [B.ds_eq hk j qi hq x, B.k, EReal.coe_mul]
end

/-- A sum over the blocks of rows from one on is over all of them, when those before add nothing. -/
theorem sum_from (g : ℕ → ℝ) (n : ℕ) (hn : n ≤ 32) (h : ∀ t, t < n → g t = 0) :
    ∑ t ∈ Finset.range (32 - n), g (n + t) = ∑ t ∈ Finset.range 32, g t := by
  have e := Finset.sum_range_add_sum_Ico g hn
  rw [← e, Finset.sum_eq_zero (s := Finset.range n) (fun t ht => h t (Finset.mem_range.mp ht)), zero_add, Finset.sum_Ico_eq_sum_range]

end Cert.KernelIdeal.Hand
-- ==== Proof.ValKer.lean ====
module

public import proofs.«01_k».proof.Proof.ValDq
public import proofs.«01_k».proof.Proof.ValHostAt
public import proofs.«01_k».proof.Proof.ValPtR

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem
open Cert.Proof.Att (Head D coe_sum)

/-! ## The launch's results over real arguments -/

/-- The arguments of one head are real numbers. -/
structure RealHead (x0 x1 : FVec Ideal S16384x16x96 FTy.f32) (x2 : FVec Ideal S16384x16x64 FTy.f32) (x3 : FVec Ideal S16384x1024 FTy.f32) (H : Fin 16) (A : Head) : Prop where
  h0 : ∀ r d, x0 (ix3 r H d) = (A.q r d : EReal)
  h1 : ∀ r d, x1 (ix3 r H d) = (A.k r d : EReal)
  h2 : ∀ r e, x2 (ix3 r H e) = (A.v r e : EReal)
  h3 : ∀ r e, x3 (ix2 r (ccol H e)) = (A.c r e : EReal)

section
variable {x0 x1 : FVec Ideal S16384x16x96 FTy.f32} {x2 : FVec Ideal S16384x16x64 FTy.f32} {x3 : FVec Ideal S16384x1024 FTy.f32} {H : Fin 16} {A : Head}
  (R : RealHead x0 x1 x2 x3 H A)
include R

/-- The padded queries are real. -/
theorem pad_q (r : Fin 16384) (d : Fin 128) : hPad x0 (ix3 H r d) = (ext (A.q r) d : EReal) := by
  by_cases c : d.val < 96
  · rw [hPad_lo _ _ _ _ c, ext_lo _ _ c, R.h0]
  · rw [hPad_hi _ _ _ _ c, ext_hi _ _ c]; rfl

/-- The padded keys are real. -/
theorem pad_k (r : Fin 16384) (d : Fin 128) : hPad x1 (ix3 H r d) = (ext (A.k r) d : EReal) := by
  by_cases c : d.val < 96
  · rw [hPad_lo _ _ _ _ c, ext_lo _ _ c, R.h1]
  · rw [hPad_hi _ _ _ _ c, ext_hi _ _ c]; rfl

/-- The scores are real where they are not masked. -/
theorem sc_real (r k : Fin 16384) : hSc x0 x1 (ix3 H r k) = if k.val ≤ r.val then (A.S r k : EReal) else ⊥ := by
  rw [hSc_apply]
  refine if_congr Iff.rfl ?_ rfl
  simp only [R.h0, R.h1, Cert.Proof.Att.bits_D, ← EReal.coe_mul, ← coe_sum]
  rfl

/-- Every row's maximum is a real number. -/
theorem mx_real (r : Fin 16384) : ∃ M : ℝ, hMax (hSc x0 x1) (ix2 H r) = (M : EReal) := by
  have e := sc_real R r
  generalize hSc x0 x1 = s at e ⊢
  refine hMax_apply s H r (fun k => ?_) ⟨r, ?_⟩
  · rw [e k]
    split
    · exact EReal.coe_ne_top _
    · exact bot_ne_top
  · rw [e r, if_pos (Nat.le_refl _)]
    exact EReal.coe_ne_bot _

variable {mx : FVec Ideal S16x16384 FTy.f32} {r : Fin 16384} {M : ℝ} (hM : mx (ix2 H r) = (M : EReal))
include hM

/-- The unnormalised weights are real. -/
theorem ex_real (k : Fin 16384) : hExp (hSc x0 x1) mx (ix3 H r k) = (A.E r k M : EReal) := by
  rw [hExp_apply, hM, sc_real R]
  unfold Head.E
  split
  · rw [← EReal.coe_sub, Ideal.exp_coe]
  · rw [EReal.bot_sub, Ideal.exp_bot]; rfl

/-- The rows' sums are real. -/
theorem den_real : hDen (hExp (hSc x0 x1) mx) (ix3 H r 0) = (A.Z r M : EReal) := by
  rw [hDen_apply, Head.Z, coe_sum]
  exact Finset.sum_congr rfl fun k _ => ex_real R hM k
end

section
variable {x0 x1 : FVec Ideal S16384x16x96 FTy.f32} {x2 : FVec Ideal S16384x16x64 FTy.f32} {x3 : FVec Ideal S16384x1024 FTy.f32} {H : Fin 16} {A : Head}
  (R : RealHead x0 x1 x2 x3 H A) {mx : FVec Ideal S16x16384 FTy.f32} {M : Fin 16384 → ℝ} (hM : ∀ r, mx (ix2 H r) = (M r : EReal))
include R hM

/-- The rows' log-sums are real. -/
theorem lse_real (b : Fin 32) (x : Fin 512) : hLse mx (hDen (hExp (hSc x0 x1) mx)) (ix4 H b 0 x)
    = ((M (row b.val x) + Real.log (A.Z (row b.val x) (M (row b.val x))) : ℝ) : EReal) := by
  have z := A.Z_pos (row b.val x) (M (row b.val x))
  rw [hLse_apply, hM, den_real R (hM _), Ideal.log_coe, if_neg (not_le.mpr z), ← EReal.coe_add]

/-- The rows' products of cotangent and output are real. -/
theorem del_real (b : Fin 32) (x : Fin 512) : hDel x2 x3 (hExp (hSc x0 x1) mx) (hDen (hExp (hSc x0 x1) mx)) (ix4 H b 0 x) = (A.DL (row b.val x) : EReal) := by
  rw [hDel_apply, ← A.DL_eq, coe_sum]
  refine Finset.sum_congr rfl fun e _ => ?_
  rw [R.h3, EReal.coe_mul, coe_sum]
  refine congrArg (fun y : EReal => (A.c (row b.val x) e : EReal) * y) (Finset.sum_congr rfl fun k _ => ?_)
  rw [ex_real R (hM _), den_real R (hM _), R.h2, Ideal.div_coe (A.Z_pos _ _).ne', ← EReal.coe_mul, ← EReal.coe_mul, mul_one_div, A.W_eq]
end

variable (m : (ℓ : Loc nD τ sig) → Buf (Elt Ideal) ℓ) (c : Dev nD)

/-- A point's blocks over real arguments. -/
theorem point_real {H : Fin 16} {A : Head} (R : RealHead (X0 m c) (X1 m c) (X2 m c) (X3 m c) H A) :
    ∃ L : Fin 16384 → ℝ, ∀ (t : Fin cfg0.N) (h : Fin 2), hd t h = H → IsHead A L (inp m c t) (t.val % 32) h := by
  choose M hM using mx_real R
  refine ⟨fun r => M r + Real.log (A.Z r (M r)), fun t h hH => ?_⟩
  subst hH
  refine ⟨fun r d => ?_, fun j d => ?_, fun j e => ?_, fun r e => ?_, fun qi hq x => ?_, fun qi hq x => ?_, fun r k hk => A.W_exp r k (M r) hk⟩
  · exact (inp_q m c t h r d).trans ((congrFun (V_3 m c) _).trans (pad_q R r d))
  · exact (inp_k m c t h j d).trans ((congrFun (V_5 m c) _).trans (pad_k R _ d))
  · exact (inp_v m c t h j (vcol e)).trans ((congrFun (V_10 m c) _).trans ((hSide_apply _ _ _ _ e).trans (R.h2 _ e)))
  · exact (inp_d m c t h r e).trans ((congrFun (V_39 m c) _).trans (R.h3 r e))
  · have hb : (bno qi).val = qi := Nat.mod_eq_of_lt hq
    refine (inp_l m c t h (bno qi) x).trans ((congrFun (V_40 m c) _).trans ((lse_real R hM (bno qi) x).trans ?_))
    rw [hb]
  · have hb : (bno qi).val = qi := Nat.mod_eq_of_lt hq
    refine (inp_t m c t h (bno qi) x).trans ((congrFun (V_41 m c) _).trans ((del_real R hM (bno qi) x).trans ?_))
    rw [hb]

end Cert.KernelIdeal.Hand
-- ==== Proof.ValFin.lean ====
module

public import proofs.«01_k».proof.Proof.ValKer

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem
open Cert.Proof.Att (Head D coe_sum sum_rows)

/-! ## The three arrays the launch leaves, over real arguments -/

/-- A row before a block of keys does not see it. -/
theorem row_before {qi ki : ℕ} (hq : qi < ki) (hk : ki < 32) (x j : Fin 512) : ¬ (row ki j).val ≤ (row qi x).val := by
  rw [row_val ki hk, row_val qi (by omega)]
  have := x.isLt
  omega

variable (m : (ℓ : Loc nD τ sig) → Buf (Elt Ideal) ℓ) (c : Dev nD) {H : Fin 16} {A : Head}
  (R : RealHead (X0 m c) (X1 m c) (X2 m c) (X3 m c) H A)
include R

/-- The keys' gradient. -/
theorem dk_real (k : Fin 16384) (d : Fin 128) : dkG m c (ix3 H k d) = (ext (A.dk k) d : EReal) := by
  obtain ⟨L, hL⟩ := point_real m c R
  obtain ⟨t, h, j, hH, rfl⟩ := at_pnt H k
  have B := hL t h hH
  subst hH
  have hk : t.val % 32 < 32 := Nat.mod_lt _ (by norm_num)
  rw [dkG_at, pay6_apply, finK_eq, coords_1]
  unfold krow
  generalize t.val % 32 = ki at B hk ⊢
  have e : ∑ s ∈ Finset.range (32 - ki), kT (inp m c t) ki h j d (ki + s)
      = ((∑ r, A.DS r (row ki j) * (ext (A.q r) d * (D * (Real.log 2)⁻¹)) : ℝ) : EReal) := by
    rw [sum_rows, ← sum_from _ ki hk.le (fun s hs => Finset.sum_eq_zero fun x _ => by rw [A.DS_out _ _ (row_before hs hk x j), zero_mul]), coe_sum]
    exact Finset.sum_congr rfl fun s hs => B.k_eq hk j d _ (by have := Finset.mem_range.mp hs; omega)
  rw [e, ← EReal.coe_mul]
  refine congrArg (fun y : ℝ => (y : EReal)) ?_
  have z : Real.log 2 ≠ 0 := (Real.log_pos (by norm_num)).ne'
  by_cases c : d.val < 96
  · rw [ext_lo _ _ c, Head.dk, Finset.sum_mul, Finset.sum_mul]
    refine Finset.sum_congr rfl fun r _ => ?_
    rw [ext_lo _ _ c]
    field_simp
  · rw [ext_hi _ _ c, Finset.sum_eq_zero, zero_mul]
    intro r _
    rw [ext_hi _ _ c, zero_mul, mul_zero]

/-- The values' gradient. -/
theorem dv_real (k : Fin 16384) (e : Fin 64) : dvG m c (ix3 H k e) = (A.dv k e : EReal) := by
  obtain ⟨L, hL⟩ := point_real m c R
  obtain ⟨t, h, j, hH, rfl⟩ := at_pnt H k
  have B := hL t h hH
  subst hH
  have hk : t.val % 32 < 32 := Nat.mod_lt _ (by norm_num)
  rw [dvG_at, finV_eq, coords_1]
  unfold krow
  generalize t.val % 32 = ki at B hk ⊢
  rw [Head.dv, sum_rows, ← sum_from _ ki hk.le (fun s hs => Finset.sum_eq_zero fun x _ => by rw [A.W_out _ _ (row_before hs hk x j), zero_mul]), coe_sum]
  exact Finset.sum_congr rfl fun s hs => B.v_eq hk j e _ (by have := Finset.mem_range.mp hs; omega)

/-- The queries' gradient. -/
theorem dq_real (r : Fin 16384) (d : Fin 128) : (hS m c cfg0.N : Vec Ideal S16x16384x128 .f32) (ix3 H r d) = (ext (A.dq r) d : EReal) := by
  obtain ⟨L, hL⟩ := point_real m c R
  obtain ⟨t, h, j, hH, rfl⟩ := at_pnt H r
  have ht := pt_lt t
  have hq : t.val % 32 < 32 := Nat.mod_lt _ (by norm_num)
  have hv : H.val = t.val / 32 * 2 + h.val := by rw [← hH]; rfl
  refine (dq_final m c (t.val / 32) (by omega) H h hv (t.val % 32) hq j d).trans ?_
  unfold krow
  generalize t.val % 32 = qi at hq ⊢
  generalize hp0 : t.val / 32 = hp at hv
  have hhp : hp < 8 := by omega
  have e : ∑ k ∈ Finset.range 32, qP m c hp h qi j d k = ((∑ k, A.DS (row qi j) k * ext (A.k k) d : ℝ) : EReal) := by
    rw [sum_rows, coe_sum]
    refine Finset.sum_congr rfl fun ki hk => ?_
    have hk := Finset.mem_range.mp hk
    have pv := pnt_val hp ki hhp hk
    have hH' : hd (pnt hp ki) h = H := Fin.ext (by show (pnt hp ki).val / 32 * 2 + h.val = H.val; rw [pv]; omega)
    have B := hL (pnt hp ki) h hH'
    rw [show (pnt hp ki).val % 32 = ki by rw [pv]; omega] at B
    unfold qP
    by_cases c : ki ≤ qi
    · rw [if_pos c]; exact B.q_eq hk d qi hq j
    · rw [if_neg c, Finset.sum_eq_zero fun x _ => by rw [A.DS_out _ _ (row_before (Nat.lt_of_not_le c) hk j x), zero_mul]]; rfl
  rw [e, Cert.Proof.Att.bits_D, ← EReal.coe_mul]
  refine congrArg (fun y : ℝ => (y : EReal)) ?_
  by_cases c : d.val < 96
  · rw [ext_lo _ _ c, Head.dq]
    refine congrArg (fun y : ℝ => y * D) (Finset.sum_congr rfl fun k _ => ?_)
    rw [ext_lo _ _ c]
  · rw [ext_hi _ _ c, Finset.sum_eq_zero, zero_mul]
    intro k _
    rw [ext_hi _ _ c, mul_zero]

end Cert.KernelIdeal.Hand
-- ==== Proof.ValFinite.lean ====
module

public import proofs.«01_k».proof.Defs
public import proofs.«01_k».proof.Proof.ValFin

@[expose] public section

set_option maxRecDepth 16384
set_option maxHeartbeats 400000

noncomputable section

namespace Cert.Proof

open Cert.KernelIdeal Cert.KernelIdeal.Hand
open Idealize.ShloMosaic Idealize.ShloMosaic.TcCoe Idealize.SL.Sem
open Cert.Proof.Att (Head)

/-! ## The precondition: the arguments are real numbers -/

/-- The side conditions of the precondition's operations. -/
theorem finite_facts : Cert.Pre_finite.Facts := ⟨by decide, by decide, by decide⟩

/-- The word of infinity. -/
theorem bits_top : Ideal.ofBits .f32 0x7F800000#32 = ⊤ := by simp [Ideal.ofBits, Ideal.ieee]

/-- A value whose size is below infinity is a real number. -/
theorem real_of_below (x : EReal) (h : Ideal.cmp .olt (max x (-x)) (⊤ : EReal) = 1#1) : x = (x.toReal : EReal) := by
  have h' : max x (-x) < ⊤ := by
    by_contra hn
    simp [Ideal.cmp, hn] at h
  refine (EReal.coe_toReal ?_ ?_).symm
  · rintro rfl; simp at h'
  · rintro rfl; simp at h'

/-- An array whose comparison with infinity is all ones holds real numbers. -/
theorem real_of_ones {S : Shape} (x t : FVec Ideal S .f32) (ht : ∀ i, t i = Ideal.ofBits .f32 0x7F800000#32)
    (h : cmpf .olt (Host.absf x) t = fun _ => 1#1) (i : S.Idx) : x i = ((x i : EReal).toReal : EReal) := by
  refine real_of_below (x i) ?_
  have e : Ideal.cmp .olt (max (x i : EReal) (-(x i : EReal))) (t i) = 1#1 := congrFun h i
  rw [ht i, bits_top] at e
  exact e

/-- The head of real numbers which the arguments hold at `H`. -/
def headOf (x0 x1 : FVec Ideal S16384x16x96 FTy.f32) (x2 : FVec Ideal S16384x16x64 FTy.f32) (x3 : FVec Ideal S16384x1024 FTy.f32) (H : Fin 16) : Head where
  q r d := (x0 (ix3 r H d) : EReal).toReal
  k r d := (x1 (ix3 r H d) : EReal).toReal
  v r e := (x2 (ix3 r H e) : EReal).toReal
  c r e := (x3 (ix2 r (ccol H e)) : EReal).toReal

/-- Under the precondition every head is one of real numbers. -/
theorem real_heads (m : (ℓ : Loc nD τ sig) → Buf (Elt Ideal) ℓ) (hm : Cert.Pre_KernelIdeal_finite (hPre_finite := finite_facts) m) (c : Dev nD) (H : Fin 16) :
    RealHead (X0 m c) (X1 m c) (X2 m c) (X3 m c) H (headOf (X0 m c) (X1 m c) (X2 m c) (X3 m c) H) := by
  obtain ⟨p0, p1, p2, p3⟩ := hm c
  exact ⟨fun r d => real_of_ones (X0 m c) _ (fun _ => rfl) p0 _, fun r d => real_of_ones (X1 m c) _ (fun _ => rfl) p1 _,
    fun r e => real_of_ones (X2 m c) _ (fun _ => rfl) p2 _, fun r e => real_of_ones (X3 m c) _ (fun _ => rfl) p3 _⟩

end Cert.Proof

end
-- ==== Proof.ValRef.lean ====
module

public import proofs.«01_k».proof.Proof.ValHostAt
public import proofs.«01_k».proof.Proof.Gen.ReferenceIdeal.Read

@[expose] public section

set_option maxRecDepth 16384
set_option maxHeartbeats 4000000

noncomputable section

namespace Cert.Proof

open Cert.ReferenceIdeal Cert.ReferenceIdeal.Gen Cert.ReferenceIdeal.Read
open Idealize.ShloMosaic Idealize.ShloMosaic.TcCoe
open Cert.Proof.Att (Head D coe_sum)

/-! ## The reference over real arguments -/

section
variable (x0 x1 : FVec Ideal S16384x16x96 FTy.f32) (x2 : FVec Ideal S16384x16x64 FTy.f32) (x3 : FVec Ideal S16384x1024 FTy.f32) (H : Fin 16)

/-- The reference's masked score. -/
theorem r_sc (r k : Fin 16384) : val_main_v11_0 (F := Ideal) x0 x1 (ix3 H r k)
    = if k.val ≤ r.val then (∑ d : Fin 96, x0 (ix3 r H d) * x1 (ix3 k H d)) * Ideal.ofBits .f32 0x3DD105EC#32 else ⊥ := by
  pointwise [val_main_v11_0, val_main_v11_1, val_main_v10, val_main_v9, val_main_v8, val_main_v7, val_main_v6, val_main_v5, val_main_v4, val_main_v0, val_main_v3, val_main_v2, val_main_cst, val_main_v1, val_main_call0_v2, val_main_call0_v0, val_main_cst_0]
  have hk := k.isLt
  have hr := r.isLt
  have hb : id (constant (F := Ideal) S_ FTy.f32 4286578688#32) ix0 = (⊥ : EReal) := Cert.Proof.Att.bits_bot
  rw [hb]
  by_cases h : k.val ≤ r.val
  · rw [if_pos h, (WordCmp.cmpi_sle_ofNat_eq_one_iff (by omega) (by omega)).mpr h]; rfl
  · rw [if_neg h, (WordCmp.cmpi_sle_ofNat_eq_zero_iff (by omega) (by omega)).mpr h]; rfl

/-- The reference's mask: the keys up to the row. -/
theorem r_mask (r k : Fin 16384) (a b : EReal) : Scalar.select (val_main_v11_1 (F := Ideal) (ix3 H r k)) a b = if k.val ≤ r.val then a else b := by
  have e : val_main_v11_1 (F := Ideal) (ix3 H r k) = IntOp.cmpi CmpIPredicate.sle (BitVec.ofNat 32 k.val) (BitVec.ofNat 32 r.val) := by
    pointwise [val_main_v11_1, val_main_v10, val_main_v9, val_main_v8, val_main_v7, val_main_v6, val_main_v5, val_main_v4, val_main_v0]
  have hk := k.isLt
  have hr := r.isLt
  rw [e]
  by_cases h : k.val ≤ r.val
  · rw [if_pos h, (WordCmp.cmpi_sle_ofNat_eq_one_iff (by omega) (by omega)).mpr h]; rfl
  · rw [if_neg h, (WordCmp.cmpi_sle_ofNat_eq_zero_iff (by omega) (by omega)).mpr h]; rfl

/-- The maximum of a row is real, when the row has a real entry and no infinity. -/
theorem r_max (s : FVec Ideal S16x16384x16384 FTy.f32) (r : Fin 16384) (h : ∀ k, s (ix3 H r k) ≠ ⊤) (h' : ∃ k, s (ix3 H r k) ≠ ⊥) :
    ∃ M : ℝ, Host.reduce FloatOps.maximumf s (val_main_cst_1 (F := Ideal)) reducesTo_S16x16384x16384_S16x16384_d2 h_S_ (ix2 H r) = (M : EReal) := by
  rw [Host.reduce_eq_fold]
  have hb : val_main_cst_1 (F := Ideal) (Shape.Idx.first h_S_) = ⊥ := Cert.Proof.Att.bits_bot
  rw [hb]
  refine Cert.Proof.Att.fold_real s _ (fun i hi => ?_) ?_
  · have e := (Finset.mem_filter.mp hi).2
    have e0 : i 0 = H := congrFun e 0
    have e1 : i 1 = r := congrFun e 1
    have : i = (ix3 H r (i 2) : S16x16384x16384.Idx) := by
      funext a; match a with | ⟨0, _⟩ => exact e0 | ⟨1, _⟩ => exact e1 | ⟨2, _⟩ => rfl
    rw [this]; exact h _
  · obtain ⟨k, hk⟩ := h'
    refine ⟨ix3 H r k, Finset.mem_filter.mpr ⟨Finset.mem_univ _, ?_⟩, hk⟩
    funext a; match a with | ⟨0, _⟩ => rfl | ⟨1, _⟩ => rfl

/-- The maximum as the program takes it: against the bottom once more. -/
theorem r_mx0 (r : Fin 16384) : val_main_v19 (F := Ideal) x0 x1 (ix2 H r) = val_main_v12 (F := Ideal) x0 x1 (ix2 H r) := by
  have e : val_main_v19 (F := Ideal) x0 x1 (ix2 H r) = max (Ideal.ofBits FTy.f32 0xFF800000#32) (val_main_v12 (F := Ideal) x0 x1 (ix2 H r)) := by
    rw [val_main_v19_apply, val_main_v18_apply, val_main_cst_3_apply]
    generalize val_main_v12 (F := Ideal) x0 x1 (ix2 H r) = y
    rfl
  rw [e, Cert.Proof.Att.bits_bot]
  exact max_eq_right bot_le

/-- The row's maximum as the reference keeps it. -/
theorem r_mx1 (s : FVec Ideal S16x16384x16384 FTy.f32) (hs : val_main_v11_0 (F := Ideal) x0 x1 = s) (r : Fin 16384) (h : ∀ k, s (ix3 H r k) ≠ ⊤) (h' : ∃ k, s (ix3 H r k) ≠ ⊥) :
    ∃ M : ℝ, val_main_v19 (F := Ideal) x0 x1 (ix2 H r) = (M : EReal) := by
  rw [r_mx0]
  unfold val_main_v12
  rw [hs]
  exact r_max H s r h h'

/-- The reference's unnormalised weight. -/
theorem r_ex (r k : Fin 16384) : val_main_v32 (F := Ideal) x0 x1 (ix3 H r k) = Ideal.exp (val_main_v11_0 (F := Ideal) x0 x1 (ix3 H r k) - val_main_v19 (F := Ideal) x0 x1 (ix2 H r)) := by
  pointwise [val_main_v32, val_main_v31, val_main_v30, val_main_v29]
/-- The reference's row sum. -/
theorem r_den (r : Fin 16384) : val_main_v33 (F := Ideal) x0 x1 (ix2 H r) = ∑ k : Fin 16384, val_main_v32 (F := Ideal) x0 x1 (ix3 H r k) := by
  pointwise [val_main_v33, val_main_cst_9]
/-- The reference's weight. -/
theorem r_w (r k : Fin 16384) : val_main_v36 (F := Ideal) x0 x1 (ix3 H r k) = Ideal.div (val_main_v32 (F := Ideal) x0 x1 (ix3 H r k)) (val_main_v33 (F := Ideal) x0 x1 (ix2 H r)) := by
  pointwise [val_main_v36, val_main_v35, val_main_v34]
/-- The cotangent by heads. -/
theorem r_ct (r : Fin 16384) (e : Fin 64) : val_main_v44 (F := Ideal) x3 (ix3 H e r) = x3 (ix2 r (Cert.KernelIdeal.Hand.ccol H e)) := by
  pointwise [val_main_v44, val_main_v43]
  rfl
/-- The gradient of a weight. -/
theorem r_dp (r k : Fin 16384) : val_main_v45 (F := Ideal) x2 x3 (ix3 H r k) = ∑ e : Fin 64, val_main_v44 (F := Ideal) x3 (ix3 H e r) * x2 (ix3 k H e) := by
  pointwise [val_main_v45]
/-- The reciprocal of the squared row sum. -/
theorem r_inv (r : Fin 16384) (z : Fin 1) : val_main_v39 (F := Ideal) x0 x1 (ix3 H r z) = Ideal.div 1 (val_main_v33 (F := Ideal) x0 x1 (ix2 H r) * val_main_v33 (F := Ideal) x0 x1 (ix2 H r)) := by
  pointwise [val_main_v39, val_main_v38, val_main_cst_10, val_main_v37, val_main_v34]
/-- The row's sum that the quotient's derivative takes. -/
theorem r_sum (r : Fin 16384) : val_main_v51 (F := Ideal) x0 x1 x2 x3 (ix2 H r)
    = ∑ k : Fin 16384, val_main_v45 (F := Ideal) x2 x3 (ix3 H r k) * val_main_v39 (F := Ideal) x0 x1 (ix3 H r 0) * val_main_v32 (F := Ideal) x0 x1 (ix3 H r k) := by
  pointwise [val_main_v51, val_main_cst_11, val_main_v50, val_main_v49, val_main_v48]
/-- Its negative. -/
theorem r_neg (r : Fin 16384) : val_main_v56 (F := Ideal) x0 x1 x2 x3 (ix2 H r) = - val_main_v51 (F := Ideal) x0 x1 x2 x3 (ix2 H r) := by
  pointwise [val_main_v56, val_main_cst_12, val_main_v53, val_main_v52]
  exact Fintype.sum_unique _
/-- The gradient of a score. -/
theorem r_ds (r k : Fin 16384) : val_main_v62 (F := Ideal) x0 x1 x2 x3 (ix3 H r k)
    = (if k.val ≤ r.val then (Ideal.div (val_main_v45 (F := Ideal) x2 x3 (ix3 H r k)) (val_main_v33 (F := Ideal) x0 x1 (ix2 H r)) + val_main_v56 (F := Ideal) x0 x1 x2 x3 (ix2 H r))
        * val_main_v32 (F := Ideal) x0 x1 (ix3 H r k) else 0) * Ideal.ofBits .f32 0x3DD105EC#32 := by
  rw [← r_mask H r k]
  pointwise [val_main_v62, val_main_v61, val_main_cst_13, val_main_v60, val_main_call1_v0, val_main_call1_cst, val_main_v59, val_main_v58, val_main_v57, val_main_v55, val_main_v54, val_main_v34]
/-- The queries' gradient, padded. -/
theorem r_q (r : Fin 16384) (d : Fin 128) : val_main_v68 (F := Ideal) x0 x1 x2 x3 (ix3 H r d)
    = if h : d.val < 96 then ∑ k : Fin 16384, val_main_v62 (F := Ideal) x0 x1 x2 x3 (ix3 H r k) * x1 (ix3 k H ⟨d.val, h⟩) else 0 := by
  pointwise [val_main_v68, val_main_v67, val_main_v66, val_main_v65, val_main_call2_v0, val_main_c]
  have e : (FloatOps.sitofp FTy.f32 (0#32 : BitVec 32) : Ideal FTy.f32) = (0 : EReal) := by
    show (((0#32 : BitVec 32).toInt : ℝ) : EReal) = 0
    simp
  rw [e]
/-- The keys' gradient, padded. -/
theorem r_k (k : Fin 16384) (d : Fin 128) : val_main_v70 (F := Ideal) x0 x1 x2 x3 (ix3 H k d)
    = if h : d.val < 96 then ∑ r : Fin 16384, val_main_v62 (F := Ideal) x0 x1 x2 x3 (ix3 H r k) * x0 (ix3 r H ⟨d.val, h⟩) else 0 := by
  pointwise [val_main_v70, val_main_v69, val_main_v64, val_main_v63, val_main_call3_v0, val_main_c_14]
  have e : (FloatOps.sitofp FTy.f32 (0#32 : BitVec 32) : Ideal FTy.f32) = (0 : EReal) := by
    show (((0#32 : BitVec 32).toInt : ℝ) : EReal) = 0
    simp
  rw [e]
/-- The values' gradient. -/
theorem r_v (k : Fin 16384) (e : Fin 64) : val_main_v71 (F := Ideal) x0 x1 x3 (ix3 H k e)
    = ∑ r : Fin 16384, val_main_v44 (F := Ideal) x3 (ix3 H e r) * val_main_v36 (F := Ideal) x0 x1 (ix3 H r k) := by
  pointwise [val_main_v71, val_main_v47, val_main_v46]
end

end Cert.Proof
-- ==== Proof.ValRefR.lean ====
module

public import proofs.«01_k».proof.Proof.ValRef
public import proofs.«01_k».proof.Proof.ValPtR

@[expose] public section

set_option maxRecDepth 16384
set_option maxHeartbeats 4000000

noncomputable section

namespace Cert.Proof

open Cert.ReferenceIdeal Cert.ReferenceIdeal.Gen Cert.ReferenceIdeal.Read
open Idealize.ShloMosaic Idealize.ShloMosaic.TcCoe
open Cert.Proof.Att (Head D coe_sum)
open Cert.KernelIdeal.Hand (ext ext_lo ext_hi ccol)

/-! ## The reference's results over real arguments -/

section
variable (x0 x1 : FVec Ideal S16384x16x96 FTy.f32) (x2 : FVec Ideal S16384x16x64 FTy.f32) (x3 : FVec Ideal S16384x1024 FTy.f32) (H : Fin 16) (A : Head)
  (h0 : ∀ r d, x0 (ix3 r H d) = (A.q r d : EReal)) (h1 : ∀ r d, x1 (ix3 r H d) = (A.k r d : EReal))
  (h2 : ∀ r e, x2 (ix3 r H e) = (A.v r e : EReal)) (h3 : ∀ r e, x3 (ix2 r (ccol H e)) = (A.c r e : EReal))

section
include h0 h1

/-- The reference's scores, over the reals. -/
theorem q_sc (r k : Fin 16384) : val_main_v11_0 (F := Ideal) x0 x1 (ix3 H r k) = if k.val ≤ r.val then (A.S r k : EReal) else ⊥ := by
  rw [r_sc]
  refine if_congr Iff.rfl ?_ rfl
  simp only [h0, h1, Att.bits_D, ← EReal.coe_mul, ← coe_sum]
  rfl

/-- Every row's maximum is a real number. -/
theorem q_mx (r : Fin 16384) : ∃ M : ℝ, val_main_v19 (F := Ideal) x0 x1 (ix2 H r) = (M : EReal) := by
  have e := q_sc x0 x1 H A h0 h1 r
  generalize hs : val_main_v11_0 (F := Ideal) x0 x1 = s at e
  refine r_mx1 x0 x1 H s hs r (fun k => ?_) ⟨r, ?_⟩
  · rw [e k]
    split
    · exact EReal.coe_ne_top _
    · exact bot_ne_top
  · rw [e r, if_pos (Nat.le_refl _)]
    exact EReal.coe_ne_bot _

variable {r : Fin 16384} {M : ℝ} (hM : val_main_v19 (F := Ideal) x0 x1 (ix2 H r) = (M : EReal))
include hM

/-- The reference's unnormalised weights, over the reals. -/
theorem q_ex (k : Fin 16384) : val_main_v32 (F := Ideal) x0 x1 (ix3 H r k) = (A.E r k M : EReal) := by
  rw [r_ex, hM, q_sc x0 x1 H A h0 h1]
  unfold Head.E
  split
  · rw [← EReal.coe_sub, Ideal.exp_coe]
  · rw [EReal.bot_sub, Ideal.exp_bot]; rfl

/-- The reference's row sums, over the reals. -/
theorem q_den : val_main_v33 (F := Ideal) x0 x1 (ix2 H r) = (A.Z r M : EReal) := by
  rw [r_den, Head.Z, coe_sum]
  exact Finset.sum_congr rfl fun k _ => q_ex x0 x1 H A h0 h1 hM k

/-- The reference's weights, over the reals. -/
theorem q_w (k : Fin 16384) : val_main_v36 (F := Ideal) x0 x1 (ix3 H r k) = (A.W r k : EReal) := by
  rw [r_w, q_ex x0 x1 H A h0 h1 hM, q_den x0 x1 H A h0 h1 hM, Ideal.div_coe (A.Z_pos r M).ne', ← EReal.coe_mul, ← A.W_eq r k M, mul_one_div]

/-- The reciprocal of the squared row sum, over the reals. -/
theorem q_inv : val_main_v39 (F := Ideal) x0 x1 (ix3 H r 0) = ((1 / (A.Z r M * A.Z r M) : ℝ) : EReal) := by
  have z := (A.Z_pos r M).ne'
  rw [r_inv, q_den x0 x1 H A h0 h1 hM, ← EReal.coe_mul, Ideal.div_coe (mul_ne_zero z z), one_mul]
end

section
include h2 h3
/-- The gradients of the weights, over the reals. -/
theorem q_dp (r k : Fin 16384) : val_main_v45 (F := Ideal) x2 x3 (ix3 H r k) = (A.DP r k : EReal) := by
  rw [r_dp, Head.DP, coe_sum]
  refine Finset.sum_congr rfl fun e _ => ?_
  rw [r_ct, h2, h3, ← EReal.coe_mul, mul_comm]
end

include h0 h1 h2 h3

/-- The row's sum of the quotient's derivative, over the reals. -/
theorem q_sum {r : Fin 16384} {M : ℝ} (hM : val_main_v19 (F := Ideal) x0 x1 (ix2 H r) = (M : EReal)) :
    val_main_v51 (F := Ideal) x0 x1 x2 x3 (ix2 H r) = ((A.DL r / A.Z r M : ℝ) : EReal) := by
  rw [r_sum, Head.DL, Finset.sum_div, coe_sum]
  refine Finset.sum_congr rfl fun k _ => ?_
  rw [q_dp x2 x3 H A h2 h3, q_inv x0 x1 H A h0 h1 hM, q_ex x0 x1 H A h0 h1 hM, ← EReal.coe_mul, ← EReal.coe_mul, ← A.W_eq r k M]
  have z := (A.Z_pos r M).ne'
  refine congrArg (fun y : ℝ => (y : EReal)) ?_
  field_simp

/-- The gradients of the scores, over the reals. -/
theorem q_ds (r k : Fin 16384) : val_main_v62 (F := Ideal) x0 x1 x2 x3 (ix3 H r k) = ((A.DS r k * D : ℝ) : EReal) := by
  obtain ⟨M, hM⟩ := q_mx x0 x1 H A h0 h1 r
  rw [r_ds, Att.bits_D, EReal.coe_mul]
  refine congrArg (fun y : EReal => y * (D : EReal)) ?_
  by_cases c : k.val ≤ r.val
  · rw [if_pos c, q_dp x2 x3 H A h2 h3, q_den x0 x1 H A h0 h1 hM, r_neg, q_sum x0 x1 x2 x3 H A h0 h1 h2 h3 hM, q_ex x0 x1 H A h0 h1 hM,
      Ideal.div_coe (A.Z_pos r M).ne', ← EReal.coe_neg, ← EReal.coe_mul, ← EReal.coe_add, ← EReal.coe_mul, Head.DS, ← A.W_eq r k M]
    have z := (A.Z_pos r M).ne'
    refine congrArg (fun y : ℝ => (y : EReal)) ?_
    field_simp
    ring
  · rw [if_neg c, A.DS_out r k c]; rfl

/-- The reference's gradient of the queries, over the reals. -/
theorem q_q (r : Fin 16384) (d : Fin 128) : val_main_v68 (F := Ideal) x0 x1 x2 x3 (ix3 H r d) = (ext (A.dq r) d : EReal) := by
  rw [r_q]
  by_cases c : d.val < 96
  · rw [dif_pos c, ext_lo _ _ c, Head.dq, Finset.sum_mul, coe_sum]
    refine Finset.sum_congr rfl fun k _ => ?_
    rw [q_ds x0 x1 x2 x3 H A h0 h1 h2 h3, h1, ← EReal.coe_mul]
    exact congrArg (fun y : ℝ => (y : EReal)) (by ring)
  · rw [dif_neg c, ext_hi _ _ c]; rfl

/-- The reference's gradient of the keys, over the reals. -/
theorem q_k (k : Fin 16384) (d : Fin 128) : val_main_v70 (F := Ideal) x0 x1 x2 x3 (ix3 H k d) = (ext (A.dk k) d : EReal) := by
  rw [r_k]
  by_cases c : d.val < 96
  · rw [dif_pos c, ext_lo _ _ c, Head.dk, Finset.sum_mul, coe_sum]
    refine Finset.sum_congr rfl fun r _ => ?_
    rw [q_ds x0 x1 x2 x3 H A h0 h1 h2 h3, h0, ← EReal.coe_mul]
    exact congrArg (fun y : ℝ => (y : EReal)) (by ring)
  · rw [dif_neg c, ext_hi _ _ c]; rfl

omit h2 in
/-- The reference's gradient of the values, over the reals. -/
theorem q_v (k : Fin 16384) (e : Fin 64) : val_main_v71 (F := Ideal) x0 x1 x3 (ix3 H k e) = (A.dv k e : EReal) := by
  rw [r_v, Head.dv, coe_sum]
  refine Finset.sum_congr rfl fun r _ => ?_
  obtain ⟨M, hM⟩ := q_mx x0 x1 H A h0 h1 r
  rw [r_ct, h3, q_w x0 x1 H A h0 h1 hM, ← EReal.coe_mul, mul_comm]
end

end Cert.Proof
-- ==== Proof.Value.lean ====
module

public import proofs.«01_k».proof.Defs
public import proofs.«01_k».proof.Proof.ValFinite
public import proofs.«01_k».proof.Proof.ValOut
public import proofs.«01_k».proof.Proof.ValDq
public import proofs.«01_k».proof.Proof.ValRefR
public import proofs.«01_k».proof.Proof.Run
public import proofs.«01_k».proof.Proof.Gen.ReferenceIdeal
public import proofs.«01_k».proof.Proof.Gen.ReferenceIdeal.Run
public import proofs.«01_k».proof.Proof.Gen.ReferenceIdeal.Read

@[expose] public section

set_option maxRecDepth 16384
set_option maxHeartbeats 400000

noncomputable section

namespace Cert.Proof

open Cert.KernelIdeal Cert.KernelIdeal.Gen Cert.KernelIdeal.Hand
open Idealize.ShloMosaic Idealize.ShloMosaic.TcCoe Idealize.SL.Sem
open Cert.Proof.Att (Head)

/-! ## The kernel's three results are the reference's -/

section
variable (m : (ℓ : Loc nD τ sig) → Buf (Elt Ideal) ℓ)

/-- The kernel's run leaves the three arrays the value lemmas read, and its arguments as launched. -/
theorem kernel_leaves (g : Dev nD → PrngReg) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v42_0) = hS m c cfg0.N
      ∧ r.2.mem ((c.tc : Thread nD τ).loc main_v42_1) = dkG m c
      ∧ r.2.mem ((c.tc : Thread nD τ).loc main_v42_2) = dvG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨(h.1.written c (Finset.mem_singleton_self _)).trans (G_eq m c),
      ((h.1.toR c).1 6).trans (dk_final m c), ((h.1.toR c).1 7).trans (dv_final m c), args_kept m r h.1 c⟩)
    (run_main (F := Ideal) m g)

variable (hm : Cert.Pre_KernelIdeal_finite (hPre_finite := finite_facts) m) (c : Dev nD)
include hm

/-- The queries' gradient. -/
theorem dq_agrees : Cert.ReferenceIdeal.Read.val_main_v68 (F := Ideal) (X0 m c) (X1 m c) (X2 m c) (X3 m c) = hS m c cfg0.N := by
  funext i
  obtain ⟨H, r, d, rfl⟩ : ∃ a b c, i = ix3 a b c := ⟨_, _, _, eq_ix3 i⟩
  have R := real_heads m hm c H
  exact (q_q _ _ _ _ H _ R.h0 R.h1 R.h2 R.h3 r d).trans (dq_real m c R r d).symm

/-- The keys' gradient. -/
theorem dk_agrees : Cert.ReferenceIdeal.Read.val_main_v70 (F := Ideal) (X0 m c) (X1 m c) (X2 m c) (X3 m c) = dkG m c := by
  funext i
  obtain ⟨H, k, d, rfl⟩ : ∃ a b c, i = ix3 a b c := ⟨_, _, _, eq_ix3 i⟩
  have R := real_heads m hm c H
  exact (q_k _ _ _ _ H _ R.h0 R.h1 R.h2 R.h3 k d).trans (dk_real m c R k d).symm

/-- The values' gradient. -/
theorem dv_agrees : Cert.ReferenceIdeal.Read.val_main_v71 (F := Ideal) (X0 m c) (X1 m c) (X3 m c) = dvG m c := by
  funext i
  obtain ⟨H, k, e, rfl⟩ : ∃ a b c, i = ix3 a b c := ⟨_, _, _, eq_ix3 i⟩
  have R := real_heads m hm c H
  exact (q_v _ _ _ H _ R.h0 R.h1 R.h3 k e).trans (dv_real m c R k e).symm

end

/-- The kernel and the reference, on the same finite arguments, end with the same three gradients. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hm same
  refine ⟨fun c => hS m c cfg0.N, fun c => dkG m c, fun c => dvG m c, kernel_leaves m g, ?_⟩
  refine (θ_run Cert.ReferenceIdeal.defs _ _).mono (fun r h c => ?_) (Cert.ReferenceIdeal.Value.run (F := Ideal) m' g')
  obtain ⟨e0, e1, e2, ea⟩ := h c
  obtain ⟨a0, a1, a2, a3⟩ := same c
  refine ⟨e0.trans ?_, e1.trans ?_, e2.trans ?_, ea⟩
  · rw [Cert.ReferenceIdeal.Read.val_main_v68_eq, a0, a1, a2, a3]; exact dq_agrees m hm c
  · rw [Cert.ReferenceIdeal.Read.val_main_v70_eq, a0, a1, a2, a3]; exact dk_agrees m hm c
  · rw [Cert.ReferenceIdeal.Read.val_main_v71_eq, a0, a1, a3]; exact dv_agrees m hm c

end Cert.Proof

end
-- ==== Proof.Mat2.lean ====
module

public import proofs.«01_k».proof.Proof.Gen.Kernel2Ideal.Value
public import proofs.«01_k».proof.Proof.Gen.Reference2Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel2Ideal.Mat

open Cert.Kernel2Ideal Cert.Kernel2Ideal.Gen Cert.Kernel2Ideal.Value
open Idealize.ShloMosaic Idealize.ShloMosaic.TcCoe Idealize.SL.Sem

/-! ## The gradient of the feed-forward's input: what the blocked product leaves -/

/-- A sum over equal tiles is the sum over the whole. -/
theorem sum_tiles (b : ℕ) (f : ℕ → EReal) : ∀ n : ℕ, ∑ s ∈ Finset.range n, ∑ k : Fin b, f (s * b + k.val) = ∑ k ∈ Finset.range (n * b), f k
  | 0 => by simp
  | n + 1 => by
    rw [Finset.sum_range_succ, sum_tiles b f n, Nat.add_mul, one_mul, Finset.sum_range_add, Fin.sum_univ_eq_sum_range (fun k => f (n * b + k)) b]

/-- The offsets of a whole block. -/
theorem whole_off : (![0, 0] : Fin 2 → Nat) = fun _ => 0 := funext fun a => by fin_cases a <;> rfl

section
variable {F : FTy → Type} [FloatOps F]

/-- The first point of a row of blocks leaves the first product, over zeros. -/
theorem first_left (c : Dev nD) (i : grid0.Coords) (a3 : Memref sig .tc .vmem S1024x1408 .bf16) (h3 : a3.IsWhole) (a4 : Memref sig .tc .vmem S1024x1408 .bf16) (h4 : a4.IsWhole)
    (a5 : Memref sig .tc .vmem S1024x1024 .f32) (h5 : a5.IsWhole) (a6 : Memref sig .tc .vmem S1024x1024 .f32) (h6 : a6.IsWhole) (c0 : cond0_0 i) (c1 : ¬cond0_1 i)
    (x y : Vec F S1024x1408 .bf16) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S1024x1024) whole_off]
  simp only [View.readCov_unit_zero (S := S1024x1024) _ whole_off, View.readAt_eq_ld, h3.read_unread, h4.read_unread, View.ld_unit_zero (S := S1024x1408) whole_off]

/-- A later point adds its product. -/
theorem mid_left (c : Dev nD) (i : grid0.Coords) (a3 : Memref sig .tc .vmem S1024x1408 .bf16) (h3 : a3.IsWhole) (a4 : Memref sig .tc .vmem S1024x1408 .bf16) (h4 : a4.IsWhole)
    (a5 : Memref sig .tc .vmem S1024x1024 .f32) (h5 : a5.IsWhole) (a6 : Memref sig .tc .vmem S1024x1024 .f32) (h6 : a6.IsWhole) (c0 : ¬cond0_0 i) (c1 : ¬cond0_1 i)
    (x y : Vec F S1024x1408 .bf16) (s : Vec F S1024x1024 .f32) :
    sout0_B_0 c i a3 h3 a4 h4 a5 h5 a6 h6 c0 c1 x y s = k0_pay2 s x y := by
  unfold sout0_B_0
  rw [View.read_writes_eq_canon _ _ _ (scover0_B_0 c i a3 h3 a4 h4 a5 h5 a6 h6 c0 c1 x y s)]
  unfold kernelRun0_B
  dsimp only
  rw [View.canon_unit_zero whole_off]
  simp only [View.readAt_eq_ld, h3.read_unread, h4.read_unread, h6.read_unread, View.ld_unit_zero (S := S1024x1408) whole_off, View.ld_unit_zero (S := S1024x1024) whole_off]

/-- The last point adds its product too. -/
theorem last_left (c : Dev nD) (i : grid0.Coords) (a3 : Memref sig .tc .vmem S1024x1408 .bf16) (h3 : a3.IsWhole) (a4 : Memref sig .tc .vmem S1024x1408 .bf16) (h4 : a4.IsWhole)
    (a5 : Memref sig .tc .vmem S1024x1024 .f32) (h5 : a5.IsWhole) (a6 : Memref sig .tc .vmem S1024x1024 .f32) (h6 : a6.IsWhole) (c0 : ¬cond0_0 i) (c1 : cond0_1 i)
    (x y : Vec F S1024x1408 .bf16) (s : Vec F S1024x1024 .f32) :
    sout0_C_0 c i a3 h3 a4 h4 a5 h5 a6 h6 c0 c1 x y s = k0_pay2 s x y := by
  unfold sout0_C_0
  rw [View.read_writes_eq_canon _ _ _ (scover0_C_0 c i a3 h3 a4 h4 a5 h5 a6 h6 c0 c1 x y s)]
  unfold kernelRun0_C
  dsimp only
  sl_unfold_words
  rw [View.canon_unit_zero whole_off]
  simp only [View.readAt_eq_ld, h3.read_unread, h4.read_unread, h6.read_unread, View.ld_unit_zero (S := S1024x1408) whole_off, View.ld_unit_zero (S := S1024x1024) whole_off]

/-- And it writes the sum to the result's block. -/
theorem last_out (c : Dev nD) (i : grid0.Coords) (a3 : Memref sig .tc .vmem S1024x1408 .bf16) (h3 : a3.IsWhole) (a4 : Memref sig .tc .vmem S1024x1408 .bf16) (h4 : a4.IsWhole)
    (a5 : Memref sig .tc .vmem S1024x1024 .f32) (h5 : a5.IsWhole) (a6 : Memref sig .tc .vmem S1024x1024 .f32) (h6 : a6.IsWhole) (c0 : ¬cond0_0 i) (c1 : cond0_1 i)
    (x y : Vec F S1024x1408 .bf16) (s : Vec F S1024x1024 .f32) :
    out0_C_2 c i a3 h3 a4 h4 a5 h5 a6 h6 c0 c1 x y s = k0_pay2 s x y := by
  unfold out0_C_2
  rw [View.read_writes_eq_canon _ _ _ (cover0_C_2 c i a3 h3 a4 h4 a5 h5 a6 h6 c0 c1 x y s)]
  unfold kernelRun0_C
  dsimp only
  sl_unfold_words
  rw [View.canon_unit_zero whole_off]
  simp only [View.readCov_unit_zero (S := S1024x1024) _ whole_off, View.readAt_eq_ld, h3.read_unread, h4.read_unread, h6.read_unread, View.ld_unit_zero (S := S1024x1408) whole_off, View.ld_unit_zero (S := S1024x1024) whole_off]

end

/-- One point's step at an element: what was there and the tile's product. -/
theorem pay2_at (s : FVec Ideal S1024x1024 FTy.f32) (x y : FVec Ideal S1024x1408 FTy.bf16) (p q : Fin 1024) :
    k0_pay2 (F := Ideal) s x y (ix2 p q) = s (ix2 p q) + ∑ k : Fin 1408, x (ix2 p k) * y (ix2 q k) := by
  pointwise [k0_pay2]

/-- The zeros the first point starts from. -/
theorem pay1_at (p q : Fin 1024) : k0_pay1 (F := Ideal) (ix2 p q) = (0 : EReal) := by
  pointwise [k0_pay1]

/-- The row of blocks of a point. -/
theorem coords_0 (t : Fin grid0.N) : (grid0.coords t 0).val = t.val / 4 := by
  have h := Pipeline.Grid.coords_val (G := grid0) t 0 (S := 4) (B := 16) (by decide) rfl
  have hN : t.val < 64 := lt_of_lt_of_eq t.isLt N_0
  omega

/-- The column of blocks of a point: there is one. -/
theorem coords_1 (t : Fin grid0.N) : (grid0.coords t 1).val = 0 := by
  have h := (grid0.coords t 1).isLt
  exact Nat.lt_one_iff.mp h

/-- The tile of the summed axis a point takes. -/
theorem coords_2 (t : Fin grid0.N) : (grid0.coords t 2).val = t.val % 4 := by
  have h := Pipeline.Grid.coords_val (G := grid0) t 2 (S := 1) (B := 4) (by decide) rfl
  simpa using h

/-- The row of the first operand a point's block row stands for. -/
def rowOf (t : ℕ) (p : Fin 1024) : Fin 16384 := ⟨(t / 4 * 1024 + p.val) % 16384, Nat.mod_lt _ (by norm_num)⟩

/-- The column a point's block column stands for. -/
def colOf (t : ℕ) (k : Fin 1408) : Fin 5632 := ⟨(t % 4 * 1408 + k.val) % 5632, Nat.mod_lt _ (by norm_num)⟩

/-- Where the first operand's block lies in its array. -/
theorem emb_0 (t : Fin cfg0.N) (p : Fin 1024) (k : Fin 1408) :
    ((cfg0.win 0).blk t).view.emb (ix2 p k : S1024x1408.Idx) = (ix2 (rowOf t.val p) (colOf t.val k) : S16384x5632.Idx) := by
  have hN : t.val < 64 := lt_of_lt_of_eq t.isLt N_0
  have c0 := coords_0 t
  have c2 := coords_2 t
  funext a; apply Fin.ext
  match a with
  | ⟨0, _⟩ => show (BitVec.ofNat 32 (grid0.coords t 0).val).toNat * 1024 + 1 * p.val = (t.val / 4 * 1024 + p.val) % 16384; rw [c0, BitVec.toNat_ofNat]; omega
  | ⟨1, _⟩ => show (BitVec.ofNat 32 (grid0.coords t 2).val).toNat * 1408 + 1 * k.val = (t.val % 4 * 1408 + k.val) % 5632; rw [c2, BitVec.toNat_ofNat]; omega

/-- Where the second operand's block lies in its array. -/
theorem emb_1 (t : Fin cfg0.N) (p : Fin 1024) (k : Fin 1408) :
    ((cfg0.win 1).blk t).view.emb (ix2 p k : S1024x1408.Idx) = (ix2 p (colOf t.val k) : S1024x5632.Idx) := by
  have hN : t.val < 64 := lt_of_lt_of_eq t.isLt N_0
  have c1 := coords_1 t
  have c2 := coords_2 t
  funext a; apply Fin.ext
  match a with
  | ⟨0, _⟩ => show (BitVec.ofNat 32 (grid0.coords t 1).val).toNat * 1024 + 1 * p.val = p.val; rw [c1, BitVec.toNat_ofNat]; omega
  | ⟨1, _⟩ => show (BitVec.ofNat 32 (grid0.coords t 2).val).toNat * 1408 + 1 * k.val = (t.val % 4 * 1408 + k.val) % 5632; rw [c2, BitVec.toNat_ofNat]; omega

section
variable (c : Dev nD) (t : Fin cfg0.N)

/-- The first operand's block, read from any contents of the buffers. -/
theorem blk_0 (W : (b : Ref sig .tc) → Buf (Elt Ideal) ((c : Thread nD τ).loc b)) (p : Fin 1024) (k : Fin 1408) :
    ((cfg0.win 0).blk t).view.read (Elt Ideal) (W (Pipeline.arrRef spec0 0)) (ix2 p k : S1024x1408.Idx) = W main_arg1 (ix2 (rowOf t.val p) (colOf t.val k) : S16384x5632.Idx) := by
  show W main_arg1 (((cfg0.win 0).blk t).view.emb (ix2 p k : S1024x1408.Idx)) = _
  rw [emb_0]

/-- The second operand's block, read from any contents of the buffers. -/
theorem blk_1 (W : (b : Ref sig .tc) → Buf (Elt Ideal) ((c : Thread nD τ).loc b)) (p : Fin 1024) (k : Fin 1408) :
    ((cfg0.win 1).blk t).view.read (Elt Ideal) (W (Pipeline.arrRef spec0 1)) (ix2 p k : S1024x1408.Idx) = W main_arg0 (ix2 p (colOf t.val k) : S1024x5632.Idx) := by
  show W main_arg0 (((cfg0.win 1).blk t).view.emb (ix2 p k : S1024x1408.Idx)) = _
  rw [emb_1]

end

end Cert.Kernel2Ideal.Mat
-- ==== Proof.Mat2Sum.lean ====
module

public import proofs.«01_k».proof.Proof.Mat2
public import proofs.«01_k».proof.Proof.Gen.Reference2Ideal.Run
public import proofs.«01_k».proof.Proof.Gen.Reference2Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel2Ideal.Mat

open Cert.Kernel2Ideal Cert.Kernel2Ideal.Gen Cert.Kernel2Ideal.Value
open Idealize.ShloMosaic Idealize.ShloMosaic.TcCoe Idealize.SL.Sem

/-! ## The sums along a row of blocks, and the whole product -/

section
variable (m : (ℓ : Loc nD τ sig) → Buf (Elt Ideal) ℓ) (c : Dev nD)

/-- The first operand as the launch finds it. -/
abbrev xA : Vec Ideal S16384x5632 .bf16 := V m c main_arg1

/-- The second operand as the launch finds it. -/
abbrev wA : Vec Ideal S1024x5632 .bf16 := V m c main_arg0

/-- A tile's part of the product at an element of a point's block. -/
def part (t : ℕ) (p q : Fin 1024) : EReal := ∑ k : Fin 1408, xA m c (ix2 (rowOf t p) (colOf t k)) * wA m c (ix2 q (colOf t k))

/-- One point's step over any contents. -/
theorem step_at (t : Fin cfg0.N) (s : FVec Ideal S1024x1024 FTy.f32) (p q : Fin 1024) :
    k0_pay2 (F := Ideal) s (iblk m c 0 t) (iblk m c 1 t) (ix2 p q) = s (ix2 p q) + part m c t.val p q := by
  refine (pay2_at s (iblk m c 0 t) (iblk m c 1 t) p q).trans ?_
  unfold part
  refine congrArg (s (ix2 p q) + ·) (Finset.sum_congr rfl fun k _ => ?_)
  exact congrArg₂ (· * ·) (blk_0 c t (V m c) p k) (blk_1 c t (V m c) q k)

/-- What the first point of a row of blocks leaves. -/
theorem left_first (t : Fin cfg0.N) (h0 : t.val % 4 = 0) (p q : Fin 1024) :
    (outsAt0 m c t.val t.isLt).2 (ix2 p q) = part m c t.val p q := by
  rw [outsAt0_A m c t h0 (by omega)]
  dsimp only
  rw [first_left, step_at, pay1_at, zero_add]

/-- What a later point leaves: what the point before left and its own part. -/
theorem left_next (t : Fin cfg0.N) (h0 : ¬t.val % 4 = 0) (p q : Fin 1024) :
    (outsAt0 m c t.val t.isLt).2 (ix2 p q) = (outsAt0 m c (t.val - 1) (Nat.lt_of_le_of_lt (Nat.sub_le _ _) t.isLt)).2 (ix2 p q) + part m c t.val p q := by
  by_cases h1 : t.val % 4 = 3
  · rw [outsAt0_C m c t h0 h1]
    dsimp only
    rw [last_left, step_at]
  · rw [outsAt0_B m c t h0 h1]
    dsimp only
    rw [mid_left, step_at]

/-- The last point writes out what it leaves. -/
theorem out_last (t : Fin cfg0.N) (h1 : t.val % 4 = 3) (p q : Fin 1024) :
    (outsAt0 m c t.val t.isLt).1 (ix2 p q) = (outsAt0 m c t.val t.isLt).2 (ix2 p q) := by
  rw [outsAt0_C m c t (by omega) h1]
  dsimp only
  rw [last_left, last_out]

/-- The sum left after each point of a row of blocks. -/
theorem left_sum (r : ℕ) (p q : Fin 1024) : ∀ (j : ℕ) (hj : j < 4) (h : 4 * r + j < cfg0.N),
    (outsAt0 m c (4 * r + j) h).2 (ix2 p q) = ∑ s ∈ Finset.range (j + 1), part m c (4 * r + s) p q
  | 0, _, h => by
    rw [Finset.sum_range_one]
    exact left_first m c ⟨4 * r + 0, h⟩ (by show (4 * r + 0) % 4 = 0; omega) p q
  | j + 1, hj, h => by
    rw [Finset.sum_range_succ, ← left_sum r p q j (by omega) (by omega)]
    exact left_next m c ⟨4 * r + (j + 1), h⟩ (by show ¬(4 * r + (j + 1)) % 4 = 0; omega) p q

/-- The result's array at an element: the whole product. -/
theorem result_at (a : Fin 16384) (b : Fin 1024) :
    (G2 m c : FVec Ideal S16384x1024 FTy.f32) (ix2 a b) = (∑ k : Fin 5632, xA m c (ix2 a k) * wA m c (ix2 b k) : EReal) := by
  have hN : cfg0.N = 64 := N_0
  have hp : pt2Of (ix2 a b : S16384x1024.Idx) = 4 * (a.val / 1024) + 3 := by
    have hb : b.val / 1024 = 0 := Nat.div_eq_of_lt b.isLt
    show 4 * (1 * (a.val / 1024 - 0) + 1 * (b.val / 1024 - 0)) + 3 = _
    omega
  have hl : loc2Of (ix2 a b : S16384x1024.Idx) = (ix2 ⟨a.val % 1024, Nat.mod_lt _ (by norm_num)⟩ b : S1024x1024.Idx) := by
    funext d; apply Fin.ext
    match d with
    | ⟨0, _⟩ => rfl
    | ⟨1, _⟩ => exact Nat.mod_eq_of_lt b.isLt
  have hlt : pt2Of (ix2 a b : S16384x1024.Idx) < cfg0.N := by rw [hp, hN]; omega
  have hlt' : 4 * (a.val / 1024) + 3 < cfg0.N := by rw [hN]; omega
  have e : (G2 m c : Vec Ideal S16384x1024 .f32) (ix2 a b) = (outsAt0 m c (4 * (a.val / 1024) + 3) hlt').1 (ix2 ⟨a.val % 1024, Nat.mod_lt _ (by norm_num)⟩ b) := by
    unfold G2
    rw [dif_pos hlt, hl, ← outsAt0_sweep m c _ hlt]
    simp only [hp]
  refine e.trans ?_
  rw [out_last m c ⟨4 * (a.val / 1024) + 3, hlt'⟩ (by show (4 * (a.val / 1024) + 3) % 4 = 3; omega)]
  rw [left_sum m c (a.val / 1024) _ b 3 (by omega) hlt']
  let f : ℕ → EReal := fun k => xA m c (ix2 a ⟨k % 5632, Nat.mod_lt _ (by norm_num)⟩) * wA m c (ix2 b ⟨k % 5632, Nat.mod_lt _ (by norm_num)⟩)
  have e1 : ∀ s ∈ Finset.range (3 + 1), part m c (4 * (a.val / 1024) + s) ⟨a.val % 1024, Nat.mod_lt _ (by norm_num)⟩ b = ∑ k : Fin 1408, f (s * 1408 + k.val) := by
    intro s hs
    have hs4 := Finset.mem_range.mp hs
    unfold part
    refine Finset.sum_congr rfl fun k _ => ?_
    have hr : rowOf (4 * (a.val / 1024) + s) ⟨a.val % 1024, Nat.mod_lt _ (by norm_num)⟩ = a := by
      apply Fin.ext
      show ((4 * (a.val / 1024) + s) / 4 * 1024 + a.val % 1024) % 16384 = a.val
      omega
    have hc : colOf (4 * (a.val / 1024) + s) k = ⟨(s * 1408 + k.val) % 5632, Nat.mod_lt _ (by norm_num)⟩ := by
      apply Fin.ext
      show ((4 * (a.val / 1024) + s) % 4 * 1408 + k.val) % 5632 = (s * 1408 + k.val) % 5632
      omega
    rw [hr, hc]
  refine (Finset.sum_congr rfl e1).trans ((sum_tiles 1408 f 4).trans ((Fin.sum_univ_eq_sum_range f 5632).symm.trans ?_))
  refine Finset.sum_congr rfl fun k _ => ?_
  have hk : (⟨k.val % 5632, Nat.mod_lt _ (by norm_num)⟩ : Fin 5632) = k := Fin.ext (Nat.mod_eq_of_lt k.isLt)
  show xA m c (ix2 a ⟨k.val % 5632, _⟩) * wA m c (ix2 b ⟨k.val % 5632, _⟩) = _
  rw [hk]

end

end Cert.Kernel2Ideal.Mat

end
-- ==== Proof.Claim2.lean ====
module

public import proofs.«01_k».proof.Defs
public import proofs.«01_k».proof.Proof.Mat2Sum
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Proof

open Idealize.ShloMosaic Idealize.SL.Sem

/-- At words the idealized body is the printed one: no operation was replaced. -/
theorem words_kernel2 : Cert.Kernel2Ideal.cc0_f_gate_up_dx (F := Bits) = Cert.Kernel2.cc0_f_gate_up_dx (F := Bits) := rfl

/-- So are the bodies the launch calls. -/
theorem words_bodies2 : Cert.Kernel2Ideal.defs₀ (F := Bits) = Cert.Kernel2.defs₀ (F := Bits) := by
  unfold Cert.Kernel2Ideal.defs₀ Cert.Kernel2.defs₀
  refine congrArg Defs.onTc (funext fun l => funext fun x => ?_)
  match l, x with
  | 0, (t, s) => exact congrFun (congrFun (congrFun (congrFun (congrFun (congrFun (congrFun (congrFun (congrFun words_kernel2 _) _) _) _) _) _) _) _) _
  | ⟨_ + 1, h⟩, _ => exact absurd h (Nat.not_lt.2 (Nat.le_add_left _ _))

/-- So are the launch's definitions. -/
theorem words_defs2 : Cert.Kernel2Ideal.defs (F := Bits) = Cert.Kernel2.defs (F := Bits) := by
  unfold Cert.Kernel2Ideal.defs Cert.Kernel2.defs
  exact congrArg (Idealize.ShloMosaic.Pipeline.defs (Cert.Kernel2Ideal.pcfgs (F := Bits))) words_bodies2

/-- So is the host program. -/
theorem words_main2 : Cert.Kernel2Ideal.main (F := Bits) = Cert.Kernel2.main (F := Bits) := by
  unfold Cert.Kernel2Ideal.main Cert.Kernel2.main
  rfl

/-- The printed product's frame, at words. -/
theorem frame_kernel2 : Cert.quiescent_Kernel2 (hKernel2 := Cert.Kernel2.Gen.facts) :=
  fun m g _ => by
    have h := Cert.Kernel2Ideal.Gen.frame (F := Bits) m g
    rw [words_defs2, words_main2] at h
    exact h

/-- The idealized product's frame. -/
theorem frame_kernel2_ideal : Cert.quiescent_Kernel2Ideal (hKernel2Ideal := Cert.Kernel2Ideal.Gen.facts) :=
  fun m g _ => Cert.Kernel2Ideal.Gen.frame (F := Ideal) m g

/-- The reference product's frame. -/
theorem frame_reference2 : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩)
    (Cert.Reference2Ideal.Value.run (F := Ideal) m g)

/-- The reference's product is the array the launch leaves: the gradient of the feed-forward's input. -/
theorem product2_agrees (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v4 (F := Ideal) (Cert.Kernel2Ideal.Mat.wA m c) (Cert.Kernel2Ideal.Mat.xA m c) = Cert.Kernel2Ideal.Value.G2 m c := by
  funext i
  obtain ⟨a, b, rfl⟩ : ∃ a b, i = ix2 a b := ⟨_, _, eq_ix2 i⟩
  refine Eq.trans ?_ (Cert.Kernel2Ideal.Mat.result_at m c a b).symm
  refine (Cert.Reference2Ideal.Read.val_main_v4_apply _ _ _).trans (Finset.sum_congr rfl fun k _ => ?_)
  have hl : Cert.Reference2Ideal.Read.lidx_main_v4 (ix2 a b) k = ix2 a k := eq_ix2 _
  have hr : Cert.Reference2Ideal.Read.ridx_main_v4 (ix2 a b) k = ix2 b k := eq_ix2 _
  rw [hl, hr]
  rfl

/-- The product and its reference, on the same arguments, end with the same gradient. -/
theorem algebraic2 : Cert.algebraic_Kernel2Ideal_Reference2Ideal (hKernel2Ideal := Cert.Kernel2Ideal.Gen.facts)
    (hReference2Ideal := Cert.Reference2Ideal.Gen.facts) := by
  intro m g m' g' _ same
  refine ⟨fun c => Cert.Kernel2Ideal.Value.G2 m c, Cert.Kernel2Ideal.Value.run (F := Ideal) m g, ?_⟩
  refine (θ_run Cert.Reference2Ideal.defs _ _).mono (fun r h c => ?_) (Cert.Reference2Ideal.Value.run (F := Ideal) m' g')
  obtain ⟨e0, ea⟩ := h c
  obtain ⟨a0, a1⟩ := same c
  refine ⟨e0.trans ?_, ea⟩
  rw [Cert.Reference2Ideal.Read.val_main_v4_eq, a0, a1]
  exact product2_agrees m c

end Cert.Proof

end
-- ==== Proof.Mat3.lean ====
module

public import proofs.«01_k».proof.Proof.Gen.Kernel3Ideal.Value
public import proofs.«01_k».proof.Proof.Gen.Reference3Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel3Ideal.Mat

open Cert.Kernel3Ideal Cert.Kernel3Ideal.Gen Cert.Kernel3Ideal.Value
open Idealize.ShloMosaic Idealize.ShloMosaic.TcCoe Idealize.SL.Sem

/-! ## The gradient of the feed-forward's weights: what the blocked product leaves -/

/-- A sum over equal tiles is the sum over the whole. -/
theorem sum_tiles (b : ℕ) (f : ℕ → EReal) : ∀ n : ℕ, ∑ s ∈ Finset.range n, ∑ k : Fin b, f (s * b + k.val) = ∑ k ∈ Finset.range (n * b), f k
  | 0 => by simp
  | n + 1 => by
    rw [Finset.sum_range_succ, sum_tiles b f n, Nat.add_mul, one_mul, Finset.sum_range_add, Fin.sum_univ_eq_sum_range (fun k => f (n * b + k)) b]

/-- The offsets of a whole block. -/
theorem whole_off : (![0, 0] : Fin 2 → Nat) = fun _ => 0 := funext fun a => by fin_cases a <;> rfl

section
variable {F : FTy → Type} [FloatOps F]

/-- The first point of a row of blocks leaves the first product, over zeros. -/
theorem first_left (c : Dev nD) (i : grid0.Coords) (a3 : Memref sig .tc .vmem S1024x1024 .bf16) (h3 : a3.IsWhole) (a4 : Memref sig .tc .vmem S1024x1408 .bf16) (h4 : a4.IsWhole)
    (a5 : Memref sig .tc .vmem S1024x1408 .bf16) (h5 : a5.IsWhole) (a6 : Memref sig .tc .vmem S1024x1408 .f32) (h6 : a6.IsWhole) (c0 : cond0_0 i) (c1 : ¬cond0_1 i)
    (x : Vec F S1024x1024 .bf16) (y : Vec F S1024x1408 .bf16) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S1024x1408) whole_off]
  simp only [View.readCov_unit_zero (S := S1024x1408) _ whole_off, View.readAt_eq_ld, h3.read_unread, h4.read_unread, View.ld_unit_zero (S := S1024x1408) whole_off, View.ld_unit_zero (S := S1024x1024) whole_off]

/-- A later point adds its product. -/
theorem mid_left (c : Dev nD) (i : grid0.Coords) (a3 : Memref sig .tc .vmem S1024x1024 .bf16) (h3 : a3.IsWhole) (a4 : Memref sig .tc .vmem S1024x1408 .bf16) (h4 : a4.IsWhole)
    (a5 : Memref sig .tc .vmem S1024x1408 .bf16) (h5 : a5.IsWhole) (a6 : Memref sig .tc .vmem S1024x1408 .f32) (h6 : a6.IsWhole) (c0 : ¬cond0_0 i) (c1 : ¬cond0_1 i)
    (x : Vec F S1024x1024 .bf16) (y : Vec F S1024x1408 .bf16) (s : Vec F S1024x1408 .f32) :
    sout0_B_0 c i a3 h3 a4 h4 a5 h5 a6 h6 c0 c1 x y s = k0_pay2 s x y := by
  unfold sout0_B_0
  rw [View.read_writes_eq_canon _ _ _ (scover0_B_0 c i a3 h3 a4 h4 a5 h5 a6 h6 c0 c1 x y s)]
  unfold kernelRun0_B
  dsimp only
  rw [View.canon_unit_zero whole_off]
  simp only [View.readAt_eq_ld, h3.read_unread, h4.read_unread, h6.read_unread, View.ld_unit_zero (S := S1024x1408) whole_off, View.ld_unit_zero (S := S1024x1024) whole_off]

/-- The last point adds its product too. -/
theorem last_left (c : Dev nD) (i : grid0.Coords) (a3 : Memref sig .tc .vmem S1024x1024 .bf16) (h3 : a3.IsWhole) (a4 : Memref sig .tc .vmem S1024x1408 .bf16) (h4 : a4.IsWhole)
    (a5 : Memref sig .tc .vmem S1024x1408 .bf16) (h5 : a5.IsWhole) (a6 : Memref sig .tc .vmem S1024x1408 .f32) (h6 : a6.IsWhole) (c0 : ¬cond0_0 i) (c1 : cond0_1 i)
    (x : Vec F S1024x1024 .bf16) (y : Vec F S1024x1408 .bf16) (s : Vec F S1024x1408 .f32) :
    sout0_C_0 c i a3 h3 a4 h4 a5 h5 a6 h6 c0 c1 x y s = k0_pay2 s x y := by
  unfold sout0_C_0
  rw [View.read_writes_eq_canon _ _ _ (scover0_C_0 c i a3 h3 a4 h4 a5 h5 a6 h6 c0 c1 x y s)]
  unfold kernelRun0_C
  dsimp only
  sl_unfold_words
  rw [View.canon_unit_zero whole_off]
  simp only [View.readAt_eq_ld, h3.read_unread, h4.read_unread, h6.read_unread, View.ld_unit_zero (S := S1024x1408) whole_off, View.ld_unit_zero (S := S1024x1024) whole_off]

/-- And it writes the sum to the result's block. -/
theorem last_out (c : Dev nD) (i : grid0.Coords) (a3 : Memref sig .tc .vmem S1024x1024 .bf16) (h3 : a3.IsWhole) (a4 : Memref sig .tc .vmem S1024x1408 .bf16) (h4 : a4.IsWhole)
    (a5 : Memref sig .tc .vmem S1024x1408 .bf16) (h5 : a5.IsWhole) (a6 : Memref sig .tc .vmem S1024x1408 .f32) (h6 : a6.IsWhole) (c0 : ¬cond0_0 i) (c1 : cond0_1 i)
    (x : Vec F S1024x1024 .bf16) (y : Vec F S1024x1408 .bf16) (s : Vec F S1024x1408 .f32) :
    out0_C_2 c i a3 h3 a4 h4 a5 h5 a6 h6 c0 c1 x y s = k0_pay3 (k0_pay2 s x y) := by
  unfold out0_C_2
  rw [View.read_writes_eq_canon _ _ _ (cover0_C_2 c i a3 h3 a4 h4 a5 h5 a6 h6 c0 c1 x y s)]
  unfold kernelRun0_C
  dsimp only
  sl_unfold_words
  rw [View.canon_unit_zero whole_off]
  simp only [View.readCov_unit_zero (S := S1024x1408) _ whole_off, View.readAt_eq_ld, h3.read_unread, h4.read_unread, h6.read_unread, View.ld_unit_zero (S := S1024x1408) whole_off, View.ld_unit_zero (S := S1024x1024) whole_off]

end

/-- One point's step at an element: what was there and the tile's product. -/
theorem pay2_at (s : FVec Ideal S1024x1408 FTy.f32) (x : FVec Ideal S1024x1024 FTy.bf16) (y : FVec Ideal S1024x1408 FTy.bf16) (p : Fin 1024) (q : Fin 1408) :
    k0_pay2 (F := Ideal) s x y (ix2 p q) = s (ix2 p q) + ∑ k : Fin 1024, x (ix2 k p) * y (ix2 k q) := by
  pointwise [k0_pay2]

/-- The zeros the first point starts from. -/
theorem pay1_at (p : Fin 1024) (q : Fin 1408) : k0_pay1 (F := Ideal) (ix2 p q) = (0 : EReal) := by
  pointwise [k0_pay1]

/-- The rounding of the result changes nothing over the extended reals. -/
theorem pay3_at (s : FVec Ideal S1024x1408 FTy.f32) (p : Fin 1024) (q : Fin 1408) : k0_pay3 (F := Ideal) s (ix2 p q) = s (ix2 p q) := by
  pointwise [k0_pay3]

/-- The row of blocks of a point: there is one. -/
theorem coords_0 (t : Fin grid0.N) : (grid0.coords t 0).val = 0 := by
  have h := (grid0.coords t 0).isLt
  exact Nat.lt_one_iff.mp h

/-- The column of blocks of a point. -/
theorem coords_1 (t : Fin grid0.N) : (grid0.coords t 1).val = t.val / 16 := by
  have h := Pipeline.Grid.coords_val (G := grid0) t 1 (S := 16) (B := 4) (by decide) rfl
  have hN : t.val < 64 := lt_of_lt_of_eq t.isLt N_0
  omega

/-- The tile of the summed axis a point takes. -/
theorem coords_2 (t : Fin grid0.N) : (grid0.coords t 2).val = t.val % 16 := by
  have h := Pipeline.Grid.coords_val (G := grid0) t 2 (S := 1) (B := 16) (by decide) rfl
  simpa using h

/-- The token a point's tile stands for. -/
def rowOf (t : ℕ) (k : Fin 1024) : Fin 16384 := ⟨(t % 16 * 1024 + k.val) % 16384, Nat.mod_lt _ (by norm_num)⟩

/-- The column a point's block column stands for. -/
def colOf (t : ℕ) (q : Fin 1408) : Fin 5632 := ⟨(t / 16 * 1408 + q.val) % 5632, Nat.mod_lt _ (by norm_num)⟩

/-- Where the first operand's block lies in its array. -/
theorem emb_0 (t : Fin cfg0.N) (k p : Fin 1024) :
    ((cfg0.win 0).blk t).view.emb (ix2 k p : S1024x1024.Idx) = (ix2 (rowOf t.val k) p : S16384x1024.Idx) := by
  have hN : t.val < 64 := lt_of_lt_of_eq t.isLt N_0
  have c0 := coords_0 t
  have c2 := coords_2 t
  funext a; apply Fin.ext
  match a with
  | ⟨0, _⟩ => show (BitVec.ofNat 32 (grid0.coords t 2).val).toNat * 1024 + 1 * k.val = (t.val % 16 * 1024 + k.val) % 16384; rw [c2, BitVec.toNat_ofNat]; omega
  | ⟨1, _⟩ => show (BitVec.ofNat 32 (grid0.coords t 0).val).toNat * 1024 + 1 * p.val = p.val; rw [c0, BitVec.toNat_ofNat]; omega

/-- Where the second operand's block lies in its array. -/
theorem emb_1 (t : Fin cfg0.N) (k : Fin 1024) (q : Fin 1408) :
    ((cfg0.win 1).blk t).view.emb (ix2 k q : S1024x1408.Idx) = (ix2 (rowOf t.val k) (colOf t.val q) : S16384x5632.Idx) := by
  have hN : t.val < 64 := lt_of_lt_of_eq t.isLt N_0
  have c1 := coords_1 t
  have c2 := coords_2 t
  funext a; apply Fin.ext
  match a with
  | ⟨0, _⟩ => show (BitVec.ofNat 32 (grid0.coords t 2).val).toNat * 1024 + 1 * k.val = (t.val % 16 * 1024 + k.val) % 16384; rw [c2, BitVec.toNat_ofNat]; omega
  | ⟨1, _⟩ => show (BitVec.ofNat 32 (grid0.coords t 1).val).toNat * 1408 + 1 * q.val = (t.val / 16 * 1408 + q.val) % 5632; rw [c1, BitVec.toNat_ofNat]; omega

section
variable (c : Dev nD) (t : Fin cfg0.N)

/-- The first operand's block, read from any contents of the buffers. -/
theorem blk_0 (W : (b : Ref sig .tc) → Buf (Elt Ideal) ((c : Thread nD τ).loc b)) (k p : Fin 1024) :
    ((cfg0.win 0).blk t).view.read (Elt Ideal) (W (Pipeline.arrRef spec0 0)) (ix2 k p : S1024x1024.Idx) = W main_arg0 (ix2 (rowOf t.val k) p : S16384x1024.Idx) := by
  show W main_arg0 (((cfg0.win 0).blk t).view.emb (ix2 k p : S1024x1024.Idx)) = _
  rw [emb_0]

/-- The second operand's block, read from any contents of the buffers. -/
theorem blk_1 (W : (b : Ref sig .tc) → Buf (Elt Ideal) ((c : Thread nD τ).loc b)) (k : Fin 1024) (q : Fin 1408) :
    ((cfg0.win 1).blk t).view.read (Elt Ideal) (W (Pipeline.arrRef spec0 1)) (ix2 k q : S1024x1408.Idx) = W main_arg1 (ix2 (rowOf t.val k) (colOf t.val q) : S16384x5632.Idx) := by
  show W main_arg1 (((cfg0.win 1).blk t).view.emb (ix2 k q : S1024x1408.Idx)) = _
  rw [emb_1]

end

end Cert.Kernel3Ideal.Mat

end
-- ==== Proof.Mat3Sum.lean ====
module

public import proofs.«01_k».proof.Proof.Mat3
public import proofs.«01_k».proof.Proof.Gen.Reference3Ideal.Run
public import proofs.«01_k».proof.Proof.Gen.Reference3Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel3Ideal.Mat

open Cert.Kernel3Ideal Cert.Kernel3Ideal.Gen Cert.Kernel3Ideal.Value
open Idealize.ShloMosaic Idealize.ShloMosaic.TcCoe Idealize.SL.Sem

/-! ## The sums over the tokens of a block, and the whole product -/

section
variable (m : (ℓ : Loc nD τ sig) → Buf (Elt Ideal) ℓ) (c : Dev nD)

/-- The first operand as the launch finds it. -/
abbrev hA : Vec Ideal S16384x1024 .bf16 := V m c main_arg0

/-- The second operand as the launch finds it. -/
abbrev gA : Vec Ideal S16384x5632 .bf16 := V m c main_arg1

/-- A tile's part of the product at an element of a point's block. -/
def part (t : ℕ) (p : Fin 1024) (q : Fin 1408) : EReal := ∑ k : Fin 1024, hA m c (ix2 (rowOf t k) p) * gA m c (ix2 (rowOf t k) (colOf t q))

/-- One point's step over any contents. -/
theorem step_at (t : Fin cfg0.N) (s : FVec Ideal S1024x1408 FTy.f32) (p : Fin 1024) (q : Fin 1408) :
    k0_pay2 (F := Ideal) s (iblk m c 0 t) (iblk m c 1 t) (ix2 p q) = s (ix2 p q) + part m c t.val p q := by
  refine (pay2_at s (iblk m c 0 t) (iblk m c 1 t) p q).trans ?_
  unfold part
  refine congrArg (s (ix2 p q) + ·) (Finset.sum_congr rfl fun k _ => ?_)
  exact congrArg₂ (· * ·) (blk_0 c t (V m c) k p) (blk_1 c t (V m c) k q)

/-- What the first point of a block leaves. -/
theorem left_first (t : Fin cfg0.N) (h0 : t.val % 16 = 0) (p : Fin 1024) (q : Fin 1408) :
    (outsAt0 m c t.val t.isLt).2 (ix2 p q) = part m c t.val p q := by
  rw [outsAt0_A m c t h0 (by omega)]
  dsimp only
  rw [first_left, step_at, pay1_at, zero_add]

/-- What a later point leaves: what the point before left and its own part. -/
theorem left_next (t : Fin cfg0.N) (h0 : ¬t.val % 16 = 0) (p : Fin 1024) (q : Fin 1408) :
    (outsAt0 m c t.val t.isLt).2 (ix2 p q) = (outsAt0 m c (t.val - 1) (Nat.lt_of_le_of_lt (Nat.sub_le _ _) t.isLt)).2 (ix2 p q) + part m c t.val p q := by
  by_cases h1 : t.val % 16 = 15
  · rw [outsAt0_C m c t h0 h1]
    dsimp only
    rw [last_left, step_at]
  · rw [outsAt0_B m c t h0 h1]
    dsimp only
    rw [mid_left, step_at]

/-- The last point writes out what it leaves. -/
theorem out_last (t : Fin cfg0.N) (h1 : t.val % 16 = 15) (p : Fin 1024) (q : Fin 1408) :
    ((outsAt0 m c t.val t.isLt).1 (ix2 p q) : EReal) = (outsAt0 m c t.val t.isLt).2 (ix2 p q) := by
  rw [outsAt0_C m c t (by omega) h1]
  dsimp only
  rw [last_left, last_out, pay3_at]

/-- The sum left after each point of a block. -/
theorem left_sum (r : ℕ) (p : Fin 1024) (q : Fin 1408) : ∀ (j : ℕ) (hj : j < 16) (h : 16 * r + j < cfg0.N),
    (outsAt0 m c (16 * r + j) h).2 (ix2 p q) = ∑ s ∈ Finset.range (j + 1), part m c (16 * r + s) p q
  | 0, _, h => by
    rw [Finset.sum_range_one]
    exact left_first m c ⟨16 * r + 0, h⟩ (by show (16 * r + 0) % 16 = 0; omega) p q
  | j + 1, hj, h => by
    rw [Finset.sum_range_succ, ← left_sum r p q j (by omega) (by omega)]
    exact left_next m c ⟨16 * r + (j + 1), h⟩ (by show ¬(16 * r + (j + 1)) % 16 = 0; omega) p q

/-- The result's array at an element: the whole product over the tokens. -/
theorem result_at (a : Fin 1024) (b : Fin 5632) :
    (G2 m c : FVec Ideal S1024x5632 FTy.bf16) (ix2 a b) = (∑ k : Fin 16384, hA m c (ix2 k a) * gA m c (ix2 k b) : EReal) := by
  have hN : cfg0.N = 64 := N_0
  have hp : pt2Of (ix2 a b : S1024x5632.Idx) = 16 * (b.val / 1408) + 15 := by
    have ha : a.val / 1024 = 0 := Nat.div_eq_of_lt a.isLt
    show 16 * (4 * (a.val / 1024 - 0) + 1 * (b.val / 1408 - 0)) + 15 = _
    omega
  have hl : loc2Of (ix2 a b : S1024x5632.Idx) = (ix2 a ⟨b.val % 1408, Nat.mod_lt _ (by norm_num)⟩ : S1024x1408.Idx) := by
    funext d; apply Fin.ext
    match d with
    | ⟨0, _⟩ => exact Nat.mod_eq_of_lt a.isLt
    | ⟨1, _⟩ => rfl
  have hlt : pt2Of (ix2 a b : S1024x5632.Idx) < cfg0.N := by rw [hp, hN]; omega
  have hlt' : 16 * (b.val / 1408) + 15 < cfg0.N := by rw [hN]; omega
  have e : (G2 m c : Vec Ideal S1024x5632 .bf16) (ix2 a b) = (outsAt0 m c (16 * (b.val / 1408) + 15) hlt').1 (ix2 a ⟨b.val % 1408, Nat.mod_lt _ (by norm_num)⟩) := by
    unfold G2
    rw [dif_pos hlt, hl, ← outsAt0_sweep m c _ hlt]
    simp only [hp]
  refine e.trans ?_
  refine (out_last m c ⟨16 * (b.val / 1408) + 15, hlt'⟩ (by show (16 * (b.val / 1408) + 15) % 16 = 15; omega) _ _).trans ?_
  refine (left_sum m c (b.val / 1408) a _ 15 (by omega) hlt').trans ?_
  let f : ℕ → EReal := fun k => hA m c (ix2 ⟨k % 16384, Nat.mod_lt _ (by norm_num)⟩ a) * gA m c (ix2 ⟨k % 16384, Nat.mod_lt _ (by norm_num)⟩ b)
  have e1 : ∀ s ∈ Finset.range (15 + 1), part m c (16 * (b.val / 1408) + s) a ⟨b.val % 1408, Nat.mod_lt _ (by norm_num)⟩ = ∑ k : Fin 1024, f (s * 1024 + k.val) := by
    intro s hs
    have hs16 := Finset.mem_range.mp hs
    unfold part
    refine Finset.sum_congr rfl fun k _ => ?_
    have hc : colOf (16 * (b.val / 1408) + s) ⟨b.val % 1408, Nat.mod_lt _ (by norm_num)⟩ = b := by
      apply Fin.ext
      show ((16 * (b.val / 1408) + s) / 16 * 1408 + b.val % 1408) % 5632 = b.val
      omega
    have hr : rowOf (16 * (b.val / 1408) + s) k = ⟨(s * 1024 + k.val) % 16384, Nat.mod_lt _ (by norm_num)⟩ := by
      apply Fin.ext
      show ((16 * (b.val / 1408) + s) % 16 * 1024 + k.val) % 16384 = (s * 1024 + k.val) % 16384
      omega
    rw [hr, hc]
  refine (Finset.sum_congr rfl e1).trans ((sum_tiles 1024 f 16).trans ((Fin.sum_univ_eq_sum_range f 16384).symm.trans ?_))
  refine Finset.sum_congr rfl fun k _ => ?_
  have hk : (⟨k.val % 16384, Nat.mod_lt _ (by norm_num)⟩ : Fin 16384) = k := Fin.ext (Nat.mod_eq_of_lt k.isLt)
  show hA m c (ix2 ⟨k.val % 16384, _⟩ a) * gA m c (ix2 ⟨k.val % 16384, _⟩ b) = _
  rw [hk]

end

end Cert.Kernel3Ideal.Mat

end
-- ==== Proof.Claim3.lean ====
module

public import proofs.«01_k».proof.Defs
public import proofs.«01_k».proof.Proof.Mat3Sum
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Proof

open Idealize.ShloMosaic Idealize.SL.Sem

/-- At words the idealized body is the printed one: no operation was replaced. -/
theorem words_kernel3 : Cert.Kernel3Ideal.cc0_f_gate_up_dw (F := Bits) = Cert.Kernel3.cc0_f_gate_up_dw (F := Bits) := rfl

/-- So are the bodies the launch calls. -/
theorem words_bodies3 : Cert.Kernel3Ideal.defs₀ (F := Bits) = Cert.Kernel3.defs₀ (F := Bits) := by
  unfold Cert.Kernel3Ideal.defs₀ Cert.Kernel3.defs₀
  refine congrArg Defs.onTc (funext fun l => funext fun x => ?_)
  match l, x with
  | 0, (t, s) => exact congrFun (congrFun (congrFun (congrFun (congrFun (congrFun (congrFun (congrFun (congrFun words_kernel3 _) _) _) _) _) _) _) _) _
  | ⟨_ + 1, h⟩, _ => exact absurd h (Nat.not_lt.2 (Nat.le_add_left _ _))

/-- So are the launch's definitions. -/
theorem words_defs3 : Cert.Kernel3Ideal.defs (F := Bits) = Cert.Kernel3.defs (F := Bits) := by
  unfold Cert.Kernel3Ideal.defs Cert.Kernel3.defs
  exact congrArg (Idealize.ShloMosaic.Pipeline.defs (Cert.Kernel3Ideal.pcfgs (F := Bits))) words_bodies3

/-- So is the host program. -/
theorem words_main3 : Cert.Kernel3Ideal.main (F := Bits) = Cert.Kernel3.main (F := Bits) := by
  unfold Cert.Kernel3Ideal.main Cert.Kernel3.main
  rfl

/-- The printed product's frame, at words. -/
theorem frame_kernel3 : Cert.quiescent_Kernel3 (hKernel3 := Cert.Kernel3.Gen.facts) :=
  fun m g _ => by
    have h := Cert.Kernel3Ideal.Gen.frame (F := Bits) m g
    rw [words_defs3, words_main3] at h
    exact h

/-- The idealized product's frame. -/
theorem frame_kernel3_ideal : Cert.quiescent_Kernel3Ideal (hKernel3Ideal := Cert.Kernel3Ideal.Gen.facts) :=
  fun m g _ => Cert.Kernel3Ideal.Gen.frame (F := Ideal) m g

/-- The reference product's frame. -/
theorem frame_reference3 : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩)
    (Cert.Reference3Ideal.Value.run (F := Ideal) m g)

/-- The reference's product is the array the launch leaves: the gradient of the feed-forward's weights. -/
theorem product3_agrees (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v6 (F := Ideal) (Cert.Kernel3Ideal.Mat.hA m c) (Cert.Kernel3Ideal.Mat.gA m c) = Cert.Kernel3Ideal.Value.G2 m c := by
  funext i
  obtain ⟨a, b, rfl⟩ : ∃ a b, i = ix2 a b := ⟨_, _, eq_ix2 i⟩
  refine Eq.trans ?_ (Cert.Kernel3Ideal.Mat.result_at m c a b).symm
  refine (Cert.Reference3Ideal.Read.val_main_v6_apply _ _ _).trans ?_
  refine (Cert.Reference3Ideal.Read.val_main_v5_apply _ _ _).trans ?_
  refine (Cert.Reference3Ideal.Read.val_main_v4_apply _ _ _).trans (Finset.sum_congr rfl fun k _ => ?_)
  have hl : Cert.Reference3Ideal.Read.lidx_main_v4 (Cert.Reference3Ideal.Read.idx_main_v5 (ix2 a b)) k = ix2 k b := eq_ix2 _
  have hr : Cert.Reference3Ideal.Read.ridx_main_v4 (Cert.Reference3Ideal.Read.idx_main_v5 (ix2 a b)) k = ix2 k a := eq_ix2 _
  rw [hl, hr]
  exact mul_comm _ _

/-- The product and its reference, on the same arguments, end with the same gradient. -/
theorem algebraic3 : Cert.algebraic_Kernel3Ideal_Reference3Ideal (hKernel3Ideal := Cert.Kernel3Ideal.Gen.facts)
    (hReference3Ideal := Cert.Reference3Ideal.Gen.facts) := by
  intro m g m' g' _ same
  refine ⟨fun c => Cert.Kernel3Ideal.Value.G2 m c, Cert.Kernel3Ideal.Value.run (F := Ideal) m g, ?_⟩
  refine (θ_run Cert.Reference3Ideal.defs _ _).mono (fun r h c => ?_) (Cert.Reference3Ideal.Value.run (F := Ideal) m' g')
  obtain ⟨e0, ea⟩ := h c
  obtain ⟨a0, a1⟩ := same c
  refine ⟨e0.trans ?_, ea⟩
  rw [Cert.Reference3Ideal.Read.val_main_v6_eq, a0, a1]
  exact product3_agrees m c

end Cert.Proof

end
-- ==== Proof.Mat4.lean ====
module

public import proofs.«01_k».proof.Proof.Gen.Kernel4Ideal.Value
public import proofs.«01_k».proof.Proof.Gen.Reference4Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel4Ideal.Mat

open Cert.Kernel4Ideal Cert.Kernel4Ideal.Gen Cert.Kernel4Ideal.Value
open Idealize.ShloMosaic Idealize.ShloMosaic.TcCoe Idealize.SL.Sem

/-! ## The gradient of the feed-forward's second weights: what the blocked product leaves -/

/-- A sum over equal tiles is the sum over the whole. -/
theorem sum_tiles (b : ℕ) (f : ℕ → EReal) : ∀ n : ℕ, ∑ s ∈ Finset.range n, ∑ k : Fin b, f (s * b + k.val) = ∑ k ∈ Finset.range (n * b), f k
  | 0 => by simp
  | n + 1 => by
    rw [Finset.sum_range_succ, sum_tiles b f n, Nat.add_mul, one_mul, Finset.sum_range_add, Fin.sum_univ_eq_sum_range (fun k => f (n * b + k)) b]

/-- The offsets of a whole block. -/
theorem whole_off : (![0, 0] : Fin 2 → Nat) = fun _ => 0 := funext fun a => by fin_cases a <;> rfl

section
variable {F : FTy → Type} [FloatOps F]

/-- The first point of a row of blocks leaves the first product, over zeros. -/
theorem first_left (c : Dev nD) (i : grid0.Coords) (a3 : Memref sig .tc .vmem S1024x1408 .bf16) (h3 : a3.IsWhole) (a4 : Memref sig .tc .vmem S1024x1024 .f32) (h4 : a4.IsWhole)
    (a5 : Memref sig .tc .vmem S1408x1024 .bf16) (h5 : a5.IsWhole) (a6 : Memref sig .tc .vmem S1408x1024 .f32) (h6 : a6.IsWhole) (c0 : cond0_0 i) (c1 : ¬cond0_1 i)
    (x : Vec F S1024x1408 .bf16) (y : Vec F S1024x1024 .f32) :
    sout0_A_0 c i a3 h3 a4 h4 a5 h5 a6 h6 c0 c1 x y = k0_pay2 k0_pay1 x y := by
  unfold sout0_A_0
  rw [View.read_writes_eq_canon _ _ _ (scover0_A_0 c i a3 h3 a4 h4 a5 h5 a6 h6 c0 c1 x y)]
  unfold kernelRun0_A
  dsimp only
  sl_unfold_words
  rw [View.canon_cons_unit_zero (S := S1408x1024) whole_off]
  simp only [View.readCov_unit_zero (S := S1408x1024) _ whole_off, View.readAt_eq_ld, h3.read_unread, h4.read_unread, View.ld_unit_zero (S := S1024x1408) whole_off, View.ld_unit_zero (S := S1024x1024) whole_off, View.ld_unit_zero (S := S1408x1024) whole_off]

/-- A later point adds its product. -/
theorem mid_left (c : Dev nD) (i : grid0.Coords) (a3 : Memref sig .tc .vmem S1024x1408 .bf16) (h3 : a3.IsWhole) (a4 : Memref sig .tc .vmem S1024x1024 .f32) (h4 : a4.IsWhole)
    (a5 : Memref sig .tc .vmem S1408x1024 .bf16) (h5 : a5.IsWhole) (a6 : Memref sig .tc .vmem S1408x1024 .f32) (h6 : a6.IsWhole) (c0 : ¬cond0_0 i) (c1 : ¬cond0_1 i)
    (x : Vec F S1024x1408 .bf16) (y : Vec F S1024x1024 .f32) (s : Vec F S1408x1024 .f32) :
    sout0_B_0 c i a3 h3 a4 h4 a5 h5 a6 h6 c0 c1 x y s = k0_pay2 s x y := by
  unfold sout0_B_0
  rw [View.read_writes_eq_canon _ _ _ (scover0_B_0 c i a3 h3 a4 h4 a5 h5 a6 h6 c0 c1 x y s)]
  unfold kernelRun0_B
  dsimp only
  rw [View.canon_unit_zero whole_off]
  simp only [View.readAt_eq_ld, h3.read_unread, h4.read_unread, h6.read_unread, View.ld_unit_zero (S := S1024x1408) whole_off, View.ld_unit_zero (S := S1024x1024) whole_off, View.ld_unit_zero (S := S1408x1024) whole_off]

/-- The last point adds its product too. -/
theorem last_left (c : Dev nD) (i : grid0.Coords) (a3 : Memref sig .tc .vmem S1024x1408 .bf16) (h3 : a3.IsWhole) (a4 : Memref sig .tc .vmem S1024x1024 .f32) (h4 : a4.IsWhole)
    (a5 : Memref sig .tc .vmem S1408x1024 .bf16) (h5 : a5.IsWhole) (a6 : Memref sig .tc .vmem S1408x1024 .f32) (h6 : a6.IsWhole) (c0 : ¬cond0_0 i) (c1 : cond0_1 i)
    (x : Vec F S1024x1408 .bf16) (y : Vec F S1024x1024 .f32) (s : Vec F S1408x1024 .f32) :
    sout0_C_0 c i a3 h3 a4 h4 a5 h5 a6 h6 c0 c1 x y s = k0_pay2 s x y := by
  unfold sout0_C_0
  rw [View.read_writes_eq_canon _ _ _ (scover0_C_0 c i a3 h3 a4 h4 a5 h5 a6 h6 c0 c1 x y s)]
  unfold kernelRun0_C
  dsimp only
  sl_unfold_words
  rw [View.canon_unit_zero whole_off]
  simp only [View.readAt_eq_ld, h3.read_unread, h4.read_unread, h6.read_unread, View.ld_unit_zero (S := S1024x1408) whole_off, View.ld_unit_zero (S := S1024x1024) whole_off, View.ld_unit_zero (S := S1408x1024) whole_off]

/-- And it writes the sum to the result's block. -/
theorem last_out (c : Dev nD) (i : grid0.Coords) (a3 : Memref sig .tc .vmem S1024x1408 .bf16) (h3 : a3.IsWhole) (a4 : Memref sig .tc .vmem S1024x1024 .f32) (h4 : a4.IsWhole)
    (a5 : Memref sig .tc .vmem S1408x1024 .bf16) (h5 : a5.IsWhole) (a6 : Memref sig .tc .vmem S1408x1024 .f32) (h6 : a6.IsWhole) (c0 : ¬cond0_0 i) (c1 : cond0_1 i)
    (x : Vec F S1024x1408 .bf16) (y : Vec F S1024x1024 .f32) (s : Vec F S1408x1024 .f32) :
    out0_C_2 c i a3 h3 a4 h4 a5 h5 a6 h6 c0 c1 x y s = k0_pay3 (k0_pay2 s x y) := by
  unfold out0_C_2
  rw [View.read_writes_eq_canon _ _ _ (cover0_C_2 c i a3 h3 a4 h4 a5 h5 a6 h6 c0 c1 x y s)]
  unfold kernelRun0_C
  dsimp only
  sl_unfold_words
  rw [View.canon_unit_zero whole_off]
  simp only [View.readCov_unit_zero (S := S1408x1024) _ whole_off, View.readAt_eq_ld, h3.read_unread, h4.read_unread, h6.read_unread, View.ld_unit_zero (S := S1024x1408) whole_off, View.ld_unit_zero (S := S1024x1024) whole_off, View.ld_unit_zero (S := S1408x1024) whole_off]

end

/-- One point's step at an element: what was there and the tile's product. -/
theorem pay2_at (s : FVec Ideal S1408x1024 FTy.f32) (x : FVec Ideal S1024x1408 FTy.bf16) (y : FVec Ideal S1024x1024 FTy.f32) (p : Fin 1408) (q : Fin 1024) :
    k0_pay2 (F := Ideal) s x y (ix2 p q) = s (ix2 p q) + ∑ k : Fin 1024, x (ix2 k p) * y (ix2 k q) := by
  pointwise [k0_pay2]

/-- The zeros the first point starts from. -/
theorem pay1_at (p : Fin 1408) (q : Fin 1024) : k0_pay1 (F := Ideal) (ix2 p q) = (0 : EReal) := by
  pointwise [k0_pay1]

/-- The rounding of the result changes nothing over the extended reals. -/
theorem pay3_at (s : FVec Ideal S1408x1024 FTy.f32) (p : Fin 1408) (q : Fin 1024) : k0_pay3 (F := Ideal) s (ix2 p q) = s (ix2 p q) := by
  pointwise [k0_pay3]

/-- The row of blocks of a point. -/
theorem coords_0 (t : Fin grid0.N) : (grid0.coords t 0).val = t.val / 16 := by
  have h := Pipeline.Grid.coords_val (G := grid0) t 0 (S := 16) (B := 2) (by decide) rfl
  have hN : t.val < 32 := lt_of_lt_of_eq t.isLt N_0
  omega

/-- The column of blocks of a point: there is one. -/
theorem coords_1 (t : Fin grid0.N) : (grid0.coords t 1).val = 0 := by
  have h := (grid0.coords t 1).isLt
  exact Nat.lt_one_iff.mp h

/-- The tile of the summed axis a point takes. -/
theorem coords_2 (t : Fin grid0.N) : (grid0.coords t 2).val = t.val % 16 := by
  have h := Pipeline.Grid.coords_val (G := grid0) t 2 (S := 1) (B := 16) (by decide) rfl
  simpa using h

/-- The token a point's tile stands for. -/
def rowOf (t : ℕ) (k : Fin 1024) : Fin 16384 := ⟨(t % 16 * 1024 + k.val) % 16384, Nat.mod_lt _ (by norm_num)⟩

/-- The row of the result a point's block row stands for. -/
def colOf (t : ℕ) (q : Fin 1408) : Fin 2816 := ⟨(t / 16 * 1408 + q.val) % 2816, Nat.mod_lt _ (by norm_num)⟩

/-- Where the first operand's block lies in its array. -/
theorem emb_0 (t : Fin cfg0.N) (k : Fin 1024) (p : Fin 1408) :
    ((cfg0.win 0).blk t).view.emb (ix2 k p : S1024x1408.Idx) = (ix2 (rowOf t.val k) (colOf t.val p) : S16384x2816.Idx) := by
  have hN : t.val < 32 := lt_of_lt_of_eq t.isLt N_0
  have c0 := coords_0 t
  have c2 := coords_2 t
  funext a; apply Fin.ext
  match a with
  | ⟨0, _⟩ => show (BitVec.ofNat 32 (grid0.coords t 2).val).toNat * 1024 + 1 * k.val = (t.val % 16 * 1024 + k.val) % 16384; rw [c2, BitVec.toNat_ofNat]; omega
  | ⟨1, _⟩ => show (BitVec.ofNat 32 (grid0.coords t 0).val).toNat * 1408 + 1 * p.val = (t.val / 16 * 1408 + p.val) % 2816; rw [c0, BitVec.toNat_ofNat]; omega

/-- Where the second operand's block lies in its array. -/
theorem emb_1 (t : Fin cfg0.N) (k q : Fin 1024) :
    ((cfg0.win 1).blk t).view.emb (ix2 k q : S1024x1024.Idx) = (ix2 (rowOf t.val k) q : S16384x1024.Idx) := by
  have hN : t.val < 32 := lt_of_lt_of_eq t.isLt N_0
  have c1 := coords_1 t
  have c2 := coords_2 t
  funext a; apply Fin.ext
  match a with
  | ⟨0, _⟩ => show (BitVec.ofNat 32 (grid0.coords t 2).val).toNat * 1024 + 1 * k.val = (t.val % 16 * 1024 + k.val) % 16384; rw [c2, BitVec.toNat_ofNat]; omega
  | ⟨1, _⟩ => show (BitVec.ofNat 32 (grid0.coords t 1).val).toNat * 1024 + 1 * q.val = q.val; rw [c1, BitVec.toNat_ofNat]; omega

section
variable (c : Dev nD) (t : Fin cfg0.N)

/-- The first operand's block, read from any contents of the buffers. -/
theorem blk_0 (W : (b : Ref sig .tc) → Buf (Elt Ideal) ((c : Thread nD τ).loc b)) (k : Fin 1024) (p : Fin 1408) :
    ((cfg0.win 0).blk t).view.read (Elt Ideal) (W (Pipeline.arrRef spec0 0)) (ix2 k p : S1024x1408.Idx) = W main_arg0 (ix2 (rowOf t.val k) (colOf t.val p) : S16384x2816.Idx) := by
  show W main_arg0 (((cfg0.win 0).blk t).view.emb (ix2 k p : S1024x1408.Idx)) = _
  rw [emb_0]

/-- The second operand's block, read from any contents of the buffers. -/
theorem blk_1 (W : (b : Ref sig .tc) → Buf (Elt Ideal) ((c : Thread nD τ).loc b)) (k q : Fin 1024) :
    ((cfg0.win 1).blk t).view.read (Elt Ideal) (W (Pipeline.arrRef spec0 1)) (ix2 k q : S1024x1024.Idx) = W main_arg1 (ix2 (rowOf t.val k) q : S16384x1024.Idx) := by
  show W main_arg1 (((cfg0.win 1).blk t).view.emb (ix2 k q : S1024x1024.Idx)) = _
  rw [emb_1]

end

end Cert.Kernel4Ideal.Mat

end
-- ==== Proof.Mat4Sum.lean ====
module

public import proofs.«01_k».proof.Proof.Mat4
public import proofs.«01_k».proof.Proof.Gen.Reference4Ideal.Run
public import proofs.«01_k».proof.Proof.Gen.Reference4Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel4Ideal.Mat

open Cert.Kernel4Ideal Cert.Kernel4Ideal.Gen Cert.Kernel4Ideal.Value
open Idealize.ShloMosaic Idealize.ShloMosaic.TcCoe Idealize.SL.Sem

/-! ## The sums over the tokens of a block, and the whole product -/

section
variable (m : (ℓ : Loc nD τ sig) → Buf (Elt Ideal) ℓ) (c : Dev nD)

/-- The first operand as the launch finds it. -/
abbrev hA : Vec Ideal S16384x2816 .bf16 := V m c main_arg0

/-- The second operand as the launch finds it. -/
abbrev gA : Vec Ideal S16384x1024 .f32 := V m c main_arg1

/-- A tile's part of the product at an element of a point's block. -/
def part (t : ℕ) (p : Fin 1408) (q : Fin 1024) : EReal := ∑ k : Fin 1024, hA m c (ix2 (rowOf t k) (colOf t p)) * gA m c (ix2 (rowOf t k) q)

/-- One point's step over any contents. -/
theorem step_at (t : Fin cfg0.N) (s : FVec Ideal S1408x1024 FTy.f32) (p : Fin 1408) (q : Fin 1024) :
    k0_pay2 (F := Ideal) s (iblk m c 0 t) (iblk m c 1 t) (ix2 p q) = s (ix2 p q) + part m c t.val p q := by
  refine (pay2_at s (iblk m c 0 t) (iblk m c 1 t) p q).trans ?_
  unfold part
  refine congrArg (s (ix2 p q) + ·) (Finset.sum_congr rfl fun k _ => ?_)
  exact congrArg₂ (· * ·) (blk_0 c t (V m c) k p) (blk_1 c t (V m c) k q)

/-- What the first point of a block leaves. -/
theorem left_first (t : Fin cfg0.N) (h0 : t.val % 16 = 0) (p : Fin 1408) (q : Fin 1024) :
    (outsAt0 m c t.val t.isLt).2 (ix2 p q) = part m c t.val p q := by
  rw [outsAt0_A m c t h0 (by omega)]
  dsimp only
  rw [first_left, step_at, pay1_at, zero_add]

/-- What a later point leaves: what the point before left and its own part. -/
theorem left_next (t : Fin cfg0.N) (h0 : ¬t.val % 16 = 0) (p : Fin 1408) (q : Fin 1024) :
    (outsAt0 m c t.val t.isLt).2 (ix2 p q) = (outsAt0 m c (t.val - 1) (Nat.lt_of_le_of_lt (Nat.sub_le _ _) t.isLt)).2 (ix2 p q) + part m c t.val p q := by
  by_cases h1 : t.val % 16 = 15
  · rw [outsAt0_C m c t h0 h1]
    dsimp only
    rw [last_left, step_at]
  · rw [outsAt0_B m c t h0 h1]
    dsimp only
    rw [mid_left, step_at]

/-- The last point writes out what it leaves. -/
theorem out_last (t : Fin cfg0.N) (h1 : t.val % 16 = 15) (p : Fin 1408) (q : Fin 1024) :
    ((outsAt0 m c t.val t.isLt).1 (ix2 p q) : EReal) = (outsAt0 m c t.val t.isLt).2 (ix2 p q) := by
  rw [outsAt0_C m c t (by omega) h1]
  dsimp only
  rw [last_left, last_out, pay3_at]

/-- The sum left after each point of a block. -/
theorem left_sum (r : ℕ) (p : Fin 1408) (q : Fin 1024) : ∀ (j : ℕ) (hj : j < 16) (h : 16 * r + j < cfg0.N),
    (outsAt0 m c (16 * r + j) h).2 (ix2 p q) = ∑ s ∈ Finset.range (j + 1), part m c (16 * r + s) p q
  | 0, _, h => by
    rw [Finset.sum_range_one]
    exact left_first m c ⟨16 * r + 0, h⟩ (by show (16 * r + 0) % 16 = 0; omega) p q
  | j + 1, hj, h => by
    rw [Finset.sum_range_succ, ← left_sum r p q j (by omega) (by omega)]
    exact left_next m c ⟨16 * r + (j + 1), h⟩ (by show ¬(16 * r + (j + 1)) % 16 = 0; omega) p q

/-- The result's array at an element: the whole product over the tokens. -/
theorem result_at (a : Fin 2816) (b : Fin 1024) :
    (G2 m c : FVec Ideal S2816x1024 FTy.bf16) (ix2 a b) = (∑ k : Fin 16384, hA m c (ix2 k a) * gA m c (ix2 k b) : EReal) := by
  have hN : cfg0.N = 32 := N_0
  have hp : pt2Of (ix2 a b : S2816x1024.Idx) = 16 * (a.val / 1408) + 15 := by
    have hb : b.val / 1024 = 0 := Nat.div_eq_of_lt b.isLt
    show 16 * (1 * (a.val / 1408 - 0) + 1 * (b.val / 1024 - 0)) + 15 = _
    omega
  have hl : loc2Of (ix2 a b : S2816x1024.Idx) = (ix2 ⟨a.val % 1408, Nat.mod_lt _ (by norm_num)⟩ b : S1408x1024.Idx) := by
    funext d; apply Fin.ext
    match d with
    | ⟨0, _⟩ => rfl
    | ⟨1, _⟩ => exact Nat.mod_eq_of_lt b.isLt
  have hlt : pt2Of (ix2 a b : S2816x1024.Idx) < cfg0.N := by rw [hp, hN]; omega
  have hlt' : 16 * (a.val / 1408) + 15 < cfg0.N := by rw [hN]; omega
  have e : (G2 m c : Vec Ideal S2816x1024 .bf16) (ix2 a b) = (outsAt0 m c (16 * (a.val / 1408) + 15) hlt').1 (ix2 ⟨a.val % 1408, Nat.mod_lt _ (by norm_num)⟩ b) := by
    unfold G2
    rw [dif_pos hlt, hl, ← outsAt0_sweep m c _ hlt]
    simp only [hp]
  refine e.trans ?_
  refine (out_last m c ⟨16 * (a.val / 1408) + 15, hlt'⟩ (by show (16 * (a.val / 1408) + 15) % 16 = 15; omega) _ _).trans ?_
  refine (left_sum m c (a.val / 1408) _ b 15 (by omega) hlt').trans ?_
  let f : ℕ → EReal := fun k => hA m c (ix2 ⟨k % 16384, Nat.mod_lt _ (by norm_num)⟩ a) * gA m c (ix2 ⟨k % 16384, Nat.mod_lt _ (by norm_num)⟩ b)
  have e1 : ∀ s ∈ Finset.range (15 + 1), part m c (16 * (a.val / 1408) + s) ⟨a.val % 1408, Nat.mod_lt _ (by norm_num)⟩ b = ∑ k : Fin 1024, f (s * 1024 + k.val) := by
    intro s hs
    have hs16 := Finset.mem_range.mp hs
    unfold part
    refine Finset.sum_congr rfl fun k _ => ?_
    have hc : colOf (16 * (a.val / 1408) + s) ⟨a.val % 1408, Nat.mod_lt _ (by norm_num)⟩ = a := by
      apply Fin.ext
      show ((16 * (a.val / 1408) + s) / 16 * 1408 + a.val % 1408) % 2816 = a.val
      omega
    have hr : rowOf (16 * (a.val / 1408) + s) k = ⟨(s * 1024 + k.val) % 16384, Nat.mod_lt _ (by norm_num)⟩ := by
      apply Fin.ext
      show ((16 * (a.val / 1408) + s) % 16 * 1024 + k.val) % 16384 = (s * 1024 + k.val) % 16384
      omega
    rw [hr, hc]
  refine (Finset.sum_congr rfl e1).trans ((sum_tiles 1024 f 16).trans ((Fin.sum_univ_eq_sum_range f 16384).symm.trans ?_))
  refine Finset.sum_congr rfl fun k _ => ?_
  have hk : (⟨k.val % 16384, Nat.mod_lt _ (by norm_num)⟩ : Fin 16384) = k := Fin.ext (Nat.mod_eq_of_lt k.isLt)
  show hA m c (ix2 ⟨k.val % 16384, _⟩ a) * gA m c (ix2 ⟨k.val % 16384, _⟩ b) = _
  rw [hk]

end

end Cert.Kernel4Ideal.Mat

end
-- ==== Proof.Claim4.lean ====
module

public import proofs.«01_k».proof.Defs
public import proofs.«01_k».proof.Proof.Mat4Sum
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Proof

open Idealize.ShloMosaic Idealize.SL.Sem

/-- At words the idealized body is the printed one: no operation was replaced. -/
theorem words_kernel4 : Cert.Kernel4Ideal.cc0_f_down_dw (F := Bits) = Cert.Kernel4.cc0_f_down_dw (F := Bits) := rfl

/-- So are the bodies the launch calls. -/
theorem words_bodies4 : Cert.Kernel4Ideal.defs₀ (F := Bits) = Cert.Kernel4.defs₀ (F := Bits) := by
  unfold Cert.Kernel4Ideal.defs₀ Cert.Kernel4.defs₀
  refine congrArg Defs.onTc (funext fun l => funext fun x => ?_)
  match l, x with
  | 0, (t, s) => exact congrFun (congrFun (congrFun (congrFun (congrFun (congrFun (congrFun (congrFun (congrFun words_kernel4 _) _) _) _) _) _) _) _) _
  | ⟨_ + 1, h⟩, _ => exact absurd h (Nat.not_lt.2 (Nat.le_add_left _ _))

/-- So are the launch's definitions. -/
theorem words_defs4 : Cert.Kernel4Ideal.defs (F := Bits) = Cert.Kernel4.defs (F := Bits) := by
  unfold Cert.Kernel4Ideal.defs Cert.Kernel4.defs
  exact congrArg (Idealize.ShloMosaic.Pipeline.defs (Cert.Kernel4Ideal.pcfgs (F := Bits))) words_bodies4

/-- So is the host program. -/
theorem words_main4 : Cert.Kernel4Ideal.main (F := Bits) = Cert.Kernel4.main (F := Bits) := by
  unfold Cert.Kernel4Ideal.main Cert.Kernel4.main
  rfl

/-- The printed product's frame, at words. -/
theorem frame_kernel4 : Cert.quiescent_Kernel4 (hKernel4 := Cert.Kernel4.Gen.facts) :=
  fun m g _ => by
    have h := Cert.Kernel4Ideal.Gen.frame (F := Bits) m g
    rw [words_defs4, words_main4] at h
    exact h

/-- The idealized product's frame. -/
theorem frame_kernel4_ideal : Cert.quiescent_Kernel4Ideal (hKernel4Ideal := Cert.Kernel4Ideal.Gen.facts) :=
  fun m g _ => Cert.Kernel4Ideal.Gen.frame (F := Ideal) m g

/-- The reference product's frame. -/
theorem frame_reference4 : Cert.quiescent_Reference4Ideal (hReference4Ideal := Cert.Reference4Ideal.Gen.facts) :=
  fun m g _ => (θ_run Cert.Reference4Ideal.defs _ _).mono
    (fun r h => ⟨fun c => (h c).2, sem_eq_zero_of_no_sems (by decide) r.2⟩)
    (Cert.Reference4Ideal.Value.run (F := Ideal) m g)

/-- The reference's product is the array the launch leaves: the gradient of the feed-forward's second weights. -/
theorem product4_agrees (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v5 (F := Ideal) (Cert.Kernel4Ideal.Mat.hA m c) (Cert.Kernel4Ideal.Mat.gA m c) = Cert.Kernel4Ideal.Value.G2 m c := by
  funext i
  obtain ⟨a, b, rfl⟩ : ∃ a b, i = ix2 a b := ⟨_, _, eq_ix2 i⟩
  refine Eq.trans ?_ (Cert.Kernel4Ideal.Mat.result_at m c a b).symm
  refine (Cert.Reference4Ideal.Read.val_main_v5_apply _ _ _).trans ?_
  refine (Cert.Reference4Ideal.Read.val_main_v4_apply _ _ _).trans ?_
  refine (Cert.Reference4Ideal.Read.val_main_v3_apply _ _ _).trans (Finset.sum_congr rfl fun k _ => ?_)
  have hl : Cert.Reference4Ideal.Read.lidx_main_v3 (Cert.Reference4Ideal.Read.idx_main_v4 (ix2 a b)) k = ix2 k b := eq_ix2 _
  have hr : Cert.Reference4Ideal.Read.ridx_main_v3 (Cert.Reference4Ideal.Read.idx_main_v4 (ix2 a b)) k = ix2 k a := eq_ix2 _
  rw [hl, hr]
  exact mul_comm _ _

/-- The product and its reference, on the same arguments, end with the same gradient. -/
theorem algebraic4 : Cert.algebraic_Kernel4Ideal_Reference4Ideal (hKernel4Ideal := Cert.Kernel4Ideal.Gen.facts)
    (hReference4Ideal := Cert.Reference4Ideal.Gen.facts) := by
  intro m g m' g' _ same
  refine ⟨fun c => Cert.Kernel4Ideal.Value.G2 m c, Cert.Kernel4Ideal.Value.run (F := Ideal) m g, ?_⟩
  refine (θ_run Cert.Reference4Ideal.defs _ _).mono (fun r h c => ?_) (Cert.Reference4Ideal.Value.run (F := Ideal) m' g')
  obtain ⟨e0, ea⟩ := h c
  obtain ⟨a0, a1⟩ := same c
  refine ⟨e0.trans ?_, ea⟩
  rw [Cert.Reference4Ideal.Read.val_main_v5_eq, a0, a1]
  exact product4_agrees m c

end Cert.Proof

end
-- ==== Proof.Mat5.lean ====
module

public import proofs.«01_k».proof.Proof.Gen.Kernel5Ideal.Value
public import proofs.«01_k».proof.Proof.Gen.Reference5Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel5Ideal.Mat

open Cert.Kernel5Ideal Cert.Kernel5Ideal.Gen Cert.Kernel5Ideal.Value
open Idealize.ShloMosaic Idealize.ShloMosaic.TcCoe Idealize.SL.Sem

/-! ## The gradient of the gated product: what the blocked product leaves -/

/-- The offsets of a whole block. -/
theorem whole_off : (![0, 0] : Fin 2 → Nat) = fun _ => 0 := funext fun a => by fin_cases a <;> rfl

/-- What the body stores, from its two blocks. -/
theorem stored {F : FTy → Type} [FloatOps F] (x : Vec F S1024x1024 .f32) (y : Vec F S1408x1024 .bf16) : out0_2 x y = k0_pay1 x y := by
  unfold out0_2 r0_0 r0_1 r0_2
  rw [View.canon_unit_zero whole_off]
  simp only [View.ld_unit_zero (S := S1024x1024) whole_off, View.ld_unit_zero (S := S1408x1024) whole_off]

/-- The stored block at an element. -/
theorem pay1_at (x : FVec Ideal S1024x1024 FTy.f32) (y : FVec Ideal S1408x1024 FTy.bf16) (p : Fin 1024) (q : Fin 1408) :
    k0_pay1 (F := Ideal) x y (ix2 p q) = ∑ k : Fin 1024, x (ix2 p k) * y (ix2 q k) := by
  pointwise [k0_pay1]

/-- The row of blocks of a point. -/
theorem coords_0 (t : Fin grid0.N) : (grid0.coords t 0).val = t.val / 2 := by
  have h := Pipeline.Grid.coords_val (G := grid0) t 0 (S := 2) (B := 16) (by decide) rfl
  have hN : t.val < 32 := lt_of_lt_of_eq t.isLt N_0
  omega

/-- The column of blocks of a point. -/
theorem coords_1 (t : Fin grid0.N) : (grid0.coords t 1).val = t.val % 2 := by
  have h := Pipeline.Grid.coords_val (G := grid0) t 1 (S := 1) (B := 2) (by decide) rfl
  simpa using h

/-- The tile of the summed axis a point takes: there is one. -/
theorem coords_2 (t : Fin grid0.N) : (grid0.coords t 2).val = 0 := by
  have h := (grid0.coords t 2).isLt
  exact Nat.lt_one_iff.mp h

/-- The token a point's block row stands for. -/
def rowOf (t : ℕ) (p : Fin 1024) : Fin 16384 := ⟨(t / 2 * 1024 + p.val) % 16384, Nat.mod_lt _ (by norm_num)⟩

/-- The column of the result a point's block column stands for. -/
def colOf (t : ℕ) (q : Fin 1408) : Fin 2816 := ⟨(t % 2 * 1408 + q.val) % 2816, Nat.mod_lt _ (by norm_num)⟩

/-- Where the first operand's block lies in its array. -/
theorem emb_0 (t : Fin cfg0.N) (p k : Fin 1024) :
    ((cfg0.win 0).blk t).view.emb (ix2 p k : S1024x1024.Idx) = (ix2 (rowOf t.val p) k : S16384x1024.Idx) := by
  have hN : t.val < 32 := lt_of_lt_of_eq t.isLt N_0
  have c0 := coords_0 t
  have c2 := coords_2 t
  funext a; apply Fin.ext
  match a with
  | ⟨0, _⟩ => show (BitVec.ofNat 32 (grid0.coords t 0).val).toNat * 1024 + 1 * p.val = (t.val / 2 * 1024 + p.val) % 16384; rw [c0, BitVec.toNat_ofNat]; omega
  | ⟨1, _⟩ => show (BitVec.ofNat 32 (grid0.coords t 2).val).toNat * 1024 + 1 * k.val = k.val; rw [c2, BitVec.toNat_ofNat]; omega

/-- Where the second operand's block lies in its array. -/
theorem emb_1 (t : Fin cfg0.N) (q : Fin 1408) (k : Fin 1024) :
    ((cfg0.win 1).blk t).view.emb (ix2 q k : S1408x1024.Idx) = (ix2 (colOf t.val q) k : S2816x1024.Idx) := by
  have hN : t.val < 32 := lt_of_lt_of_eq t.isLt N_0
  have c1 := coords_1 t
  have c2 := coords_2 t
  funext a; apply Fin.ext
  match a with
  | ⟨0, _⟩ => show (BitVec.ofNat 32 (grid0.coords t 1).val).toNat * 1408 + 1 * q.val = (t.val % 2 * 1408 + q.val) % 2816; rw [c1, BitVec.toNat_ofNat]; omega
  | ⟨1, _⟩ => show (BitVec.ofNat 32 (grid0.coords t 2).val).toNat * 1024 + 1 * k.val = k.val; rw [c2, BitVec.toNat_ofNat]; omega

/-- Where the result's block lies in its array. -/
theorem emb_2 (t : Fin cfg0.N) (p : Fin 1024) (q : Fin 1408) :
    ((cfg0.win 2).blk t).view.emb (ix2 p q : S1024x1408.Idx) = (ix2 (rowOf t.val p) (colOf t.val q) : S16384x2816.Idx) := by
  have hN : t.val < 32 := lt_of_lt_of_eq t.isLt N_0
  have c0 := coords_0 t
  have c1 := coords_1 t
  funext a; apply Fin.ext
  match a with
  | ⟨0, _⟩ => show (BitVec.ofNat 32 (grid0.coords t 0).val).toNat * 1024 + 1 * p.val = (t.val / 2 * 1024 + p.val) % 16384; rw [c0, BitVec.toNat_ofNat]; omega
  | ⟨1, _⟩ => show (BitVec.ofNat 32 (grid0.coords t 1).val).toNat * 1408 + 1 * q.val = (t.val % 2 * 1408 + q.val) % 2816; rw [c1, BitVec.toNat_ofNat]; omega

section
variable (c : Dev nD) (t : Fin cfg0.N)

/-- The first operand's block, read from any contents of the buffers. -/
theorem blk_0 (W : (b : Ref sig .tc) → Buf (Elt Ideal) ((c : Thread nD τ).loc b)) (p k : Fin 1024) :
    ((cfg0.win 0).blk t).view.read (Elt Ideal) (W (Pipeline.arrRef spec0 0)) (ix2 p k : S1024x1024.Idx) = W main_arg1 (ix2 (rowOf t.val p) k : S16384x1024.Idx) := by
  show W main_arg1 (((cfg0.win 0).blk t).view.emb (ix2 p k : S1024x1024.Idx)) = _
  rw [emb_0]

/-- The second operand's block, read from any contents of the buffers. -/
theorem blk_1 (W : (b : Ref sig .tc) → Buf (Elt Ideal) ((c : Thread nD τ).loc b)) (q : Fin 1408) (k : Fin 1024) :
    ((cfg0.win 1).blk t).view.read (Elt Ideal) (W (Pipeline.arrRef spec0 1)) (ix2 q k : S1408x1024.Idx) = W main_arg0 (ix2 (colOf t.val q) k : S2816x1024.Idx) := by
  show W main_arg0 (((cfg0.win 1).blk t).view.emb (ix2 q k : S1408x1024.Idx)) = _
  rw [emb_1]

/-- The result's block, read from any contents of its array. -/
theorem blk_2 (Z : Vec Ideal S16384x2816 .bf16) (p : Fin 1024) (q : Fin 1408) :
    ((cfg0.win 2).blk t).view.read (Elt Ideal) Z (ix2 p q : S1024x1408.Idx) = Z (ix2 (rowOf t.val p) (colOf t.val q) : S16384x2816.Idx) := by
  show Z (((cfg0.win 2).blk t).view.emb (ix2 p q : S1024x1408.Idx)) = _
  rw [emb_2]

end

section
variable (m : (ℓ : Loc nD τ sig) → Buf (Elt Ideal) ℓ) (c : Dev nD)

/-- The gradient of the output as the launch finds it. -/
abbrev xA : Vec Ideal S16384x1024 .f32 := V m c main_arg1

/-- The weights as the launch finds them. -/
abbrev wA : Vec Ideal S2816x1024 .bf16 := V m c main_arg0

/-- What a point writes back, at an element. -/
theorem wrote (t : Fin cfg0.N) (p : Fin 1024) (q : Fin 1408) :
    ((dats m 0 c).flushed 2 t (ix2 p q : S1024x1408.Idx) : EReal) = ∑ k : Fin 1024, xA m c (ix2 (rowOf t.val p) k) * wA m c (ix2 (colOf t.val q) k) := by
  rw [flushed2, stored]
  refine (pay1_at (iblk m c 0 t) (iblk m c 1 t) p q).trans ?_
  refine Finset.sum_congr rfl fun k _ => ?_
  exact congrArg₂ (· * ·) (blk_0 c t (V m c) p k) (blk_1 c t (V m c) q k)

/-- The result's array at an element: the whole product. -/
theorem result_at (a : Fin 16384) (b : Fin 2816) :
    ((dats m 0 c).arrAt 2 cfg0.N (ix2 a b : S16384x2816.Idx) : EReal) = ∑ k : Fin 1024, xA m c (ix2 a k) * wA m c (ix2 b k) := by
  have hN : cfg0.N = 32 := N_0
  have hlt : a.val / 1024 * 2 + b.val / 1408 < cfg0.N := by rw [hN]; omega
  have ha : rowOf (a.val / 1024 * 2 + b.val / 1408) ⟨a.val % 1024, Nat.mod_lt _ (by norm_num)⟩ = a := by
    apply Fin.ext
    show ((a.val / 1024 * 2 + b.val / 1408) / 2 * 1024 + a.val % 1024) % 16384 = a.val
    omega
  have hb : colOf (a.val / 1024 * 2 + b.val / 1408) ⟨b.val % 1408, Nat.mod_lt _ (by norm_num)⟩ = b := by
    apply Fin.ext
    show ((a.val / 1024 * 2 + b.val / 1408) % 2 * 1408 + b.val % 1408) % 2816 = b.val
    omega
  have e := blk_2 ⟨_, hlt⟩ ((dats m 0 c).arrAt 2 cfg0.N) ⟨a.val % 1024, Nat.mod_lt _ (by norm_num)⟩ ⟨b.val % 1408, Nat.mod_lt _ (by norm_num)⟩
  have w := wrote m c ⟨_, hlt⟩ ⟨a.val % 1024, Nat.mod_lt _ (by norm_num)⟩ ⟨b.val % 1408, Nat.mod_lt _ (by norm_num)⟩
  rw [blocks2 m c ⟨_, hlt⟩ (flush0_2 _)] at e
  dsimp only at e w
  rw [ha, hb] at e w
  exact e.symm.trans w

end

end Cert.Kernel5Ideal.Mat

end
-- ==== Proof.Claim5.lean ====
module

public import proofs.«01_k».proof.Defs
public import proofs.«01_k».proof.Proof.Mat5
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read

@[expose] public section

set_option maxRecDepth 16384

noncomputable section

namespace Cert.Proof

open Idealize.ShloMosaic Idealize.SL.Sem

/-- At words the idealized body is the printed one: no operation was replaced. -/
theorem words_kernel5 : Cert.Kernel5Ideal.cc0_f_down_dx (F := Bits) = Cert.Kernel5.cc0_f_down_dx (F := Bits) := rfl

/-- So are the bodies the launch calls. -/
theorem words_bodies5 : Cert.Kernel5Ideal.defs₀ (F := Bits) = Cert.Kernel5.defs₀ (F := Bits) := by
  unfold Cert.Kernel5Ideal.defs₀ Cert.Kernel5.defs₀
  refine congrArg Defs.onTc (funext fun l => funext fun x => ?_)
  match l, x with
  | 0, (t, s) => exact congrFun (congrFun (congrFun (congrFun (congrFun (congrFun (congrFun words_kernel5 _) _) _) _) _) _) _
  | ⟨_ + 1, h⟩, _ => exact absurd h (Nat.not_lt.2 (Nat.le_add_left _ _))

/-- So are the launch's definitions. -/
theorem words_defs5 : Cert.Kernel5Ideal.defs (F := Bits) = Cert.Kernel5.defs (F := Bits) := by
  unfold Cert.Kernel5Ideal.defs Cert.Kernel5.defs
  exact congrArg (Idealize.ShloMosaic.Pipeline.defs (Cert.Kernel5Ideal.pcfgs (F := Bits))) words_bodies5

/-- So is the host program. -/
theorem words_main5 : Cert.Kernel5Ideal.main (F := Bits) = Cert.Kernel5.main (F := Bits) := by
  unfold Cert.Kernel5Ideal.main Cert.Kernel5.main
  rfl

/-- The printed product's frame, at words. -/
theorem frame_kernel5 : Cert.quiescent_Kernel5 (hKernel5 := Cert.Kernel5.Gen.facts) :=
  fun m g _ => by
    have h := Cert.Kernel5Ideal.Gen.frame (F := Bits) m g
    rw [words_defs5, words_main5] at h
    exact h

/-- The idealized product's frame. -/
theorem frame_kernel5_ideal : Cert.quiescent_Kernel5Ideal (hKernel5Ideal := Cert.Kernel5Ideal.Gen.facts) :=
  fun m g _ => Cert.Kernel5Ideal.Gen.frame (F := Ideal) m g

/-- The reference product's frame. -/
theorem frame_reference5 : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩)
    (Cert.Reference5Ideal.Value.run (F := Ideal) m g)

/-- The reference's product is the array the launch leaves: the gradient of the gated product. -/
theorem product5_agrees (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v4 (F := Ideal) (Cert.Kernel5Ideal.Mat.wA m c) (Cert.Kernel5Ideal.Mat.xA m c) = (Cert.Kernel5Ideal.Gen.dats m 0 c).arrAt 2 Cert.Kernel5Ideal.cfg0.N := by
  funext i
  obtain ⟨a, b, rfl⟩ : ∃ a b, i = ix2 a b := ⟨_, _, eq_ix2 i⟩
  refine Eq.trans ?_ (Cert.Kernel5Ideal.Mat.result_at m c a b).symm
  refine (Cert.Reference5Ideal.Read.val_main_v4_apply _ _ _).trans ?_
  refine (Cert.Reference5Ideal.Read.val_main_v3_apply _ _ _).trans (Finset.sum_congr rfl fun k _ => ?_)
  have hl : Cert.Reference5Ideal.Read.lidx_main_v3 (ix2 a b) k = ix2 a k := eq_ix2 _
  have hr : Cert.Reference5Ideal.Read.ridx_main_v3 (ix2 a b) k = ix2 b k := eq_ix2 _
  rw [hl, hr]
  rfl

/-- The product and its reference, on the same arguments, end with the same gradient. -/
theorem algebraic5 : Cert.algebraic_Kernel5Ideal_Reference5Ideal (hKernel5Ideal := Cert.Kernel5Ideal.Gen.facts)
    (hReference5Ideal := Cert.Reference5Ideal.Gen.facts) := by
  intro m g m' g' _ same
  refine ⟨fun c => (Cert.Kernel5Ideal.Gen.dats m 0 c).arrAt 2 Cert.Kernel5Ideal.cfg0.N, Cert.Kernel5Ideal.Value.run_blocks (F := Ideal) m g, ?_⟩
  refine (θ_run Cert.Reference5Ideal.defs _ _).mono (fun r h c => ?_) (Cert.Reference5Ideal.Value.run (F := Ideal) m' g')
  obtain ⟨e0, ea⟩ := h c
  obtain ⟨a0, a1⟩ := same c
  refine ⟨e0.trans ?_, ea⟩
  rw [Cert.Reference5Ideal.Read.val_main_v4_eq, a0, a1]
  exact product5_agrees m c

end Cert.Proof

end
-- ==== Proof.Mat6.lean ====
module

public import proofs.«01_k».proof.Proof.Gen.Kernel6Ideal.Value
public import proofs.«01_k».proof.Proof.Gen.Reference6Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel6Ideal.Mat

open Cert.Kernel6Ideal Cert.Kernel6Ideal.Gen Cert.Kernel6Ideal.Value
open Idealize.ShloMosaic Idealize.ShloMosaic.TcCoe Idealize.SL.Sem

/-! ## The feed-forward's output over the residual stream: what the blocked product leaves -/

/-- A sum over equal tiles is the sum over the whole. -/
theorem sum_tiles (b : ℕ) (f : ℕ → EReal) : ∀ n : ℕ, ∑ s ∈ Finset.range n, ∑ k : Fin b, f (s * b + k.val) = ∑ k ∈ Finset.range (n * b), f k
  | 0 => by simp
  | n + 1 => by
    rw [Finset.sum_range_succ, sum_tiles b f n, Nat.add_mul, one_mul, Finset.sum_range_add, Fin.sum_univ_eq_sum_range (fun k => f (n * b + k)) b]

/-- The offsets of a whole block. -/
theorem whole_off : (![0, 0] : Fin 2 → Nat) = fun _ => 0 := funext fun a => by fin_cases a <;> rfl

section
variable {F : FTy → Type} [FloatOps F]

/-- The first point of a row of blocks leaves the first product, over zeros. -/
theorem first_left (c : Dev nD) (i : grid0.Coords) (a3 : Memref sig .tc .vmem S1024x1408 .bf16) (h3 : a3.IsWhole) (a4 : Memref sig .tc .vmem S1408x1024 .bf16) (h4 : a4.IsWhole)
    (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (c0 : cond0_0 i) (c1 : ¬cond0_1 i)
    (x : Vec F S1024x1408 .bf16) (y : Vec F S1408x1024 .bf16) (z : Vec F S1024x1024 .f32) :
    sout0_A_0 c i a3 h3 a4 h4 a5 h5 a6 h6 a7 h7 c0 c1 x y z = k0_pay2 k0_pay1 x y := by
  unfold sout0_A_0
  rw [View.read_writes_eq_canon _ _ _ (scover0_A_0 c i a3 h3 a4 h4 a5 h5 a6 h6 a7 h7 c0 c1 x y z)]
  unfold kernelRun0_A
  dsimp only
  sl_unfold_words
  rw [View.canon_cons_unit_zero (S := S1024x1024) whole_off]
  simp only [View.readCov_unit_zero (S := S1024x1024) _ whole_off, View.readAt_eq_ld, h3.read_unread, h4.read_unread, h5.read_unread, h7.read_unread, View.ld_unit_zero (S := S1024x1408) whole_off, View.ld_unit_zero (S := S1408x1024) whole_off, View.ld_unit_zero (S := S1024x1024) whole_off]

/-- The last point writes the sum, the residual added, to the result's block. -/
theorem last_out (c : Dev nD) (i : grid0.Coords) (a3 : Memref sig .tc .vmem S1024x1408 .bf16) (h3 : a3.IsWhole) (a4 : Memref sig .tc .vmem S1408x1024 .bf16) (h4 : a4.IsWhole)
    (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (c0 : ¬cond0_0 i) (c1 : cond0_1 i)
    (x : Vec F S1024x1408 .bf16) (y : Vec F S1408x1024 .bf16) (z s : Vec F S1024x1024 .f32) :
    out0_B_3 c i a3 h3 a4 h4 a5 h5 a6 h6 a7 h7 c0 c1 x y z s = k0_pay3 (k0_pay2 s x y) z := by
  unfold out0_B_3
  rw [View.read_writes_eq_canon _ _ _ (cover0_B_3 c i a3 h3 a4 h4 a5 h5 a6 h6 a7 h7 c0 c1 x y z s)]
  unfold kernelRun0_B
  dsimp only
  sl_unfold_words
  rw [View.canon_unit_zero whole_off]
  simp only [View.readCov_unit_zero (S := S1024x1024) _ whole_off, View.readAt_eq_ld, h3.read_unread, h4.read_unread, h5.read_unread, h7.read_unread, View.ld_unit_zero (S := S1024x1408) whole_off, View.ld_unit_zero (S := S1408x1024) whole_off, View.ld_unit_zero (S := S1024x1024) whole_off]

end

/-- One point's step at an element: what was there and the tile's product. -/
theorem pay2_at (s : FVec Ideal S1024x1024 FTy.f32) (x : FVec Ideal S1024x1408 FTy.bf16) (y : FVec Ideal S1408x1024 FTy.bf16) (p q : Fin 1024) :
    k0_pay2 (F := Ideal) s x y (ix2 p q) = s (ix2 p q) + ∑ k : Fin 1408, x (ix2 p k) * y (ix2 k q) := by
  pointwise [k0_pay2]

/-- The zeros the first point starts from. -/
theorem pay1_at (p q : Fin 1024) : k0_pay1 (F := Ideal) (ix2 p q) = (0 : EReal) := by
  pointwise [k0_pay1]

/-- The residual is added at each element. -/
theorem pay3_at (s z : FVec Ideal S1024x1024 FTy.f32) (p q : Fin 1024) : k0_pay3 (F := Ideal) s z (ix2 p q) = s (ix2 p q) + z (ix2 p q) := by
  pointwise [k0_pay3]

/-- The row of blocks of a point. -/
theorem coords_0 (t : Fin grid0.N) : (grid0.coords t 0).val = t.val / 2 := by
  have h := Pipeline.Grid.coords_val (G := grid0) t 0 (S := 2) (B := 16) (by decide) rfl
  have hN : t.val < 32 := lt_of_lt_of_eq t.isLt N_0
  omega

/-- The column of blocks of a point: there is one. -/
theorem coords_1 (t : Fin grid0.N) : (grid0.coords t 1).val = 0 := by
  have h := (grid0.coords t 1).isLt
  exact Nat.lt_one_iff.mp h

/-- The tile of the summed axis a point takes. -/
theorem coords_2 (t : Fin grid0.N) : (grid0.coords t 2).val = t.val % 2 := by
  have h := Pipeline.Grid.coords_val (G := grid0) t 2 (S := 1) (B := 2) (by decide) rfl
  simpa using h

/-- The token a point's block row stands for. -/
def rowOf (t : ℕ) (p : Fin 1024) : Fin 16384 := ⟨(t / 2 * 1024 + p.val) % 16384, Nat.mod_lt _ (by norm_num)⟩

/-- The place on the summed axis a point's tile stands for. -/
def colOf (t : ℕ) (k : Fin 1408) : Fin 2816 := ⟨(t % 2 * 1408 + k.val) % 2816, Nat.mod_lt _ (by norm_num)⟩

/-- Where the first operand's block lies in its array. -/
theorem emb_0 (t : Fin cfg0.N) (p : Fin 1024) (k : Fin 1408) :
    ((cfg0.win 0).blk t).view.emb (ix2 p k : S1024x1408.Idx) = (ix2 (rowOf t.val p) (colOf t.val k) : S16384x2816.Idx) := by
  have hN : t.val < 32 := lt_of_lt_of_eq t.isLt N_0
  have c0 := coords_0 t
  have c1 := coords_1 t
  have c2 := coords_2 t
  funext a; apply Fin.ext
  match a with
  | ⟨0, _⟩ => show (BitVec.ofNat 32 (grid0.coords t 0).val).toNat * 1024 + 1 * p.val = (t.val / 2 * 1024 + p.val) % 16384; rw [c0, BitVec.toNat_ofNat]; omega
  | ⟨1, _⟩ => show (BitVec.ofNat 32 (grid0.coords t 2).val).toNat * 1408 + 1 * k.val = (t.val % 2 * 1408 + k.val) % 2816; rw [c2, BitVec.toNat_ofNat]; omega

/-- Where the second operand's block lies in its array. -/
theorem emb_1 (t : Fin cfg0.N) (k : Fin 1408) (q : Fin 1024) :
    ((cfg0.win 1).blk t).view.emb (ix2 k q : S1408x1024.Idx) = (ix2 (colOf t.val k) q : S2816x1024.Idx) := by
  have hN : t.val < 32 := lt_of_lt_of_eq t.isLt N_0
  have c0 := coords_0 t
  have c1 := coords_1 t
  have c2 := coords_2 t
  funext a; apply Fin.ext
  match a with
  | ⟨0, _⟩ => show (BitVec.ofNat 32 (grid0.coords t 2).val).toNat * 1408 + 1 * k.val = (t.val % 2 * 1408 + k.val) % 2816; rw [c2, BitVec.toNat_ofNat]; omega
  | ⟨1, _⟩ => show (BitVec.ofNat 32 (grid0.coords t 1).val).toNat * 1024 + 1 * q.val = q.val; rw [c1, BitVec.toNat_ofNat]; omega

/-- Where the residual's block lies in its array. -/
theorem emb_2 (t : Fin cfg0.N) (p : Fin 1024) (q : Fin 1024) :
    ((cfg0.win 2).blk t).view.emb (ix2 p q : S1024x1024.Idx) = (ix2 (rowOf t.val p) q : S16384x1024.Idx) := by
  have hN : t.val < 32 := lt_of_lt_of_eq t.isLt N_0
  have c0 := coords_0 t
  have c1 := coords_1 t
  have c2 := coords_2 t
  funext a; apply Fin.ext
  match a with
  | ⟨0, _⟩ => show (BitVec.ofNat 32 (grid0.coords t 0).val).toNat * 1024 + 1 * p.val = (t.val / 2 * 1024 + p.val) % 16384; rw [c0, BitVec.toNat_ofNat]; omega
  | ⟨1, _⟩ => show (BitVec.ofNat 32 (grid0.coords t 1).val).toNat * 1024 + 1 * q.val = q.val; rw [c1, BitVec.toNat_ofNat]; omega

section
variable (c : Dev nD) (t : Fin cfg0.N)

/-- The first operand's block, read from any contents of the buffers. -/
theorem blk_0 (W : (b : Ref sig .tc) → Buf (Elt Ideal) ((c : Thread nD τ).loc b)) (p : Fin 1024) (k : Fin 1408) :
    ((cfg0.win 0).blk t).view.read (Elt Ideal) (W (Pipeline.arrRef spec0 0)) (ix2 p k : S1024x1408.Idx) = W main_arg0 (ix2 (rowOf t.val p) (colOf t.val k) : S16384x2816.Idx) := by
  show W main_arg0 (((cfg0.win 0).blk t).view.emb (ix2 p k : S1024x1408.Idx)) = _
  rw [emb_0]

/-- The second operand's block, read from any contents of the buffers. -/
theorem blk_1 (W : (b : Ref sig .tc) → Buf (Elt Ideal) ((c : Thread nD τ).loc b)) (k : Fin 1408) (q : Fin 1024) :
    ((cfg0.win 1).blk t).view.read (Elt Ideal) (W (Pipeline.arrRef spec0 1)) (ix2 k q : S1408x1024.Idx) = W main_arg1 (ix2 (colOf t.val k) q : S2816x1024.Idx) := by
  show W main_arg1 (((cfg0.win 1).blk t).view.emb (ix2 k q : S1408x1024.Idx)) = _
  rw [emb_1]

/-- The residual's block, read from any contents of the buffers. -/
theorem blk_2 (W : (b : Ref sig .tc) → Buf (Elt Ideal) ((c : Thread nD τ).loc b)) (p : Fin 1024) (q : Fin 1024) :
    ((cfg0.win 2).blk t).view.read (Elt Ideal) (W (Pipeline.arrRef spec0 2)) (ix2 p q : S1024x1024.Idx) = W main_arg2 (ix2 (rowOf t.val p) q : S16384x1024.Idx) := by
  show W main_arg2 (((cfg0.win 2).blk t).view.emb (ix2 p q : S1024x1024.Idx)) = _
  rw [emb_2]

end

section
variable (m : (ℓ : Loc nD τ sig) → Buf (Elt Ideal) ℓ) (c : Dev nD)

/-- The gated product as the launch finds it. -/
abbrev aA : Vec Ideal S16384x2816 .bf16 := V m c main_arg0

/-- The weights as the launch finds them. -/
abbrev wA : Vec Ideal S2816x1024 .bf16 := V m c main_arg1

/-- The residual stream as the launch finds it. -/
abbrev zA : Vec Ideal S16384x1024 .f32 := V m c main_arg2

/-- A tile's part of the product at an element of a point's block. -/
def part (t : ℕ) (p q : Fin 1024) : EReal := ∑ k : Fin 1408, aA m c (ix2 (rowOf t p) (colOf t k)) * wA m c (ix2 (colOf t k) q)

/-- One point's step over any contents. -/
theorem step_at (t : Fin cfg0.N) (s : FVec Ideal S1024x1024 FTy.f32) (p q : Fin 1024) :
    k0_pay2 (F := Ideal) s (iblk m c 0 t) (iblk m c 1 t) (ix2 p q) = s (ix2 p q) + part m c t.val p q := by
  refine (pay2_at s (iblk m c 0 t) (iblk m c 1 t) p q).trans ?_
  unfold part
  refine congrArg (s (ix2 p q) + ·) (Finset.sum_congr rfl fun k _ => ?_)
  exact congrArg₂ (· * ·) (blk_0 c t (V m c) p k) (blk_1 c t (V m c) k q)

/-- What the first point of a row of blocks leaves. -/
theorem left_first (t : Fin cfg0.N) (h0 : t.val % 2 = 0) (p q : Fin 1024) :
    (outsAt0 m c t.val t.isLt).2 (ix2 p q) = part m c t.val p q := by
  rw [outsAt0_A m c t h0 (by omega)]
  dsimp only
  rw [first_left, step_at, pay1_at, zero_add]

/-- The second point writes both parts and the residual. -/
theorem out_last (t : Fin cfg0.N) (h1 : t.val % 2 = 1) (p q : Fin 1024) :
    ((outsAt0 m c t.val t.isLt).1 (ix2 p q) : EReal)
      = (outsAt0 m c (t.val - 1) (Nat.lt_of_le_of_lt (Nat.sub_le _ _) t.isLt)).2 (ix2 p q) + part m c t.val p q + zA m c (ix2 (rowOf t.val p) q) := by
  rw [outsAt0_B m c t (by omega) h1]
  dsimp only
  rw [last_out]
  refine (pay3_at _ (iblk m c 2 t) p q).trans ?_
  rw [step_at]
  exact congrArg (_ + ·) (blk_2 c t (V m c) p q)

/-- The result's array at an element: the whole product and the residual. -/
theorem result_at (a : Fin 16384) (b : Fin 1024) :
    (G3 m c : FVec Ideal S16384x1024 FTy.f32) (ix2 a b) = ((∑ k : Fin 2816, aA m c (ix2 a k) * wA m c (ix2 k b)) + zA m c (ix2 a b) : EReal) := by
  have hN : cfg0.N = 32 := N_0
  have hp : pt3Of (ix2 a b : S16384x1024.Idx) = 2 * (a.val / 1024) + 1 := by
    have hb : b.val / 1024 = 0 := Nat.div_eq_of_lt b.isLt
    show 2 * (1 * (a.val / 1024 - 0) + 1 * (b.val / 1024 - 0)) + 1 = _
    omega
  have hl : loc3Of (ix2 a b : S16384x1024.Idx) = (ix2 ⟨a.val % 1024, Nat.mod_lt _ (by norm_num)⟩ b : S1024x1024.Idx) := by
    funext d; apply Fin.ext
    match d with
    | ⟨0, _⟩ => rfl
    | ⟨1, _⟩ => exact Nat.mod_eq_of_lt b.isLt
  have hlt : pt3Of (ix2 a b : S16384x1024.Idx) < cfg0.N := by rw [hp, hN]; omega
  have hlt' : 2 * (a.val / 1024) + 1 < cfg0.N := by rw [hN]; omega
  have e : (G3 m c : Vec Ideal S16384x1024 .f32) (ix2 a b) = (outsAt0 m c (2 * (a.val / 1024) + 1) hlt').1 (ix2 ⟨a.val % 1024, Nat.mod_lt _ (by norm_num)⟩ b) := by
    unfold G3
    rw [dif_pos hlt, hl, ← outsAt0_sweep m c _ hlt]
    simp only [hp]
  let p : Fin 1024 := ⟨a.val % 1024, Nat.mod_lt _ (by norm_num)⟩
  let f : ℕ → EReal := fun k => aA m c (ix2 a ⟨k % 2816, Nat.mod_lt _ (by norm_num)⟩) * wA m c (ix2 ⟨k % 2816, Nat.mod_lt _ (by norm_num)⟩ b)
  have hr : ∀ s < 2, rowOf (2 * (a.val / 1024) + s) p = a := fun s hs => by
    apply Fin.ext
    show ((2 * (a.val / 1024) + s) / 2 * 1024 + a.val % 1024) % 16384 = a.val
    omega
  have e1 : ∀ s < 2, part m c (2 * (a.val / 1024) + s) p b = ∑ k : Fin 1408, f (s * 1408 + k.val) := fun s hs => by
    unfold part
    refine Finset.sum_congr rfl fun k _ => ?_
    have hc : colOf (2 * (a.val / 1024) + s) k = ⟨(s * 1408 + k.val) % 2816, Nat.mod_lt _ (by norm_num)⟩ := by
      apply Fin.ext
      show ((2 * (a.val / 1024) + s) % 2 * 1408 + k.val) % 2816 = (s * 1408 + k.val) % 2816
      omega
    rw [hr s hs, hc]
  have first := left_first m c ⟨2 * (a.val / 1024) + 0, by rw [hN]; omega⟩ (by show (2 * (a.val / 1024) + 0) % 2 = 0; omega) p b
  have last := out_last m c ⟨2 * (a.val / 1024) + 1, hlt'⟩ (by show (2 * (a.val / 1024) + 1) % 2 = 1; omega) p b
  have whole : part m c (2 * (a.val / 1024) + 0) p b + part m c (2 * (a.val / 1024) + 1) p b = ∑ k : Fin 2816, aA m c (ix2 a k) * wA m c (ix2 k b) := by
    rw [e1 0 (by norm_num), e1 1 (by norm_num)]
    have t2 := sum_tiles 1408 f 2
    rw [Finset.sum_range_succ, Finset.sum_range_one] at t2
    refine t2.trans ((Fin.sum_univ_eq_sum_range f 2816).symm.trans (Finset.sum_congr rfl fun k _ => ?_))
    have hk : (⟨k.val % 2816, Nat.mod_lt _ (by norm_num)⟩ : Fin 2816) = k := Fin.ext (Nat.mod_eq_of_lt k.isLt)
    show aA m c (ix2 a ⟨k.val % 2816, _⟩) * wA m c (ix2 ⟨k.val % 2816, _⟩ b) = _
    rw [hk]
  refine e.trans (last.trans ?_)
  refine congrArg₂ (· + ·) ((congrArg (· + part m c (2 * (a.val / 1024) + 1) p b) first).trans whole) ?_
  exact congrArg (fun r => zA m c (ix2 r b)) (hr 1 (by norm_num))

end

end Cert.Kernel6Ideal.Mat

end
-- ==== Proof.Claim6.lean ====
module

public import proofs.«01_k».proof.Defs
public import proofs.«01_k».proof.Proof.Mat6
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read

@[expose] public section

set_option maxRecDepth 16384

noncomputable section

namespace Cert.Proof

open Idealize.ShloMosaic Idealize.SL.Sem

/-- At words the idealized body is the printed one: no operation was replaced. -/
theorem words_kernel6 : Cert.Kernel6Ideal.cc0_f_down (F := Bits) = Cert.Kernel6.cc0_f_down (F := Bits) := rfl

/-- So are the bodies the launch calls. -/
theorem words_bodies6 : Cert.Kernel6Ideal.defs₀ (F := Bits) = Cert.Kernel6.defs₀ (F := Bits) := by
  unfold Cert.Kernel6Ideal.defs₀ Cert.Kernel6.defs₀
  refine congrArg Defs.onTc (funext fun l => funext fun x => ?_)
  match l, x with
  | 0, (t, s) => exact congrFun (congrFun (congrFun (congrFun (congrFun (congrFun (congrFun (congrFun (congrFun (congrFun (congrFun words_kernel6 _) _) _) _) _) _) _) _) _) _) _
  | ⟨_ + 1, h⟩, _ => exact absurd h (Nat.not_lt.2 (Nat.le_add_left _ _))

/-- So are the launch's definitions. -/
theorem words_defs6 : Cert.Kernel6Ideal.defs (F := Bits) = Cert.Kernel6.defs (F := Bits) := by
  unfold Cert.Kernel6Ideal.defs Cert.Kernel6.defs
  exact congrArg (Idealize.ShloMosaic.Pipeline.defs (Cert.Kernel6Ideal.pcfgs (F := Bits))) words_bodies6

/-- So is the host program. -/
theorem words_main6 : Cert.Kernel6Ideal.main (F := Bits) = Cert.Kernel6.main (F := Bits) := by
  unfold Cert.Kernel6Ideal.main Cert.Kernel6.main
  rfl

/-- The printed product's frame, at words. -/
theorem frame_kernel6 : Cert.quiescent_Kernel6 (hKernel6 := Cert.Kernel6.Gen.facts) :=
  fun m g _ => by
    have h := Cert.Kernel6Ideal.Gen.frame (F := Bits) m g
    rw [words_defs6, words_main6] at h
    exact h

/-- The idealized product's frame. -/
theorem frame_kernel6_ideal : Cert.quiescent_Kernel6Ideal (hKernel6Ideal := Cert.Kernel6Ideal.Gen.facts) :=
  fun m g _ => Cert.Kernel6Ideal.Gen.frame (F := Ideal) m g

/-- The reference product's frame. -/
theorem frame_reference6 : Cert.quiescent_Reference6Ideal (hReference6Ideal := Cert.Reference6Ideal.Gen.facts) :=
  fun m g _ => (θ_run Cert.Reference6Ideal.defs _ _).mono
    (fun r h => ⟨fun c => (h c).2, sem_eq_zero_of_no_sems (by decide) r.2⟩)
    (Cert.Reference6Ideal.Value.run (F := Ideal) m g)

/-- The reference's product is the array the launch leaves: the feed-forward's output over the residual stream. -/
theorem product6_agrees (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v3 (F := Ideal) (Cert.Kernel6Ideal.Mat.aA m c) (Cert.Kernel6Ideal.Mat.wA m c) (Cert.Kernel6Ideal.Mat.zA m c) = Cert.Kernel6Ideal.Value.G3 m c := by
  funext i
  obtain ⟨a, b, rfl⟩ : ∃ a b, i = ix2 a b := ⟨_, _, eq_ix2 i⟩
  refine Eq.trans ?_ (Cert.Kernel6Ideal.Mat.result_at m c a b).symm
  refine (Cert.Reference6Ideal.Read.val_main_v3_apply _ _ _ _).trans ?_
  refine (add_comm (G := EReal) _ _).trans (congrArg (· + (Cert.Kernel6Ideal.Mat.zA m c (ix2 a b) : EReal)) ?_)
  refine (Cert.Reference6Ideal.Read.val_main_v2_apply _ _ _).trans (Finset.sum_congr rfl fun k _ => ?_)
  have hl : Cert.Reference6Ideal.Read.lidx_main_v2 (ix2 a b) k = ix2 a k := eq_ix2 _
  have hr : Cert.Reference6Ideal.Read.ridx_main_v2 (ix2 a b) k = ix2 k b := eq_ix2 _
  rw [hl, hr]
  rfl

/-- The product and its reference, on the same arguments, end with the same array. -/
theorem algebraic6 : Cert.algebraic_Kernel6Ideal_Reference6Ideal (hKernel6Ideal := Cert.Kernel6Ideal.Gen.facts)
    (hReference6Ideal := Cert.Reference6Ideal.Gen.facts) := by
  intro m g m' g' _ same
  refine ⟨fun c => Cert.Kernel6Ideal.Value.G3 m c, Cert.Kernel6Ideal.Value.run (F := Ideal) m g, ?_⟩
  refine (θ_run Cert.Reference6Ideal.defs _ _).mono (fun r h c => ?_) (Cert.Reference6Ideal.Value.run (F := Ideal) m' g')
  obtain ⟨e0, ea⟩ := h c
  obtain ⟨a0, a1, a2⟩ := same c
  refine ⟨e0.trans ?_, ea⟩
  rw [Cert.Reference6Ideal.Read.val_main_v3_eq, a0, a1, a2]
  exact product6_agrees m c

end Cert.Proof

end
-- ==== Proof.Gate.lean ====
module

public import Idealize.ShloMosaic.PureOps.Ideal
public import Mathlib.Analysis.SpecialFunctions.Trigonometric.Basic
public import Mathlib.Data.EReal.Operations

@[expose] public section

noncomputable section

namespace Cert.Proof

open Idealize.ShloMosaic

/-- The logistic function of a number by the hyperbolic tangent of its half. -/
theorem half_tanh_real (r : ℝ) : (1 / 2 : ℝ) * Real.tanh (1 / 2 * r) + 1 / 2 = 1 / (1 + Real.exp (-r)) := by
  have e : Real.exp (-r) = Real.exp (-(1 / 2 * r)) * Real.exp (-(1 / 2 * r)) := by rw [← Real.exp_add]; congr 1; ring
  have i : Real.exp (1 / 2 * r) * Real.exp (-(1 / 2 * r)) = 1 := by rw [← Real.exp_add, add_neg_cancel, Real.exp_zero]
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  field_simp
  nlinarith [i]

/-- The same over the extended reals, the infinities included. -/
theorem half_tanh (x : EReal) :
    ((1 / 2 : ℝ) : EReal) * Ideal.tanh (((1 / 2 : ℝ) : EReal) * x) + ((1 / 2 : ℝ) : EReal) = Ideal.div 1 (1 + Ideal.exp (-x)) := by
  induction x with
  | bot =>
    rw [EReal.coe_mul_bot_of_pos (by norm_num)]
    simp only [EReal.neg_bot]
    show ((1 / 2 : ℝ) : EReal) * (-1) + ((1 / 2 : ℝ) : EReal) = Ideal.div 1 (1 + ⊤)
    rw [show (-1 : EReal) = ((-1 : ℝ) : EReal) by simp, ← EReal.coe_mul, ← EReal.coe_add, show (1 : EReal) + ⊤ = ⊤ from EReal.coe_add_top 1]
    norm_num [Ideal.div]
  | top =>
    rw [EReal.coe_mul_top_of_pos (by norm_num)]
    simp only [EReal.neg_top]
    show ((1 / 2 : ℝ) : EReal) * 1 + ((1 / 2 : ℝ) : EReal) = Ideal.div 1 (1 + 0)
    rw [mul_one, add_zero, ← EReal.coe_add]
    norm_num [Ideal.div]
  | coe r =>
    rw [← EReal.coe_mul, ← EReal.coe_neg]
    show ((1 / 2 : ℝ) : EReal) * ((Real.tanh (1 / 2 * r) : ℝ) : EReal) + ((1 / 2 : ℝ) : EReal) = Ideal.div ((1 : ℝ) : EReal) (((1 : ℝ) : EReal) + ((Real.exp (-r) : ℝ) : EReal))
    rw [← EReal.coe_mul, ← EReal.coe_add, ← EReal.coe_add, half_tanh_real]
    have h : (1 + Real.exp (-r)) ≠ 0 := by positivity
    rw [Ideal.div_coe h, ← EReal.coe_mul, one_mul]

end Cert.Proof

end
-- ==== Proof.Mat7.lean ====
module

public import proofs.«01_k».proof.Proof.Gen.Kernel7Ideal.Value
public import proofs.«01_k».proof.Proof.Gate
public import proofs.«01_k».proof.Proof.Gen.Reference7Ideal.Read
public import Idealize.ShloMosaic.Lib.Pipeline.Value
public import Idealize.ShloMosaic.Lib.Tactic
public import Idealize.ShloMosaic.Lib.Pointwise

@[expose] public section

set_option maxRecDepth 16384
set_option maxHeartbeats 1000000

noncomputable section

namespace Cert.Kernel7Ideal.Mat

open Cert.Kernel7Ideal Cert.Kernel7Ideal.Gen Cert.Kernel7Ideal.Value
open Idealize.ShloMosaic Idealize.ShloMosaic.TcCoe Idealize.SL.Sem

/-! ## Gate, up and their gated product: what the blocked products leave -/

/-- The offsets of a whole block. -/
theorem whole_off : (![0, 0] : Fin 2 → Nat) = fun _ => 0 := funext fun a => by fin_cases a <;> rfl

/-- What the body stores for gate, from its blocks. -/
theorem stored_3 {F : FTy → Type} [FloatOps F] (x : Vec F S512x1024 .bf16) (y z : Vec F S1024x1408 .bf16) : out0_3 x y z = k0_pay3 x y := by
  unfold out0_3 r0_0 r0_1 r0_2
  rw [View.canon_unit_zero whole_off]
  simp only [View.ld_unit_zero (S := S512x1024) whole_off, View.ld_unit_zero (S := S1024x1408) whole_off]

/-- What the body stores for up, from its blocks. -/
theorem stored_4 {F : FTy → Type} [FloatOps F] (x : Vec F S512x1024 .bf16) (y z : Vec F S1024x1408 .bf16) : out0_4 x y z = k0_pay4 x z := by
  unfold out0_4 r0_0 r0_1 r0_2
  rw [View.canon_unit_zero whole_off]
  simp only [View.ld_unit_zero (S := S512x1024) whole_off, View.ld_unit_zero (S := S1024x1408) whole_off]

/-- What the body stores for the gated product, from its blocks. -/
theorem stored_5 {F : FTy → Type} [FloatOps F] (x : Vec F S512x1024 .bf16) (y z : Vec F S1024x1408 .bf16) : out0_5 x y z = k0_pay5 x y z := by
  unfold out0_5 r0_0 r0_1 r0_2
  rw [View.canon_unit_zero whole_off]
  simp only [View.ld_unit_zero (S := S512x1024) whole_off, View.ld_unit_zero (S := S1024x1408) whole_off]

/-- The function of gate and up that the call and its reference compute. -/
def gated (g u : EReal) : EReal := g * Ideal.div 1 (1 + Ideal.exp (-g)) * u

/-- The word of one half. -/
theorem half_word : (FloatOps.ofBits (F := Ideal) .f32 0x3F000000#32 : EReal) = ((1 / 2 : ℝ) : EReal) := by
  show Ideal.ieee 8 23 0x3F000000#32 = _
  have e : BitVec.extractLsb' 31 1 1056964608#32 = 0#1 := by decide
  norm_num [Ideal.ieee, Nat.shiftRight_eq_div_pow, e]

/-- The word of one. -/
theorem one_word : (FloatOps.ofBits (F := Ideal) .f32 0x3F800000#32 : EReal) = 1 := by
  show Ideal.ieee 8 23 0x3F800000#32 = _
  have e : BitVec.extractLsb' 31 1 1065353216#32 = 0#1 := by decide
  norm_num [Ideal.ieee, Nat.shiftRight_eq_div_pow, e]

/-- A block's product of gate at an element. -/
theorem pay1_at (x : FVec Ideal S512x1024 FTy.bf16) (y : FVec Ideal S1024x1408 FTy.bf16) (p : Fin 512) (q : Fin 1408) :
    k0_pay1 (F := Ideal) x y (ix2 p q) = ∑ k : Fin 1024, x (ix2 p k) * y (ix2 k q) := by
  pointwise [k0_pay1]

/-- A block's product of up at an element. -/
theorem pay2_at (x : FVec Ideal S512x1024 FTy.bf16) (y : FVec Ideal S1024x1408 FTy.bf16) (p : Fin 512) (q : Fin 1408) :
    k0_pay2 (F := Ideal) x y (ix2 p q) = ∑ k : Fin 1024, x (ix2 p k) * y (ix2 k q) := by
  pointwise [k0_pay2]

/-- The gated product at an element. -/
theorem pay5_at (x : FVec Ideal S512x1024 FTy.bf16) (y z : FVec Ideal S1024x1408 FTy.bf16) (i : S512x1408.Idx) :
    k0_pay5 (F := Ideal) x y z i = gated (k0_pay1 (F := Ideal) x y i) (k0_pay2 (F := Ideal) x z i) := by
  unfold k0_pay5 gated
  generalize k0_pay1 (F := Ideal) x y = g
  generalize k0_pay2 (F := Ideal) x z = u
  rw [← Cert.Proof.half_tanh, ← half_word]
  rfl

/-- The row of blocks of a point. -/
theorem coords_0 (t : Fin grid0.N) : (grid0.coords t 0).val = t.val / 2 := by
  have h := Pipeline.Grid.coords_val (G := grid0) t 0 (S := 2) (B := 32) (by decide) rfl
  have hN : t.val < 64 := lt_of_lt_of_eq t.isLt N_0
  omega

/-- The column of blocks of a point. -/
theorem coords_1 (t : Fin grid0.N) : (grid0.coords t 1).val = t.val % 2 := by
  have h := Pipeline.Grid.coords_val (G := grid0) t 1 (S := 1) (B := 2) (by decide) rfl
  simpa using h

/-- The token a point's block row stands for. -/
def rowOf (t : ℕ) (p : Fin 512) : Fin 16384 := ⟨(t / 2 * 512 + p.val) % 16384, Nat.mod_lt _ (by norm_num)⟩

/-- The column of the results a point's block column stands for. -/
def colOf (t : ℕ) (q : Fin 1408) : Fin 2816 := ⟨(t % 2 * 1408 + q.val) % 2816, Nat.mod_lt _ (by norm_num)⟩

/-- The column of the weights that gives a column of gate. -/
def gCol (b : Fin 2816) : Fin 5632 := ⟨b.val, by have := b.isLt; omega⟩

/-- The column of the weights that gives a column of up. -/
def uCol (b : Fin 2816) : Fin 5632 := ⟨2816 + b.val, by have := b.isLt; omega⟩

/-- Where the input's block lies in its array. -/
theorem emb_0 (t : Fin cfg0.N) (p : Fin 512) (k : Fin 1024) :
    ((cfg0.win 0).blk t).view.emb (ix2 p k : S512x1024.Idx) = (ix2 (rowOf t.val p) k : S16384x1024.Idx) := by
  have hN : t.val < 64 := lt_of_lt_of_eq t.isLt N_0
  have c0 := coords_0 t
  have c1 := coords_1 t
  funext a; apply Fin.ext
  match a with
  | ⟨0, _⟩ => show (BitVec.ofNat 32 (grid0.coords t 0).val).toNat * 512 + 1 * p.val = (t.val / 2 * 512 + p.val) % 16384; rw [c0, BitVec.toNat_ofNat]; omega
  | ⟨1, _⟩ => show 0 * 1024 + 1 * k.val = k.val; omega

/-- Where the gate's weights' block lies in its array. -/
theorem emb_1 (t : Fin cfg0.N) (k : Fin 1024) (q : Fin 1408) :
    ((cfg0.win 1).blk t).view.emb (ix2 k q : S1024x1408.Idx) = (ix2 k (gCol (colOf t.val q)) : S1024x5632.Idx) := by
  have hN : t.val < 64 := lt_of_lt_of_eq t.isLt N_0
  have c0 := coords_0 t
  have c1 := coords_1 t
  funext a; apply Fin.ext
  match a with
  | ⟨0, _⟩ => show 0 * 1024 + 1 * k.val = k.val; omega
  | ⟨1, _⟩ => show (BitVec.ofNat 32 (grid0.coords t 1).val).toNat * 1408 + 1 * q.val = (t.val % 2 * 1408 + q.val) % 2816; rw [c1, BitVec.toNat_ofNat]; omega

/-- Where the up's weights' block lies in its array. -/
theorem emb_2 (t : Fin cfg0.N) (k : Fin 1024) (q : Fin 1408) :
    ((cfg0.win 2).blk t).view.emb (ix2 k q : S1024x1408.Idx) = (ix2 k (uCol (colOf t.val q)) : S1024x5632.Idx) := by
  have hN : t.val < 64 := lt_of_lt_of_eq t.isLt N_0
  have c0 := coords_0 t
  have c1 := coords_1 t
  funext a; apply Fin.ext
  match a with
  | ⟨0, _⟩ => show 0 * 1024 + 1 * k.val = k.val; omega
  | ⟨1, _⟩ => show (BitVec.ofNat 32 (grid0.coords t 1).val + 2#32).toNat * 1408 + 1 * q.val = 2816 + (t.val % 2 * 1408 + q.val) % 2816; rw [c1, BitVec.toNat_add, BitVec.toNat_ofNat, BitVec.toNat_ofNat]; omega

/-- Where the gate's block lies in its array. -/
theorem emb_3 (t : Fin cfg0.N) (p : Fin 512) (q : Fin 1408) :
    ((cfg0.win 3).blk t).view.emb (ix2 p q : S512x1408.Idx) = (ix2 (rowOf t.val p) (colOf t.val q) : S16384x2816.Idx) := by
  have hN : t.val < 64 := lt_of_lt_of_eq t.isLt N_0
  have c0 := coords_0 t
  have c1 := coords_1 t
  funext a; apply Fin.ext
  match a with
  | ⟨0, _⟩ => show (BitVec.ofNat 32 (grid0.coords t 0).val).toNat * 512 + 1 * p.val = (t.val / 2 * 512 + p.val) % 16384; rw [c0, BitVec.toNat_ofNat]; omega
  | ⟨1, _⟩ => show (BitVec.ofNat 32 (grid0.coords t 1).val).toNat * 1408 + 1 * q.val = (t.val % 2 * 1408 + q.val) % 2816; rw [c1, BitVec.toNat_ofNat]; omega

/-- Where the up's block lies in its array. -/
theorem emb_4 (t : Fin cfg0.N) (p : Fin 512) (q : Fin 1408) :
    ((cfg0.win 4).blk t).view.emb (ix2 p q : S512x1408.Idx) = (ix2 (rowOf t.val p) (colOf t.val q) : S16384x2816.Idx) := by
  have hN : t.val < 64 := lt_of_lt_of_eq t.isLt N_0
  have c0 := coords_0 t
  have c1 := coords_1 t
  funext a; apply Fin.ext
  match a with
  | ⟨0, _⟩ => show (BitVec.ofNat 32 (grid0.coords t 0).val).toNat * 512 + 1 * p.val = (t.val / 2 * 512 + p.val) % 16384; rw [c0, BitVec.toNat_ofNat]; omega
  | ⟨1, _⟩ => show (BitVec.ofNat 32 (grid0.coords t 1).val).toNat * 1408 + 1 * q.val = (t.val % 2 * 1408 + q.val) % 2816; rw [c1, BitVec.toNat_ofNat]; omega

/-- Where the gated product's block lies in its array. -/
theorem emb_5 (t : Fin cfg0.N) (p : Fin 512) (q : Fin 1408) :
    ((cfg0.win 5).blk t).view.emb (ix2 p q : S512x1408.Idx) = (ix2 (rowOf t.val p) (colOf t.val q) : S16384x2816.Idx) := by
  have hN : t.val < 64 := lt_of_lt_of_eq t.isLt N_0
  have c0 := coords_0 t
  have c1 := coords_1 t
  funext a; apply Fin.ext
  match a with
  | ⟨0, _⟩ => show (BitVec.ofNat 32 (grid0.coords t 0).val).toNat * 512 + 1 * p.val = (t.val / 2 * 512 + p.val) % 16384; rw [c0, BitVec.toNat_ofNat]; omega
  | ⟨1, _⟩ => show (BitVec.ofNat 32 (grid0.coords t 1).val).toNat * 1408 + 1 * q.val = (t.val % 2 * 1408 + q.val) % 2816; rw [c1, BitVec.toNat_ofNat]; omega

section
variable (c : Dev nD) (t : Fin cfg0.N)

/-- The input's block, read from any contents of the buffers. -/
theorem blk_0 (W : (b : Ref sig .tc) → Buf (Elt Ideal) ((c : Thread nD τ).loc b)) (p : Fin 512) (k : Fin 1024) :
    ((cfg0.win 0).blk t).view.read (Elt Ideal) (W (Pipeline.arrRef spec0 0)) (ix2 p k : S512x1024.Idx) = W main_arg0 (ix2 (rowOf t.val p) k : S16384x1024.Idx) := by
  show W main_arg0 (((cfg0.win 0).blk t).view.emb (ix2 p k : S512x1024.Idx)) = _
  rw [emb_0]

/-- The gate's weights' block, read from any contents of the buffers. -/
theorem blk_1 (W : (b : Ref sig .tc) → Buf (Elt Ideal) ((c : Thread nD τ).loc b)) (k : Fin 1024) (q : Fin 1408) :
    ((cfg0.win 1).blk t).view.read (Elt Ideal) (W (Pipeline.arrRef spec0 1)) (ix2 k q : S1024x1408.Idx) = W main_arg1 (ix2 k (gCol (colOf t.val q)) : S1024x5632.Idx) := by
  show W main_arg1 (((cfg0.win 1).blk t).view.emb (ix2 k q : S1024x1408.Idx)) = _
  rw [emb_1]

/-- The up's weights' block, read from any contents of the buffers. -/
theorem blk_2 (W : (b : Ref sig .tc) → Buf (Elt Ideal) ((c : Thread nD τ).loc b)) (k : Fin 1024) (q : Fin 1408) :
    ((cfg0.win 2).blk t).view.read (Elt Ideal) (W (Pipeline.arrRef spec0 2)) (ix2 k q : S1024x1408.Idx) = W main_arg1 (ix2 k (uCol (colOf t.val q)) : S1024x5632.Idx) := by
  show W main_arg1 (((cfg0.win 2).blk t).view.emb (ix2 k q : S1024x1408.Idx)) = _
  rw [emb_2]

/-- The gate's block, read from any contents of its array. -/
theorem blk_3 (Z : Vec Ideal S16384x2816 .bf16) (p : Fin 512) (q : Fin 1408) :
    ((cfg0.win 3).blk t).view.read (Elt Ideal) Z (ix2 p q : S512x1408.Idx) = Z (ix2 (rowOf t.val p) (colOf t.val q) : S16384x2816.Idx) := by
  show Z (((cfg0.win 3).blk t).view.emb (ix2 p q : S512x1408.Idx)) = _
  rw [emb_3]

/-- The up's block, read from any contents of its array. -/
theorem blk_4 (Z : Vec Ideal S16384x2816 .bf16) (p : Fin 512) (q : Fin 1408) :
    ((cfg0.win 4).blk t).view.read (Elt Ideal) Z (ix2 p q : S512x1408.Idx) = Z (ix2 (rowOf t.val p) (colOf t.val q) : S16384x2816.Idx) := by
  show Z (((cfg0.win 4).blk t).view.emb (ix2 p q : S512x1408.Idx)) = _
  rw [emb_4]

/-- The gated product's block, read from any contents of its array. -/
theorem blk_5 (Z : Vec Ideal S16384x2816 .bf16) (p : Fin 512) (q : Fin 1408) :
    ((cfg0.win 5).blk t).view.read (Elt Ideal) Z (ix2 p q : S512x1408.Idx) = Z (ix2 (rowOf t.val p) (colOf t.val q) : S16384x2816.Idx) := by
  show Z (((cfg0.win 5).blk t).view.emb (ix2 p q : S512x1408.Idx)) = _
  rw [emb_5]

end

section
variable (m : (ℓ : Loc nD τ sig) → Buf (Elt Ideal) ℓ) (c : Dev nD)

/-- The input as the launch finds it. -/
abbrev hA : Vec Ideal S16384x1024 .bf16 := V m c main_arg0

/-- The weights as the launch finds them. -/
abbrev wA : Vec Ideal S1024x5632 .bf16 := V m c main_arg1

/-- An element of the whole product. -/
def prod (a : Fin 16384) (b : Fin 5632) : EReal := ∑ k : Fin 1024, hA m c (ix2 a k) * wA m c (ix2 k b)

/-- A point's product of gate. -/
theorem gate_at (t : Fin cfg0.N) (p : Fin 512) (q : Fin 1408) :
    k0_pay1 (F := Ideal) (iblk m c 0 t) (iblk m c 1 t) (ix2 p q) = prod m c (rowOf t.val p) (gCol (colOf t.val q)) := by
  refine (pay1_at (iblk m c 0 t) (iblk m c 1 t) p q).trans ?_
  unfold prod
  exact Finset.sum_congr rfl fun k _ => congrArg₂ (· * ·) (blk_0 c t (V m c) p k) (blk_1 c t (V m c) k q)

/-- A point's product of up. -/
theorem up_at (t : Fin cfg0.N) (p : Fin 512) (q : Fin 1408) :
    k0_pay2 (F := Ideal) (iblk m c 0 t) (iblk m c 2 t) (ix2 p q) = prod m c (rowOf t.val p) (uCol (colOf t.val q)) := by
  refine (pay2_at (iblk m c 0 t) (iblk m c 2 t) p q).trans ?_
  unfold prod
  exact Finset.sum_congr rfl fun k _ => congrArg₂ (· * ·) (blk_0 c t (V m c) p k) (blk_2 c t (V m c) k q)

/-- What a point writes back to gate, at an element. -/
theorem wrote_3 (t : Fin cfg0.N) (p : Fin 512) (q : Fin 1408) :
    ((dats m 0 c).flushed 3 t (ix2 p q : S512x1408.Idx) : EReal) = prod m c (rowOf t.val p) (gCol (colOf t.val q)) := by
  rw [flushed3, stored_3]
  exact gate_at m c t p q

/-- What a point writes back to up, at an element. -/
theorem wrote_4 (t : Fin cfg0.N) (p : Fin 512) (q : Fin 1408) :
    ((dats m 0 c).flushed 4 t (ix2 p q : S512x1408.Idx) : EReal) = prod m c (rowOf t.val p) (uCol (colOf t.val q)) := by
  rw [flushed4, stored_4]
  exact up_at m c t p q

/-- What a point writes back to the gated product, at an element. -/
theorem wrote_5 (t : Fin cfg0.N) (p : Fin 512) (q : Fin 1408) :
    ((dats m 0 c).flushed 5 t (ix2 p q : S512x1408.Idx) : EReal) = gated (prod m c (rowOf t.val p) (gCol (colOf t.val q))) (prod m c (rowOf t.val p) (uCol (colOf t.val q))) := by
  rw [flushed5, stored_5]
  refine (pay5_at (iblk m c 0 t) (iblk m c 1 t) (iblk m c 2 t) (ix2 p q)).trans ?_
  exact congrArg₂ gated (gate_at m c t p q) (up_at m c t p q)

/-- The point whose block holds an element of a result. -/
def ptOf (a : Fin 16384) (b : Fin 2816) : Fin cfg0.N := ⟨a.val / 512 * 2 + b.val / 1408, lt_of_lt_of_eq (by have := a.isLt; have := b.isLt; omega) N_0.symm⟩

/-- The element's row from its block. -/
theorem row_back (a : Fin 16384) (b : Fin 2816) : rowOf (ptOf a b).val ⟨a.val % 512, Nat.mod_lt _ (by norm_num)⟩ = a := by
  apply Fin.ext
  show ((a.val / 512 * 2 + b.val / 1408) / 2 * 512 + a.val % 512) % 16384 = a.val
  have := a.isLt; have := b.isLt; omega

/-- The element's column from its block. -/
theorem col_back (a : Fin 16384) (b : Fin 2816) : colOf (ptOf a b).val ⟨b.val % 1408, Nat.mod_lt _ (by norm_num)⟩ = b := by
  apply Fin.ext
  show ((a.val / 512 * 2 + b.val / 1408) % 2 * 1408 + b.val % 1408) % 2816 = b.val
  have := a.isLt; have := b.isLt; omega

/-- Gate at an element of the whole array. -/
theorem result_3 (a : Fin 16384) (b : Fin 2816) :
    ((dats m 0 c).arrAt 3 cfg0.N (ix2 a b : S16384x2816.Idx) : EReal) = prod m c a (gCol b) := by
  have e := blk_3 (ptOf a b) ((dats m 0 c).arrAt 3 cfg0.N) ⟨a.val % 512, Nat.mod_lt _ (by norm_num)⟩ ⟨b.val % 1408, Nat.mod_lt _ (by norm_num)⟩
  have w := wrote_3 m c (ptOf a b) ⟨a.val % 512, Nat.mod_lt _ (by norm_num)⟩ ⟨b.val % 1408, Nat.mod_lt _ (by norm_num)⟩
  rw [blocks3 m c (ptOf a b) (flush0_3 _)] at e
  rw [row_back, col_back] at e w
  exact e.symm.trans w

/-- Up at an element of the whole array. -/
theorem result_4 (a : Fin 16384) (b : Fin 2816) :
    ((dats m 0 c).arrAt 4 cfg0.N (ix2 a b : S16384x2816.Idx) : EReal) = prod m c a (uCol b) := by
  have e := blk_4 (ptOf a b) ((dats m 0 c).arrAt 4 cfg0.N) ⟨a.val % 512, Nat.mod_lt _ (by norm_num)⟩ ⟨b.val % 1408, Nat.mod_lt _ (by norm_num)⟩
  have w := wrote_4 m c (ptOf a b) ⟨a.val % 512, Nat.mod_lt _ (by norm_num)⟩ ⟨b.val % 1408, Nat.mod_lt _ (by norm_num)⟩
  rw [blocks4 m c (ptOf a b) (flush0_4 _)] at e
  rw [row_back, col_back] at e w
  exact e.symm.trans w

/-- The gated product at an element of the whole array. -/
theorem result_5 (a : Fin 16384) (b : Fin 2816) :
    ((dats m 0 c).arrAt 5 cfg0.N (ix2 a b : S16384x2816.Idx) : EReal) = gated (prod m c a (gCol b)) (prod m c a (uCol b)) := by
  have e := blk_5 (ptOf a b) ((dats m 0 c).arrAt 5 cfg0.N) ⟨a.val % 512, Nat.mod_lt _ (by norm_num)⟩ ⟨b.val % 1408, Nat.mod_lt _ (by norm_num)⟩
  have w := wrote_5 m c (ptOf a b) ⟨a.val % 512, Nat.mod_lt _ (by norm_num)⟩ ⟨b.val % 1408, Nat.mod_lt _ (by norm_num)⟩
  rw [blocks5 m c (ptOf a b) (flush0_5 _)] at e
  rw [row_back, col_back] at e w
  exact e.symm.trans w

end

end Cert.Kernel7Ideal.Mat

end
-- ==== Proof.Claim7.lean ====
module

public import proofs.«01_k».proof.Defs
public import proofs.«01_k».proof.Proof.Mat7
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read

@[expose] public section

set_option maxRecDepth 16384

noncomputable section

namespace Cert.Proof

open Idealize.ShloMosaic Idealize.SL.Sem

/-- At words the idealized body is the printed one: no operation was replaced. -/
theorem words_kernel7 : Cert.Kernel7Ideal.cc0_f_gate_up (F := Bits) = Cert.Kernel7.cc0_f_gate_up (F := Bits) := rfl

/-- So are the bodies the launch calls. -/
theorem words_bodies7 : Cert.Kernel7Ideal.defs₀ (F := Bits) = Cert.Kernel7.defs₀ (F := Bits) := by
  unfold Cert.Kernel7Ideal.defs₀ Cert.Kernel7.defs₀
  refine congrArg Defs.onTc (funext fun l => funext fun x => ?_)
  match l, x with
  | 0, (t, s) => exact congrFun (congrFun (congrFun (congrFun (congrFun (congrFun (congrFun (congrFun (congrFun (congrFun (congrFun (congrFun (congrFun words_kernel7 _) _) _) _) _) _) _) _) _) _) _) _) _
  | ⟨_ + 1, h⟩, _ => exact absurd h (Nat.not_lt.2 (Nat.le_add_left _ _))

/-- So are the launch's definitions. -/
theorem words_defs7 : Cert.Kernel7Ideal.defs (F := Bits) = Cert.Kernel7.defs (F := Bits) := by
  unfold Cert.Kernel7Ideal.defs Cert.Kernel7.defs
  exact congrArg (Idealize.ShloMosaic.Pipeline.defs (Cert.Kernel7Ideal.pcfgs (F := Bits))) words_bodies7

/-- So is the host program. -/
theorem words_main7 : Cert.Kernel7Ideal.main (F := Bits) = Cert.Kernel7.main (F := Bits) := by
  unfold Cert.Kernel7Ideal.main Cert.Kernel7.main
  rfl

/-- The printed product's frame, at words. -/
theorem frame_kernel7 : Cert.quiescent_Kernel7 (hKernel7 := Cert.Kernel7.Gen.facts) :=
  fun m g _ => by
    have h := Cert.Kernel7Ideal.Gen.frame (F := Bits) m g
    rw [words_defs7, words_main7] at h
    exact h

/-- The idealized product's frame. -/
theorem frame_kernel7_ideal : Cert.quiescent_Kernel7Ideal (hKernel7Ideal := Cert.Kernel7Ideal.Gen.facts) :=
  fun m g _ => Cert.Kernel7Ideal.Gen.frame (F := Ideal) m g

/-- The reference product's frame. -/
theorem frame_reference7 : Cert.quiescent_Reference7Ideal (hReference7Ideal := Cert.Reference7Ideal.Gen.facts) :=
  fun m g _ => (θ_run Cert.Reference7Ideal.defs _ _).mono
    (fun r h => ⟨fun c => (h c).2.2.2, sem_eq_zero_of_no_sems (by decide) r.2⟩)
    (Cert.Reference7Ideal.Value.run (F := Ideal) m g)

/-- The reference's gate is the launch's first array. -/
theorem gate7_agrees (m : (ℓ : Loc Cert.Kernel7Ideal.nD Cert.Kernel7Ideal.τ Cert.Kernel7Ideal.sig) → Buf (Elt Ideal) ℓ) (c : Dev Cert.Kernel7Ideal.nD) (a : Fin 16384) (b : Fin 2816) :
    Cert.Reference7Ideal.Read.val_main_v3 (F := Ideal) (Cert.Kernel7Ideal.Mat.hA m c) (Cert.Kernel7Ideal.Mat.wA m c) (ix2 a b) = Cert.Kernel7Ideal.Mat.prod m c a (Cert.Kernel7Ideal.Mat.gCol b) := by
  refine (Cert.Reference7Ideal.Read.val_main_v3_apply _ _ _).trans ?_
  refine (Cert.Reference7Ideal.Read.val_main_v2_apply _ _ _).trans ?_
  unfold Cert.Kernel7Ideal.Mat.prod
  refine Finset.sum_congr rfl fun k _ => ?_
  have hl : Cert.Reference7Ideal.Read.lidx_main_v2 (Cert.Reference7Ideal.Read.idx_main_v3 (ix2 a b)) k = ix2 a k := by
    funext x; apply Fin.ext
    match x with
    | ⟨0, _⟩ => first | rfl | exact Nat.zero_add _ | exact Nat.add_zero _
    | ⟨1, _⟩ => rfl
  have hr : Cert.Reference7Ideal.Read.ridx_main_v2 (Cert.Reference7Ideal.Read.idx_main_v3 (ix2 a b)) k = ix2 k (Cert.Kernel7Ideal.Mat.gCol b) := by
    funext x; apply Fin.ext
    match x with
    | ⟨0, _⟩ => rfl
    | ⟨1, _⟩ => first | rfl | exact Nat.zero_add _ | exact Nat.add_zero _
  rw [hl, hr]
  rfl

/-- The reference's up is the launch's second array. -/
theorem up7_agrees (m : (ℓ : Loc Cert.Kernel7Ideal.nD Cert.Kernel7Ideal.τ Cert.Kernel7Ideal.sig) → Buf (Elt Ideal) ℓ) (c : Dev Cert.Kernel7Ideal.nD) (a : Fin 16384) (b : Fin 2816) :
    Cert.Reference7Ideal.Read.val_main_v4 (F := Ideal) (Cert.Kernel7Ideal.Mat.hA m c) (Cert.Kernel7Ideal.Mat.wA m c) (ix2 a b) = Cert.Kernel7Ideal.Mat.prod m c a (Cert.Kernel7Ideal.Mat.uCol b) := by
  refine (Cert.Reference7Ideal.Read.val_main_v4_apply _ _ _).trans ?_
  refine (Cert.Reference7Ideal.Read.val_main_v2_apply _ _ _).trans ?_
  unfold Cert.Kernel7Ideal.Mat.prod
  refine Finset.sum_congr rfl fun k _ => ?_
  have hl : Cert.Reference7Ideal.Read.lidx_main_v2 (Cert.Reference7Ideal.Read.idx_main_v4 (ix2 a b)) k = ix2 a k := by
    funext x; apply Fin.ext
    match x with
    | ⟨0, _⟩ => first | rfl | exact Nat.zero_add _ | exact Nat.add_zero _
    | ⟨1, _⟩ => rfl
  have hr : Cert.Reference7Ideal.Read.ridx_main_v2 (Cert.Reference7Ideal.Read.idx_main_v4 (ix2 a b)) k = ix2 k (Cert.Kernel7Ideal.Mat.uCol b) := by
    funext x; apply Fin.ext
    match x with
    | ⟨0, _⟩ => rfl
    | ⟨1, _⟩ => first | rfl | exact Nat.add_comm _ _
  rw [hl, hr]
  rfl

/-- The reference's gated product at an element, from its gate and up. -/
theorem act7_at (x0 : Vec Ideal Cert.Kernel7Ideal.S16384x1024 .bf16) (x1 : Vec Ideal Cert.Kernel7Ideal.S1024x5632 .bf16) (i : Cert.Kernel7Ideal.S16384x2816.Idx) :
    (Cert.Reference7Ideal.Read.val_main_v9 (F := Ideal) x0 x1 i : EReal) = Cert.Kernel7Ideal.Mat.gated (Cert.Reference7Ideal.Read.val_main_v3 (F := Ideal) x0 x1 i) (Cert.Reference7Ideal.Read.val_main_v4 (F := Ideal) x0 x1 i) := by
  refine (Cert.Reference7Ideal.Read.val_main_v9_apply _ _ _).trans ?_
  rw [Cert.Reference7Ideal.Read.val_main_v8_apply, Cert.Reference7Ideal.Read.val_main_v7_apply, Cert.Reference7Ideal.Read.val_main_call0_v5_apply,
    Cert.Reference7Ideal.Read.val_main_call0_v3_apply, Cert.Reference7Ideal.Read.val_main_call0_v2_apply, Cert.Reference7Ideal.Read.val_main_call0_v4_apply,
    Cert.Reference7Ideal.Read.val_main_call0_cst_apply, Cert.Reference7Ideal.Read.val_main_call0_cst_0_apply,
    Cert.Reference7Ideal.Read.val_main_call0_v1_apply, Cert.Reference7Ideal.Read.val_main_call0_v0_apply, Cert.Kernel7Ideal.Mat.one_word]
  generalize Cert.Reference7Ideal.Read.val_main_v3 (F := Ideal) x0 x1 i = g
  generalize Cert.Reference7Ideal.Read.val_main_v4 (F := Ideal) x0 x1 i = u
  rfl

/-- The call and its reference, on the same arguments, end with the same gate, up and gated product. -/
theorem algebraic7 : Cert.algebraic_Kernel7Ideal_Reference7Ideal (hKernel7Ideal := Cert.Kernel7Ideal.Gen.facts)
    (hReference7Ideal := Cert.Reference7Ideal.Gen.facts) := by
  intro m g m' g' _ same
  refine ⟨fun c => (Cert.Kernel7Ideal.Gen.dats m 0 c).arrAt 3 Cert.Kernel7Ideal.cfg0.N, fun c => (Cert.Kernel7Ideal.Gen.dats m 0 c).arrAt 4 Cert.Kernel7Ideal.cfg0.N,
    fun c => (Cert.Kernel7Ideal.Gen.dats m 0 c).arrAt 5 Cert.Kernel7Ideal.cfg0.N, Cert.Kernel7Ideal.Value.run_blocks (F := Ideal) m g, ?_⟩
  refine (θ_run Cert.Reference7Ideal.defs _ _).mono (fun r h c => ?_) (Cert.Reference7Ideal.Value.run (F := Ideal) m' g')
  obtain ⟨e0, e1, e2, ea⟩ := h c
  obtain ⟨a0, a1⟩ := same c
  refine ⟨e0.trans ?_, e1.trans ?_, e2.trans ?_, ea⟩
  · rw [Cert.Reference7Ideal.Read.val_main_v5_eq, a0, a1]
    funext i
    obtain ⟨a, b, rfl⟩ : ∃ a b, i = ix2 a b := ⟨_, _, eq_ix2 i⟩
    refine (Cert.Reference7Ideal.Read.val_main_v5_apply _ _ _).trans ?_
    exact (gate7_agrees m c a b).trans (Cert.Kernel7Ideal.Mat.result_3 m c a b).symm
  · rw [Cert.Reference7Ideal.Read.val_main_v6_eq, a0, a1]
    funext i
    obtain ⟨a, b, rfl⟩ : ∃ a b, i = ix2 a b := ⟨_, _, eq_ix2 i⟩
    refine (Cert.Reference7Ideal.Read.val_main_v6_apply _ _ _).trans ?_
    exact (up7_agrees m c a b).trans (Cert.Kernel7Ideal.Mat.result_4 m c a b).symm
  · rw [Cert.Reference7Ideal.Read.val_main_v9_eq, a0, a1]
    funext i
    obtain ⟨a, b, rfl⟩ : ∃ a b, i = ix2 a b := ⟨_, _, eq_ix2 i⟩
    refine (act7_at _ _ _).trans (Eq.trans ?_ (Cert.Kernel7Ideal.Mat.result_5 m c a b).symm)
    exact congrArg₂ Cert.Kernel7Ideal.Mat.gated (gate7_agrees m c a b) (up7_agrees m c a b)

end Cert.Proof

end
-- ==== Proof.lean ====
/- The proof of the certificate's claims: each is proved in a module under Proof/, and put together here. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Frames
public import proofs.«01_k».proof.Proof.Value
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import Idealize.ShloMosaic.Adequacy
public import Idealize.ShloMosaic.Init

@[expose] public section

noncomputable section

namespace Cert.Proof

open Idealize.ShloMosaic Idealize.SL.Sem Cert.Kernel

/-- The certificate's claims, each from its module. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  finite_facts,
  frame_kernel, frame_kernel_ideal, fun m g _ => frame_kernel_ideal m g trivial,
  frame_reference, fun m g _ => frame_reference m g trivial,
  frame_kernel2, frame_kernel2_ideal, frame_reference2, frame_kernel3, frame_kernel3_ideal, frame_reference3,
  frame_kernel4, frame_kernel4_ideal, frame_reference4,
  frame_kernel5, frame_kernel5_ideal, frame_reference5,
  frame_kernel6, frame_kernel6_ideal, frame_reference6,
  frame_kernel7, frame_kernel7_ideal, frame_reference7,
  preserves, algebraic, trivial, algebraic2, trivial, algebraic3,
  trivial, algebraic4, trivial, algebraic5, trivial, algebraic6, trivial, algebraic7⟩

end Cert.Proof

end
